-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_below5 [hPre_below5 : Cert.Pre_below5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_below5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_below5 [hPre_below5 : Cert.Pre_below5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_below5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_below5 [hKernel5Ideal : Cert.Kernel5Ideal.Facts] [hPre_below5 : Cert.Pre_below5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_below5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_below5 [hReference5Ideal : Cert.Reference5Ideal.Facts] [hPre_below5 : Cert.Pre_below5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_below5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v224) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_below5 [hKernel5Ideal : Cert.Kernel5Ideal.Facts] [hReference5Ideal : Cert.Reference5Ideal.Facts] [hPre_below5 : Cert.Pre_below5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_below5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite4 : Cert.Pre_finite4.Facts) (hPre_below5 : Cert.Pre_below5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_below5 (hKernel5Ideal := hKernel5Ideal) (hPre_below5 := hPre_below5)
    ∧ quiescent_Reference5Ideal (hReference5Ideal := hReference5Ideal)
    ∧ quiescent_Reference5Ideal_pre_below5 (hReference5Ideal := hReference5Ideal) (hPre_below5 := hPre_below5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_below5 (hKernel5Ideal := hKernel5Ideal) (hReference5Ideal := hReference5Ideal) (hPre_below5 := hPre_below5)
-- ==== Pre_below5.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S8x1024 .f32) (main_arg1 : FVec F S2x1024x6144 .f32) (main_arg2 : FVec F S2x6144 .f32) : IVec S_ 1 :=
  let main_cst : FVec F S_ .f32 := constant S_ .f32 0x7F800000#32
  let main_v0 : FVec F S8x1024 .f32 := broadcastInDim S8x1024 ![] bcast_S_S8x1024 main_cst
  let main_v1 : IVec S8x1024 1 := cmpf .olt main_arg0 main_v0
  let main_c : IVec S_ 1 := constantI S_ 1 1#1
  let main_v2 : IVec S_ 1 := (fun x v => Host.reduce IntOp.andi x v reducesTo_S8x1024_S_d0_1 h_S_) main_v1 main_c
  let main_cst_0 : FVec F S_ .f32 := constant S_ .f32 0x7F800000#32
  let main_v3 : FVec F S2x1024x6144 .f32 := broadcastInDim S2x1024x6144 ![] bcast_S_S2x1024x6144 main_cst_0
  let main_v4 : IVec S2x1024x6144 1 := cmpf .olt main_arg1 main_v3
  let main_c_1 : IVec S_ 1 := constantI S_ 1 1#1
  let main_v5 : IVec S_ 1 := (fun x v => Host.reduce IntOp.andi x v reducesTo_S2x1024x6144_S_d0_1_2 h_S_) main_v4 main_c_1
  let main_v6 : IVec S_ 1 := andi main_v2 main_v5
  main_v6
-- ==== Pre_finite4.lean ====
abbrev S4x4096x512 : Shape := ⟨3, ![4, 4096, 512]⟩
abbrev S4x256x512 : Shape := ⟨3, ![4, 256, 512]⟩
abbrev S1x64 : Shape := ⟨2, ![1, 64]⟩
abbrev S1x128 : Shape := ⟨2, ![1, 128]⟩
abbrev S64 : Shape := ⟨1, ![64]⟩
abbrev S_ : Shape := ⟨0, ![]⟩

class Facts : Prop where
  shapeCasts_S1x64_S64 : S1x64.ShapeCasts S64
  reducesTo_S64_S_d0 : S64.ReducesTo [0] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S4x4096x512 : S_.BroadcastsInDim S4x4096x512 (![] : Fin 0 → Fin S4x4096x512.rank)
  reducesTo_S4x4096x512_S_d0_1_2 : S4x4096x512.ReducesTo [0, 1, 2] S_

variable [Facts]

def fn_part1 {F : FTy → Type} [FloatOps F] (main_v11 : FVec F S_ .f32) (main_v15 : IVec S_ 1) (main_v16 : FVec F S4x4096x512 .f32) (main_v17 : FVec F S4x4096x512 .f32) : IVec S_ 1 :=
  let main_v18 : IVec S4x4096x512 1 := cmpf .olt main_v16 main_v17
  let main_c_4 : IVec S_ 1 := constantI S_ 1 1#1
  let main_v19 : IVec S_ 1 := (fun x v => Host.reduce IntOp.andi x v reducesTo_S4x4096x512_S_d0_1_2 h_S_) main_v18 main_c_4
  let main_v20 : IVec S_ 1 := andi main_v15 main_v19
  let main_v21 : FVec F S_ .f32 := Host.absf main_v11
  let main_cst_5 : FVec F S_ .f32 := constant S_ .f32 0x7F800000#32
  let main_v22 : IVec S_ 1 := cmpf .olt main_v21 main_cst_5
  let main_v23 : IVec S_ 1 := andi main_v20 main_v22
  main_v23

def fn {F : FTy → Type} [FloatOps F] (main_arg0 : FVec F S4x4096x512 .f32) (main_arg1 : FVec F S4x256x512 .f32) (main_arg2 : FVec F S4x256x512 .f32) (main_arg3 : FVec F S4x4096x512 .f32) (main_arg4 : FVec F S4x4096x512 .f32) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S64 .f32 := shapeCast S64 main_arg5 shapeCasts_S1x64_S64
  let main_v1 : FVec F S64 .f32 := shapeCast S64 main_arg6 shapeCasts_S1x64_S64
  let main_v2 : FVec F S64 .f32 := mulf main_v0 main_v1
  let main_cst : FVec F S_ .f32 := constant S_ .f32 0x00000000#32
  let main_v3 : FVec F S_ .f32 := (fun x v => Host.reduceAdd x v reducesTo_S64_S_d0 h_S_) main_v2 main_cst
  let main_v4 : FVec F S_ .f32 := Host.exp main_v3
  let main_v5 : FVec F S64 .f32 := shapeCast S64 main_arg7 shapeCasts_S1x64_S64
  let main_v6 : FVec F S64 .f32 := shapeCast S64 main_arg8 shapeCasts_S1x64_S64
  let main_v7 : FVec F S64 .f32 := mulf main_v5 main_v6
  let main_cst_0 : FVec F S_ .f32 := constant S_ .f32 0x00000000#32
  let main_v8 : FVec F S_ .f32 := (fun x v => Host.reduceAdd x v reducesTo_S64_S_d0 h_S_) main_v7 main_cst_0
  let main_v9 : FVec F S_ .f32 := Host.exp main_v8
  let main_v10 : FVec F S_ .f32 := subf main_v4 main_v9
  let main_cst_1 : FVec F S_ .f32 := constant S_ .f32 0x3E4CCCCD#32
  let main_v11 : FVec F S_ .f32 := addf main_v10 main_cst_1
  let main_v12 : FVec F S4x256x512 .f32 := Host.absf main_arg2
  let main_cst_2 : FVec F S_ .f32 := constant S_ .f32 0x7F800000#32
  let main_v13 : FVec F S4x256x512 .f32 := broadcastInDim S4x256x512 ![] bcast_S_S4x256x512 main_cst_2
  let main_v14 : IVec S4x256x512 1 := cmpf .olt main_v12 main_v13
  let main_c : IVec S_ 1 := constantI S_ 1 1#1
  let main_v15 : IVec S_ 1 := (fun x v => Host.reduce IntOp.andi x v reducesTo_S4x256x512_S_d0_1_2 h_S_) main_v14 main_c
  let main_v16 : FVec F S4x4096x512 .f32 := Host.absf main_arg4
  let main_cst_3 : FVec F S_ .f32 := constant S_ .f32 0x7F800000#32
  let main_v17 : FVec F S4x4096x512 .f32 := broadcastInDim S4x4096x512 ![] bcast_S_S4x4096x512 main_cst_3
  fn_part1 (F := F) main_v11 main_v15 main_v16 main_v17
-- ==== Kernel.lean ====
abbrev S4x256x1024 : Shape := ⟨3, ![4, 256, 1024]⟩
abbrev S2x8x6144 : Shape := ⟨3, ![2, 8, 6144]⟩
abbrev S2x1024 : Shape := ⟨2, ![2, 1024]⟩
abbrev S1x1024x3072 : Shape := ⟨3, ![1, 1024, 3072]⟩
abbrev S1x3072 : Shape := ⟨2, ![1, 3072]⟩
abbrev S1x1024 : Shape := ⟨2, ![1, 1024]⟩
abbrev S1024 : Shape := ⟨1, ![1024]⟩
abbrev S4x256x512 : Shape := ⟨3, ![4, 256, 512]⟩
abbrev S1x256x1024 : Shape := ⟨3, ![1, 256, 1024]⟩
abbrev S1x8x6144 : Shape := ⟨3, ![1, 8, 6144]⟩
abbrev S1x256x512 : Shape := ⟨3, ![1, 256, 512]⟩
abbrev S1024x1024 : Shape := ⟨2, ![1024, 1024]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1x1x6144 : Shape := ⟨3, ![1, 1, 6144]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S2x8x6144, .f32⟩
  | .hbm, ⟨2, _⟩ => ⟨S2x1024, .f32⟩
  | .hbm, ⟨3, _⟩ => ⟨S1x1024x3072, .f32⟩
  | .hbm, ⟨4, _⟩ => ⟨S1x3072, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4x256x512, .bf16⟩
  | .hbm, ⟨9, _⟩ => ⟨S4x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x6144, .f32⟩
  | .local _ .vmem, ⟨3, _⟩ => ⟨S1x1024, .f32⟩
  | .local _ .vmem, ⟨4, _⟩ => ⟨S1x3072, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1024x1024, .bf16⟩
  | .local _ .vmem, ⟨10, _⟩ => ⟨S2x512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scoped0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x256x1024 : Shape := ⟨3, ![4, 256, 1024]⟩
abbrev S2x8x6144 : Shape := ⟨3, ![2, 8, 6144]⟩
abbrev S2x1024 : Shape := ⟨2, ![2, 1024]⟩
abbrev S1x1024x3072 : Shape := ⟨3, ![1, 1024, 3072]⟩
abbrev S1x3072 : Shape := ⟨2, ![1, 3072]⟩
abbrev S1x1x6144 : Shape := ⟨3, ![1, 1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x3072 : Shape := ⟨2, ![1024, 3072]⟩
abbrev S1024x1024 : Shape := ⟨2, ![1024, 1024]⟩
abbrev S3072 : Shape := ⟨1, ![3072]⟩
abbrev S4x256x512 : Shape := ⟨3, ![4, 256, 512]⟩

abbrev nBuf : Space → Nat
  | .hbm => 52
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x8x6144, .f32⟩
  | .hbm, ⟨2, _⟩ => ⟨S2x1024, .f32⟩
  | .hbm, ⟨3, _⟩ => ⟨S1x1024x3072, .f32⟩
  | .hbm, ⟨4, _⟩ => ⟨S1x3072, .f32⟩
  | .hbm, ⟨5, _⟩ => ⟨S1x1x6144, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4x256x1024, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S_, .f32⟩
  | .hbm, ⟨23, _⟩ => ⟨S4x256x1, .f32⟩
  | .hbm, ⟨24, _⟩ => ⟨S4x256x1, .f32⟩
  | .hbm, ⟨25, _⟩ => ⟨S4x256x1, .f32⟩
  | .hbm, ⟨26, _⟩ => ⟨S4x256x1024, .f32⟩
  | .hbm, ⟨27, _⟩ => ⟨S4x256x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1x1024, .f32⟩
  | .hbm, ⟨35, _⟩ => ⟨S4x256x1024, .f32⟩
  | .hbm, ⟨36, _⟩ => ⟨S4x256x1024, .f32⟩
  | .hbm, ⟨37, _⟩ => ⟨S1x1x1024, .f32⟩
  | .hbm, ⟨38, _⟩ => ⟨S4x256x1024, .f32⟩
  | .hbm, ⟨39, _⟩ => ⟨S4x256x1024, .f32⟩
  | .hbm, ⟨40, _⟩ => ⟨S1024x3072, .f32⟩
  | .hbm, ⟨41, _⟩ => ⟨S1024x1024, .f32⟩
  | .hbm, ⟨42, _⟩ => ⟨S4x256x1024, .f32⟩
  | .hbm, ⟨43, _⟩ => ⟨S3072, .f32⟩
  | .hbm, ⟨44, _⟩ => ⟨S1024, .f32⟩
  | .hbm, ⟨45, _⟩ => ⟨S1x1x1024, .f32⟩
  | .hbm, ⟨46, _⟩ => ⟨S4x256x1024, .f32⟩
  | .hbm, ⟨47, _⟩ => ⟨S4x256x1024, .f32⟩
  | .hbm, ⟨48, _⟩ => ⟨S4x256x512, .f32⟩
  | .hbm, ⟨49, _⟩ => ⟨S4x256x512, .bf16⟩
  | .hbm, ⟨50, _⟩ => ⟨S4x256x512, .f32⟩
  | .hbm, ⟨51, _⟩ => ⟨S4x256x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S2x8x6144 : Shape := ⟨3, ![2, 8, 6144]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S4x64x8x8x4x128 : Shape := ⟨6, ![4, 64, 8, 8, 4, 128]⟩
abbrev S4x4x8x64x8x128 : Shape := ⟨6, ![4, 4, 8, 64, 8, 128]⟩
abbrev S4x4x8x512x128 : Shape := ⟨5, ![4, 4, 8, 512, 128]⟩
abbrev S1024 : Shape := ⟨1, ![1024]⟩
abbrev S1x1024x512 : Shape := ⟨3, ![1, 1024, 512]⟩
abbrev S1x4x8x128x128 : Shape := ⟨5, ![1, 4, 8, 128, 128]⟩
abbrev S1x8x6144 : Shape := ⟨3, ![1, 8, 6144]⟩
abbrev S1x1024x4096 : Shape := ⟨3, ![1, 1024, 4096]⟩
abbrev S1x4096x1024 : Shape := ⟨3, ![1, 4096, 1024]⟩
abbrev S1x1x6144 : Shape := ⟨3, ![1, 1, 6144]⟩
abbrev S1x6144 : Shape := ⟨2, ![1, 6144]⟩
abbrev S1x1x8x128x128 : Shape := ⟨5, ![1, 1, 8, 128, 128]⟩
abbrev S8x128x128 : Shape := ⟨3, ![8, 128, 128]⟩
abbrev S8x64x128 : Shape := ⟨3, ![8, 64, 128]⟩
abbrev S8x8x128 : Shape := ⟨3, ![8, 8, 128]⟩
abbrev S64x128 : Shape := ⟨2, ![64, 128]⟩
abbrev S1x64x128 : Shape := ⟨3, ![1, 64, 128]⟩
abbrev S512x128 : Shape := ⟨2, ![512, 128]⟩
abbrev S512x512 : Shape := ⟨2, ![512, 512]⟩
abbrev S1x512x512 : Shape := ⟨3, ![1, 512, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S2x8x6144, .f32⟩
  | .hbm, ⟨4, _⟩ => ⟨S1x1024x1024, .f32⟩
  | .hbm, ⟨5, _⟩ => ⟨S1x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S4x64x8x8x4x128, .f32⟩
  | .hbm, ⟨10, _⟩ => ⟨S4x4x8x64x8x128, .f32⟩
  | .hbm, ⟨11, _⟩ => ⟨S4x4x8x512x128, .f32⟩
  | .hbm, ⟨12, _⟩ => ⟨S1x1024x1024, .bf16⟩
  | .hbm, ⟨13, _⟩ => ⟨S2x1024x4096, .bf16⟩
  | .hbm, ⟨14, _⟩ => ⟨S2x4096x1024, .bf16⟩
  | .hbm, ⟨15, _⟩ => ⟨S4x4096x512, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x4x8x128x128, .f32⟩
  | .local _ .vmem, ⟨5, _⟩ => ⟨S1x4x8x128x128, .f32⟩
  | .local _ .vmem, ⟨6, _⟩ => ⟨S1x8x6144, .f32⟩
  | .local _ .vmem, ⟨7, _⟩ => ⟨S1x1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1024x1024, .f32⟩
  | .local _ .vmem, ⟨13, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S2x8x6144 : Shape := ⟨3, ![2, 8, 6144]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S2x8x6144, .f32⟩
  | .hbm, ⟨4, _⟩ => ⟨S1x1024x1024, .f32⟩
  | .hbm, ⟨5, _⟩ => ⟨S1x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S1x4x6144, .f32⟩
  | .hbm, ⟨10, _⟩ => ⟨S4x6144, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x4096x1024, .f32⟩
  | .hbm, ⟨24, _⟩ => ⟨S1024x1024, .f32⟩
  | .hbm, ⟨25, _⟩ => ⟨S4x4096x1024, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1x1024, .f32⟩
  | .hbm, ⟨34, _⟩ => ⟨S1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S1x1024x4096, .f32⟩
  | .hbm, ⟨59, _⟩ => ⟨S1024x4096, .f32⟩
  | .hbm, ⟨60, _⟩ => ⟨S1x4096x1024, .f32⟩
  | .hbm, ⟨61, _⟩ => ⟨S4096x1024, .f32⟩
  | .hbm, ⟨62, _⟩ => ⟨S4x4096x4096, .f32⟩
  | .hbm, ⟨63, _⟩ => ⟨S_, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_cst : Ref sig .tc := ⟨.hbm, 63, rfl⟩
abbrev main_call0_v0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel3.lean ====
abbrev S4x4096x1024 : Shape := ⟨3, ![4, 4096, 1024]⟩
abbrev S2x8x6144 : Shape := ⟨3, ![2, 8, 6144]⟩
abbrev S2x1024 : Shape := ⟨2, ![2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024x256 : Shape := ⟨3, ![1, 1024, 256]⟩
abbrev S1x1024x1024 : Shape := ⟨3, ![1, 1024, 1024]⟩
abbrev S1x8x1024 : Shape := ⟨3, ![1, 8, 1024]⟩
abbrev S1x8x6144 : Shape := ⟨3, ![1, 8, 6144]⟩
abbrev S1x1024x4096 : Shape := ⟨3, ![1, 1024, 4096]⟩
abbrev S1x4096x1024 : Shape := ⟨3, ![1, 4096, 1024]⟩
abbrev S1x1x6144 : Shape := ⟨3, ![1, 1, 6144]⟩
abbrev S1x6144 : Shape := ⟨2, ![1, 6144]⟩
abbrev S1x512x1024 : Shape := ⟨3, ![1, 512, 1024]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S1024x1024 : Shape := ⟨2, ![1024, 1024]⟩

abbrev nBuf : Space → Nat
  | .hbm => 23
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S2x8x6144, .f32⟩
  | .hbm, ⟨2, _⟩ => ⟨S2x1024, .f32⟩
  | .hbm, ⟨3, _⟩ => ⟨S1x4x256x256, .f32⟩
  | .hbm, ⟨4, _⟩ => ⟨S1x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024, .f32⟩
  | .hbm, ⟨9, _⟩ => ⟨S1x1024x256, .f32⟩
  | .hbm, ⟨10, _⟩ => ⟨S1x1024x256, .bf16⟩
  | .hbm, ⟨11, _⟩ => ⟨S1x1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S2x1024x4096, .bf16⟩
  | .hbm, ⟨17, _⟩ => ⟨S2x4096x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x6144, .f32⟩
  | .local _ .vmem, ⟨7, _⟩ => ⟨S1x1024, .f32⟩
  | .local _ .vmem, ⟨8, _⟩ => ⟨S1x1024x256, .bf16⟩
  | .local _ .vmem, ⟨9, _⟩ => ⟨S1x1024, .f32⟩
  | .local _ .vmem, ⟨10, _⟩ => ⟨S1x1024, .f32⟩
  | .local _ .vmem, ⟨11, _⟩ => ⟨S1x1024x4096, .bf16⟩
  | .local _ .vmem, ⟨12, _⟩ => ⟨S1x4096x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4x4096x1024 : Shape := ⟨3, ![4, 4096, 1024]⟩
abbrev S2x8x6144 : Shape := ⟨3, ![2, 8, 6144]⟩
abbrev S2x1024 : Shape := ⟨2, ![2, 1024]⟩
abbrev S1x4x256x256 : Shape := ⟨4, ![1, 4, 256, 256]⟩
abbrev S1x1024 : Shape := ⟨2, ![1, 1024]⟩
abbrev S2x1024x4096 : Shape := ⟨3, ![2, 1024, 4096]⟩
abbrev S2x4096x1024 : Shape := ⟨3, ![2, 4096, 1024]⟩
abbrev S1024 : Shape := ⟨1, ![1024]⟩
abbrev S1x4x6144 : Shape := ⟨3, ![1, 4, 6144]⟩
abbrev S4x6144 : Shape := ⟨2, ![4, 6144]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x256x256 : Shape := ⟨3, ![4, 256, 256]⟩
abbrev S4096 : Shape := ⟨1, ![4096]⟩
abbrev S4x4096x256 : Shape := ⟨3, ![4, 4096, 256]⟩
abbrev S4x4097x256 : Shape := ⟨3, ![4, 4097, 256]⟩
abbrev S1x4096x1 : Shape := ⟨3, ![1, 4096, 1]⟩
abbrev S4x4099x256 : Shape := ⟨3, ![4, 4099, 256]⟩
abbrev S4x4103x256 : Shape := ⟨3, ![4, 4103, 256]⟩
abbrev S4x4111x256 : Shape := ⟨3, ![4, 4111, 256]⟩
abbrev S4x4096x1x256 : Shape := ⟨4, ![4, 4096, 1, 256]⟩
abbrev S4x4096x4x256 : Shape := ⟨4, ![4, 4096, 4, 256]⟩
abbrev S4x256x4x4096 : Shape := ⟨4, ![4, 256, 4, 4096]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩

abbrev nBuf : Space → Nat
  | .hbm => 327
  | .vmem => 0
  | .smem => 0
  | _ => 0

abbrev hbmTy0_0 (i : Nat) : BufTy := match i % 128 with
  | 0 => ⟨S4x4096x1024, .f32⟩
  | 1 => ⟨S2x8x6144, .f32⟩
  | 2 => ⟨S2x1024, .f32⟩
  | 3 => ⟨S1x4x256x256, .f32⟩
  | 4 => ⟨S1x1024, .f32⟩
  | 5 => ⟨S2x1024, .f32⟩
  | 6 => ⟨S2x1024x4096, .f32⟩
  | 7 => ⟨S2x4096x1024, .f32⟩
  | 8 => ⟨S1024, .f32⟩
  | 9 => ⟨S1x4x6144, .f32⟩
  | 10 => ⟨S4x6144, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S1x1024, .f32⟩
  | 24 => ⟨S1024, .f32⟩
  | 25 => ⟨S4x4096x1024, .f32⟩
  | 26 => ⟨S_, .f32⟩
  | 27 => ⟨S4x4096, .f32⟩
  | 28 => ⟨S4x4096x1, .f32⟩
  | 29 => ⟨S_, .f32⟩
  | 30 => ⟨S4x4096x1, .f32⟩
  | 31 => ⟨S4x4096x1, .f32⟩
  | 32 => ⟨S_, .f32⟩
  | 33 => ⟨S4x4096x1, .f32⟩
  | 34 => ⟨S4x4096x1, .f32⟩
  | 35 => ⟨S4x4096x1, .f32⟩
  | 36 => ⟨S4x4096x1024, .f32⟩
  | 37 => ⟨S4x4096x1024, .f32⟩
  | 38 => ⟨S1x1x1024, .f32⟩
  | 39 => ⟨S4x4096x1024, .f32⟩
  | 40 => ⟨S4x4096x1024, .f32⟩
  | 41 => ⟨S_, .f32⟩
  | 42 => ⟨S4x1x1024, .f32⟩
  | 43 => ⟨S4x1x1024, .f32⟩
  | 44 => ⟨S4x4096x1024, .f32⟩
  | 45 => ⟨S4x4096x1024, .f32⟩
  | 46 => ⟨S4x4096x1024, .f32⟩
  | 47 => ⟨S4x4096x1024, .f32⟩
  | 48 => ⟨S4x256x256, .f32⟩
  | 49 => ⟨S1024, .f32⟩
  | 50 => ⟨S4096, .i32⟩
  | 51 => ⟨S4x4096x256, .f32⟩
  | 52 => ⟨S_, .i32⟩
  | 53 => ⟨S_, .f32⟩
  | 54 => ⟨S4x4097x256, .f32⟩
  | 55 => ⟨S4x4096x256, .f32⟩
  | 56 => ⟨S_, .f32⟩
  | 57 => ⟨S4x4096x256, .f32⟩
  | 58 => ⟨S4x4096x256, .f32⟩
  | 59 => ⟨S4x4096x256, .f32⟩
  | 60 => ⟨S4x4096x256, .f32⟩
  | 61 => ⟨S_, .i32⟩
  | 62 => ⟨S4096, .i32⟩
  | 63 => ⟨S4096, .i32⟩
  | 64 => ⟨S_, .i32⟩
  | 65 => ⟨S_, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .i32⟩
  | 87 => ⟨S4096, .f32⟩
  | 88 => ⟨S1x4096x1, .f32⟩
  | 89 => ⟨S4x4096x256, .f32⟩
  | 90 => ⟨S4x4096x256, .f32⟩
  | 91 => ⟨S4x4096x256, .f32⟩
  | 92 => ⟨S4x4096x256, .f32⟩
  | 93 => ⟨S_, .i32⟩
  | 94 => ⟨S_, .f32⟩
  | 95 => ⟨S4x4099x256, .f32⟩
  | 96 => ⟨S4x4096x256, .f32⟩
  | 97 => ⟨S_, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .f32⟩
  | 105 => ⟨S4x4096x256, .f32⟩
  | 106 => ⟨S_, .i32⟩
  | 107 => ⟨S4096, .i32⟩
  | 108 => ⟨S4096, .i32⟩
  | 109 => ⟨S_, .i32⟩
  | 110 => ⟨S_, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S_, .i32⟩
  | 125 => ⟨S_, .i32⟩
  | 126 => ⟨S4096, .i32⟩
  | 127 => ⟨S4096, .i32⟩
  | _ => ⟨S4x4096x1024, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096, .f32⟩
  | 5 => ⟨S1x4096x1, .f32⟩
  | 6 => ⟨S4x4096x256, .f32⟩
  | 7 => ⟨S4x4096x256, .f32⟩
  | 8 => ⟨S4x4096x256, .f32⟩
  | 9 => ⟨S4x4096x256, .f32⟩
  | 10 => ⟨S_, .i32⟩
  | 11 => ⟨S_, .f32⟩
  | 12 => ⟨S4x4103x256, .f32⟩
  | 13 => ⟨S4x4096x256, .f32⟩
  | 14 => ⟨S_, .f32⟩
  | 15 => ⟨S4x4096x256, .f32⟩
  | 16 => ⟨S4x4096x256, .f32⟩
  | 17 => ⟨S4x4096x256, .f32⟩
  | 18 => ⟨S4x4096x256, .f32⟩
  | 19 => ⟨S4x4096x256, .f32⟩
  | 20 => ⟨S4x4096x256, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S4x4096x256, .f32⟩
  | 29 => ⟨S4x4096x256, .f32⟩
  | 30 => ⟨S4x4096x256, .f32⟩
  | 31 => ⟨S_, .i32⟩
  | 32 => ⟨S4096, .i32⟩
  | 33 => ⟨S4096, .i32⟩
  | 34 => ⟨S_, .i32⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .i32⟩
  | 57 => ⟨S4096, .f32⟩
  | 58 => ⟨S1x4096x1, .f32⟩
  | 59 => ⟨S4x4096x256, .f32⟩
  | 60 => ⟨S4x4096x256, .f32⟩
  | 61 => ⟨S4x4096x256, .f32⟩
  | 62 => ⟨S4x4096x256, .f32⟩
  | 63 => ⟨S_, .i32⟩
  | 64 => ⟨S_, .f32⟩
  | 65 => ⟨S4x4111x256, .f32⟩
  | 66 => ⟨S4x4096x256, .f32⟩
  | 67 => ⟨S_, .f32⟩
  | 68 => ⟨S4x4096x256, .f32⟩
  | 69 => ⟨S4x4096x256, .f32⟩
  | 70 => ⟨S4x4096x256, .f32⟩
  | 71 => ⟨S4x4096x256, .f32⟩
  | 72 => ⟨S4x4096x256, .f32⟩
  | 73 => ⟨S4x4096x256, .f32⟩
  | 74 => ⟨S4x4096x256, .f32⟩
  | 75 => ⟨S4x4096x256, .f32⟩
  | 76 => ⟨S4x4096x256, .f32⟩
  | 77 => ⟨S4x4096x256, .f32⟩
  | 78 => ⟨S4x4096x256, .f32⟩
  | 79 => ⟨S4x4096x256, .f32⟩
  | 80 => ⟨S4x4096x256, .f32⟩
  | 81 => ⟨S4x4096x256, .f32⟩
  | 82 => ⟨S4x4096x256, .f32⟩
  | 83 => ⟨S4x4096x256, .f32⟩
  | 84 => ⟨S4x4096x256, .f32⟩
  | 85 => ⟨S4x4096x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S_, .i32⟩
  | 101 => ⟨S4096, .i32⟩
  | 102 => ⟨S4096, .i32⟩
  | 103 => ⟨S_, .i32⟩
  | 104 => ⟨S_, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S_, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S4096, .i32⟩
  | 126 => ⟨S4096, .f32⟩
  | 127 => ⟨S1x4096x1, .f32⟩
  | _ => ⟨S4x4096x1024, .f32⟩

abbrev hbmTy0_2 (i : Nat) : BufTy := match i % 128 with
  | 0 => ⟨S4x4096x256, .f32⟩
  | 1 => ⟨S4x4096x256, .f32⟩
  | 2 => ⟨S4x4096x256, .f32⟩
  | 3 => ⟨S4x4096x1x256, .f32⟩
  | 4 => ⟨S4x4096x1x256, .f32⟩
  | 5 => ⟨S4x4096x1x256, .f32⟩
  | 6 => ⟨S4x4096x1x256, .f32⟩
  | 7 => ⟨S4x4096x4x256, .f32⟩
  | 8 => ⟨S4x256x4x4096, .f32⟩
  | 9 => ⟨S4x4096x4x256, .f32⟩
  | 10 => ⟨S4x4096x1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S4x4096x1024, .f32⟩
  | 17 => ⟨S1x1024, .f32⟩
  | 18 => ⟨S1024, .f32⟩
  | 19 => ⟨S4x4096x1024, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S_, .f32⟩
  | 27 => ⟨S4x4096x1, .f32⟩
  | 28 => ⟨S4x4096x1, .f32⟩
  | 29 => ⟨S4x4096x1, .f32⟩
  | 30 => ⟨S4x4096x1024, .f32⟩
  | 31 => ⟨S4x4096x1024, .f32⟩
  | 32 => ⟨S1x1x1024, .f32⟩
  | 33 => ⟨S4x4096x1024, .f32⟩
  | 34 => ⟨S4x4096x1024, .f32⟩
  | 35 => ⟨S_, .f32⟩
  | 36 => ⟨S4x1x1024, .f32⟩
  | 37 => ⟨S4x1x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S1x1024x4096, .f32⟩
  | 43 => ⟨S1024x4096, .f32⟩
  | 44 => ⟨S1x4096x1024, .f32⟩
  | 45 => ⟨S4096x1024, .f32⟩
  | 46 => ⟨S4x4096x4096, .f32⟩
  | 47 => ⟨S_, .f32⟩
  | 48 => ⟨S4x4096x4096, .f32⟩
  | 49 => ⟨S4x4096x4096, .f32⟩
  | 50 => ⟨S4x4096x4096, .f32⟩
  | 51 => ⟨S4x4096x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S_, .f32⟩
  | 57 => ⟨S4x4096, .f32⟩
  | 58 => ⟨S4x4096x1, .f32⟩
  | 59 => ⟨S_, .f32⟩
  | 60 => ⟨S4x4096x1, .f32⟩
  | 61 => ⟨S4x4096x1, .f32⟩
  | 62 => ⟨S_, .f32⟩
  | 63 => ⟨S4x4096x1, .f32⟩
  | 64 => ⟨S4x4096x1, .f32⟩
  | 65 => ⟨S4x4096x1, .f32⟩
  | 66 => ⟨S4x4096x1024, .f32⟩
  | 67 => ⟨S4x4096x1024, .f32⟩
  | 68 => ⟨S1x1x1024, .f32⟩
  | 69 => ⟨S4x4096x1024, .f32⟩
  | 70 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_4 : Ref sig .tc := ⟨.hbm, 61, rfl⟩
abbrev main_v45 : Ref sig .tc := ⟨.hbm, 62, rfl⟩
abbrev main_v46 : Ref sig .tc := ⟨.hbm, 63, rfl⟩
abbrev main_c_5 : Ref sig .tc := ⟨.hbm, 64, rfl⟩
abbrev main_c_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_c_10 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_call3_v0 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_c_14 : Ref sig .tc := ⟨.hbm, 109, rfl⟩
abbrev main_c_15 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v72 : Ref sig .tc := ⟨.hbm, 116, rfl⟩
abbrev main_c_16 : Ref sig .tc := ⟨.hbm, 117, rfl⟩
abbrev main_v73 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_c_18 : Ref sig .tc := ⟨.hbm, 123, rfl⟩
abbrev main_c_19 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_20 : Ref sig .tc := ⟨.hbm, 138, rfl⟩
abbrev main_call6_v0 : Ref sig .tc := ⟨.hbm, 139, rfl⟩
abbrev main_v85 : Ref sig .tc := ⟨.hbm, 140, rfl⟩
abbrev main_v86 : Ref sig .tc := ⟨.hbm, 141, rfl⟩
abbrev main_cst_21 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_22 : Ref sig .tc := ⟨.hbm, 159, rfl⟩
abbrev main_v103 : Ref sig .tc := ⟨.hbm, 160, rfl⟩
abbrev main_v104 : Ref sig .tc := ⟨.hbm, 161, rfl⟩
abbrev main_c_23 : Ref sig .tc := ⟨.hbm, 162, rfl⟩
abbrev main_c_24 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v105 : Ref sig .tc := ⟨.hbm, 169, rfl⟩
abbrev main_c_25 : Ref sig .tc := ⟨.hbm, 170, rfl⟩
abbrev main_v106 : Ref sig .tc := ⟨.hbm, 171, rfl⟩
abbrev main_v107 : Ref sig .tc := ⟨.hbm, 172, rfl⟩
abbrev main_c_26 : Ref sig .tc := ⟨.hbm, 173, rfl⟩
abbrev main_v108 : Ref sig .tc := ⟨.hbm, 174, rfl⟩
abbrev main_v109 : Ref sig .tc := ⟨.hbm, 175, rfl⟩
abbrev main_c_27 : Ref sig .tc := ⟨.hbm, 176, rfl⟩
abbrev main_c_28 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_c_29 : Ref sig .tc := ⟨.hbm, 191, rfl⟩
abbrev main_call9_v0 : Ref sig .tc := ⟨.hbm, 192, rfl⟩
abbrev main_v118 : Ref sig .tc := ⟨.hbm, 193, rfl⟩
abbrev main_v119 : Ref sig .tc := ⟨.hbm, 194, rfl⟩
abbrev main_cst_30 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_c_31 : Ref sig .tc := ⟨.hbm, 228, rfl⟩
abbrev main_v152 : Ref sig .tc := ⟨.hbm, 229, rfl⟩
abbrev main_v153 : Ref sig .tc := ⟨.hbm, 230, rfl⟩
abbrev main_c_32 : Ref sig .tc := ⟨.hbm, 231, rfl⟩
abbrev main_c_33 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_call10_v3 : Ref sig .tc := ⟨.hbm, 236, rfl⟩
abbrev main_call10_v4 : Ref sig .tc := ⟨.hbm, 237, rfl⟩
abbrev main_v154 : Ref sig .tc := ⟨.hbm, 238, rfl⟩
abbrev main_c_34 : Ref sig .tc := ⟨.hbm, 239, rfl⟩
abbrev main_v155 : Ref sig .tc := ⟨.hbm, 240, rfl⟩
abbrev main_v156 : Ref sig .tc := ⟨.hbm, 241, rfl⟩
abbrev main_c_35 : Ref sig .tc := ⟨.hbm, 242, rfl⟩
abbrev main_v157 : Ref sig .tc := ⟨.hbm, 243, rfl⟩
abbrev main_v158 : Ref sig .tc := ⟨.hbm, 244, rfl⟩
abbrev main_c_36 : Ref sig .tc := ⟨.hbm, 245, rfl⟩
abbrev main_c_37 : Ref sig .tc := ⟨.hbm, 246, rfl⟩
abbrev main_call11_v0 : Ref sig .tc := ⟨.hbm, 247, rfl⟩
abbrev main_call11_v1 : Ref sig .tc := ⟨.hbm, 248, rfl⟩
abbrev main_call11_v2 : Ref sig .tc := ⟨.hbm, 249, rfl⟩
abbrev main_call11_v3 : Ref sig .tc := ⟨.hbm, 250, rfl⟩
abbrev main_call11_v4 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_38 : Ref sig .tc := ⟨.hbm, 276, rfl⟩
abbrev main_v183 : Ref sig .tc := ⟨.hbm, 277, rfl⟩
abbrev main_v184 : Ref sig .tc := ⟨.hbm, 278, rfl⟩
abbrev main_cst_39 : Ref sig .tc := ⟨.hbm, 279, rfl⟩
abbrev main_v185 : Ref sig .tc := ⟨.hbm, 280, rfl⟩
abbrev main_v186 : Ref sig .tc := ⟨.hbm, 281, rfl⟩
abbrev main_cst_40 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_cst_41 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_call12_cst : Ref sig .tc := ⟨.hbm, 303, rfl⟩
abbrev main_call12_v0 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_cst_42 : Ref sig .tc := ⟨.hbm, 312, rfl⟩
abbrev main_v213 : Ref sig .tc := ⟨.hbm, 313, rfl⟩
abbrev main_v214 : Ref sig .tc := ⟨.hbm, 314, rfl⟩
abbrev main_cst_43 : Ref sig .tc := ⟨.hbm, 315, rfl⟩
abbrev main_v215 : Ref sig .tc := ⟨.hbm, 316, rfl⟩
abbrev main_v216 : Ref sig .tc := ⟨.hbm, 317, rfl⟩
abbrev main_cst_44 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩

abbrev nD : Nat := 1
abbrev τ : Topo := Topo.v7x

variable {F : FTy → Type} [FloatOps F]
-- ==== Kernel4.lean ====
abbrev S4x4096x512 : Shape := ⟨3, ![4, 4096, 512]⟩
abbrev S4x256x512 : Shape := ⟨3, ![4, 256, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S128 : Shape := ⟨1, ![128]⟩
abbrev S1x1024x128 : Shape := ⟨3, ![1, 1024, 128]⟩
abbrev S1x256x128 : Shape := ⟨3, ![1, 256, 128]⟩
abbrev S1x4096x128 : Shape := ⟨3, ![1, 4096, 128]⟩
abbrev S1024x128 : Shape := ⟨2, ![1024, 128]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩
abbrev S256x256 : Shape := ⟨2, ![256, 256]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 33
  | .vmem => 14
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x256x512, .f32⟩
  | .hbm, ⟨3, _⟩ => ⟨S4x4096x512, .f32⟩
  | .hbm, ⟨4, _⟩ => ⟨S4x4096x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x4096x512, .f32⟩
  | .hbm, ⟨15, _⟩ => ⟨S4x4096x512, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S4x64, .f32⟩
  | .hbm, ⟨25, _⟩ => ⟨S4x4096x512, .bf16⟩
  | .hbm, ⟨26, _⟩ => ⟨S4x256x512, .bf16⟩
  | .hbm, ⟨27, _⟩ => ⟨S4x256x512, .bf16⟩
  | .hbm, ⟨28, _⟩ => ⟨S4x4096x512, .bf16⟩
  | .hbm, ⟨29, _⟩ => ⟨S4x4096x512, .bf16⟩
  | .hbm, ⟨30, _⟩ => ⟨S128, .f32⟩
  | .hbm, ⟨31, _⟩ => ⟨S1x128, .f32⟩
  | .hbm, ⟨32, _⟩ => ⟨S4x4096x512, .bf16⟩
  | .local _ .vmem, ⟨0, _⟩ => ⟨S4x64, .f32⟩
  | .local _ .vmem, ⟨1, _⟩ => ⟨S1x1024x128, .bf16⟩
  | .local _ .vmem, ⟨2, _⟩ => ⟨S1x1024x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference4Ideal.lean ====
abbrev S4x4096x512 : Shape := ⟨3, ![4, 4096, 512]⟩
abbrev S4x256x512 : Shape := ⟨3, ![4, 256, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S4x4352x512 : Shape := ⟨3, ![4, 4352, 512]⟩
abbrev S4x4352x4x2x64 : Shape := ⟨5, ![4, 4352, 4, 2, 64]⟩
abbrev S4x4352x4x128 : Shape := ⟨4, ![4, 4352, 4, 128]⟩
abbrev S4x4096x4x2x64 : Shape := ⟨5, ![4, 4096, 4, 2, 64]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x128x4096 : Shape := ⟨4, ![4, 4, 128, 4096]⟩
abbrev S4x4096x4x128 : Shape := ⟨4, ![4, 4096, 4, 128]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x256x512, .f32⟩
  | .hbm, ⟨3, _⟩ => ⟨S4x4096x512, .f32⟩
  | .hbm, ⟨4, _⟩ => ⟨S4x4096x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4352x512, .f32⟩
  | .hbm, ⟨26, _⟩ => ⟨S4x4352x4x2x64, .f32⟩
  | .hbm, ⟨27, _⟩ => ⟨S4x4352x512, .f32⟩
  | .hbm, ⟨28, _⟩ => ⟨S4x4352x4x128, .f32⟩
  | .hbm, ⟨29, _⟩ => ⟨S4x4096x4x2x64, .f32⟩
  | .hbm, ⟨30, _⟩ => ⟨S4x4x2x4096x4352, .f32⟩
  | .hbm, ⟨31, _⟩ => ⟨S_, .f32⟩
  | .hbm, ⟨32, _⟩ => ⟨S4x4x2x4096x4352, .f32⟩
  | .hbm, ⟨33, _⟩ => ⟨S4x4x2x4096x4352, .f32⟩
  | .hbm, ⟨34, _⟩ => ⟨S_, .f32⟩
  | .hbm, ⟨35, _⟩ => ⟨S4x4x2x4096, .f32⟩
  | .hbm, ⟨36, _⟩ => ⟨S_, .f32⟩
  | .hbm, ⟨37, _⟩ => ⟨S4x4x2x4096, .f32⟩
  | .hbm, ⟨38, _⟩ => ⟨S4x4x2x4096, .f32⟩
  | .hbm, ⟨39, _⟩ => ⟨S4x4x2x4096x1, .f32⟩
  | .hbm, ⟨40, _⟩ => ⟨S4x4x2x4096x4352, .f32⟩
  | .hbm, ⟨41, _⟩ => ⟨S4x4x2x4096x4352, .f32⟩
  | .hbm, ⟨42, _⟩ => ⟨S4x4x2x4096x4352, .f32⟩
  | .hbm, ⟨43, _⟩ => ⟨S_, .f32⟩
  | .hbm, ⟨44, _⟩ => ⟨S4x4x2x4096, .f32⟩
  | .hbm, ⟨45, _⟩ => ⟨S4x4x2x4096x1, .f32⟩
  | .hbm, ⟨46, _⟩ => ⟨S4x4x2x4096x4352, .f32⟩
  | .hbm, ⟨47, _⟩ => ⟨S4x4x2x4096x4352, .f32⟩
  | .hbm, ⟨48, _⟩ => ⟨S4x4x1x4096x4352, .f32⟩
  | .hbm, ⟨49, _⟩ => ⟨S4x4x4096x4352, .f32⟩
  | .hbm, ⟨50, _⟩ => ⟨S4x4x1x4096x4352, .f32⟩
  | .hbm, ⟨51, _⟩ => ⟨S4x4x4096x4352, .f32⟩
  | .hbm, ⟨52, _⟩ => ⟨S4x4x4096x4352, .f32⟩
  | .hbm, ⟨53, _⟩ => ⟨S4x4x4096x4352, .f32⟩
  | .hbm, ⟨54, _⟩ => ⟨S4x4x4096x4352, .f32⟩
  | .hbm, ⟨55, _⟩ => ⟨S4x4x128x4096, .f32⟩
  | .hbm, ⟨56, _⟩ => ⟨S4x4096x4x128, .f32⟩
  | .hbm, ⟨57, _⟩ => ⟨S128, .f32⟩
  | .hbm, ⟨58, _⟩ => ⟨S4x4096x4x128, .f32⟩
  | .hbm, ⟨59, _⟩ => ⟨S_, .f32⟩
  | .hbm, ⟨60, _⟩ => ⟨S4x4096x4, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S4x4096x4x1, .f32⟩
  | .hbm, ⟨69, _⟩ => ⟨S4x4096x4x128, .f32⟩
  | .hbm, ⟨70, _⟩ => ⟨S4x4096x4x128, .f32⟩
  | .hbm, ⟨71, _⟩ => ⟨S1x1x1x128, .f32⟩
  | .hbm, ⟨72, _⟩ => ⟨S4x4096x4x128, .f32⟩
  | .hbm, ⟨73, _⟩ => ⟨S4x4096x4x128, .f32⟩
  | .hbm, ⟨74, _⟩ => ⟨S_, .f32⟩
  | .hbm, ⟨75, _⟩ => ⟨S4x4096x4x128, .f32⟩
  | .hbm, ⟨76, _⟩ => ⟨S4x4096x4x128, .f32⟩
  | .hbm, ⟨77, _⟩ => ⟨S4x4096x512, .f32⟩
  | .hbm, ⟨78, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel5.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S16x1024 : Shape := ⟨2, ![16, 1024]⟩
abbrev S16x1536 : Shape := ⟨2, ![16, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Ctx.Setup.lean ====
/- The context projection's kernel, before its body is run: the entry contents of its arrays, its staging and scratch
   buffers, the semaphores of its own copies, and the branch of the body that stages the weights. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ctx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 800000 in
/-- The host operations before the call, then the call, at the camera of a body with copies of its own. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The branch on the grid coordinate that stages the weights. -/
abbrev stages (i : grid0.Coords) : Prop := (Scalar.cmpi .ne (Scalar.extui (Scalar.cmpi .eq (BitVec.ofNat 32 (i 0).val) 0#32)) 0#32) = 1#1

/-- The weights are staged at the first point only. -/
theorem stages_iff : ∀ t : Fin cfg0.N, stages (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [stages, e0]
    word_cmp
   : ∀ t : Fin grid0.N, stages (grid0.coords t) ↔ t.val = 0)

/-! ## The buffers the body is called on -/

abbrev bx (t : Fin cfg0.N) : Memref sig .tc .vmem S1x256x1024 .f32 := win0_0.stage (cfg0.slots t 0)
abbrev bmod (t : Fin cfg0.N) : Memref sig .tc .vmem S1x8x6144 .f32 := win0_1.stage (cfg0.slots t 1)
abbrev bg (t : Fin cfg0.N) : Memref sig .tc .vmem S1x1024 .f32 := win0_2.stage (cfg0.slots t 2)
abbrev bb (t : Fin cfg0.N) : Memref sig .tc .vmem S1x3072 .f32 := win0_3.stage (cfg0.slots t 3)
abbrev bk (t : Fin cfg0.N) : Memref sig .tc .vmem S1x256x512 .bf16 := win0_4.stage (cfg0.slots t 4)
abbrev bv (t : Fin cfg0.N) : Memref sig .tc .vmem S1x256x512 .bf16 := win0_5.stage (cfg0.slots t 5)

/-- The weights' copy in `bf16`, kept from the first point on, and the two-slot buffer they are staged through. -/
abbrev wBuf : Memref sig .tc .vmem S1024x1024 .bf16 := Memref.whole cc0_scratch0
abbrev stBuf : Memref sig .tc .vmem S2x512x1024 .f32 := Memref.whole cc0_scoped0
/-- The weights in HBM, moved by the body's own copies. -/
abbrev wHbm : Memref sig .tc .hbm S1x1024x3072 .f32 := Memref.whole main_arg3

/-- A memref's buffer on core `c`, and it held whole at some contents. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The two semaphore cells of the staging copies. -/
abbrev cells : Fin 2 → SemLoc sig := fun j => (![SemLoc.dma 9, SemLoc.dma 10] : Fin 2 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 9) 0 ∗ semVal ((c : Thread nD τ), SemLoc.dma 10) 0) := by
  rw [Pipeline.ownSems0_eq_of_list c cells [0, 1] (by decide) (by decide)]; rfl

/-- The arrays the body moves itself. -/
def moved : Finset (Ref sig .tc) := {main_arg3}
theorem moved_sub : moved ⊆ Pipeline.restRefs sig spec0 := by decide
theorem moved_eq (c : Dev nD) :
    (bigSep moved (fun b => ((c : Thread nD τ).loc b) ↦{fullShare} V m c b) : sProp 𝕄) = iprop(hbPt c wHbm (V m c main_arg3)) := by
  rw [BI.bigSep_eq_bigSepL_of_eq [main_arg3] (by decide) (by decide)]; rfl

/-- What the launch hands the body beside its windows, conjunct by conjunct. -/
theorem PhiD_eq (c : Dev nD) :
    (Pipeline.ΦD cells spec0 moved (V m) c : sProp 𝕄)
      = iprop(iprop((∃ d, owns (c : Thread nD τ) wBuf fullShare d) ∗ (∃ d, owns (c : Thread nD τ) stBuf fullShare d)) ∗ (∃ r, prngReg c r) ∗ iprop(semVal ((c : Thread nD τ), SemLoc.dma 9) 0 ∗ semVal ((c : Thread nD τ), SemLoc.dma 10) 0) ∗ iprop(hbPt c wHbm (V m c main_arg3))) := by
  rw [Pipeline.ΦD_eq, scopedRest0_eq, cells_eq, moved_eq]; simp only [wBuf, stBuf, owns_whole]; try rfl

end Cert.KernelIdeal.Ctx

end
-- ==== Proof.Ctx.Stage.lean ====
/- The weights' staging: the two chunks the body copies through the two-slot buffer and stores in `bf16` are, together,
   the columns 512 to 1536 of the weights, rounded to `bf16`. -/
module

public import proofs.«01_k».proof.Proof.Ctx.Setup
public import Idealize.ShloMosaic.Lib.VecWindow
public import Idealize.ShloMosaic.Lib.ViewIndex

@[expose] public section

set_option maxRecDepth 16384

noncomputable section

namespace Cert.KernelIdeal.Ctx

open Idealize.ShloMosaic Idealize.ShloMosaic.TcCoe Idealize.ShloMosaic.Tactic
open Cert.KernelIdeal.Gen

variable {F : FTy → Type} [FloatOps F]

/-- A slot of the two-slot buffer, as the copies name it. -/
abbrev slotRect0 : Rect S2x512x1024 := Rect.unit ![0, 0, 0] S1x512x1024.size inb_S2x512x1024_S1x512x1024_0_0_0
abbrev slotRect1 : Rect S2x512x1024 := Rect.unit ![1, 0, 0] S1x512x1024.size inb_S2x512x1024_S1x512x1024_1_0_0
abbrev slot0 (M : Memref sig .tc .vmem S2x512x1024 .f32) : Memref sig .tc .vmem S512x1024 .f32 :=
  (M.slice slotRect0 (fun _ => rfl)).squeeze S512x1024 squeezes_S1x512x1024_S512x1024
abbrev slot1 (M : Memref sig .tc .vmem S2x512x1024 .f32) : Memref sig .tc .vmem S512x1024 .f32 :=
  (M.slice slotRect1 (fun _ => rfl)).squeeze S512x1024 squeezes_S1x512x1024_S512x1024

/-- The two slots hold different elements of the buffer. -/
theorem slots_disjoint : Disjoint slotRect0.set slotRect1.set := by
  refine Finset.disjoint_left.mpr fun y h0 h1 => ?_
  obtain ⟨x0, rfl⟩ := slotRect0.exists_idx_of_mem h0
  obtain ⟨x1, e⟩ := slotRect1.exists_idx_of_mem h1
  have h := congrArg (fun z : S2x512x1024.Idx => (z 0).val) e
  have b0 : (x0 0).val < 1 := (x0 0).isLt
  have b1 : (x1 0).val < 1 := (x1 0).isLt
  change 1 + 1 * (x1 0).val = 0 + 1 * (x0 0).val at h
  omega

/-- What is read through slot 1 after a copy into it. -/
theorem slot1_read (M : Memref sig .tc .vmem S2x512x1024 .f32) (f : M.view.ty.Contents (Elt F)) (d : Vec F S512x1024 .f32) (h) :
    shapeCast S512x1024 (View.readAt (Elt F) M.view slotRect1.toLoadRect (View.write (Elt F) (slot1 M).view f d Finset.univ)) h = d := by
  funext y
  exact congrFun (View.read_write_univ (v := (slot1 M).view) _ _) y

/-- What is read through slot 0 after a copy into it and then one into slot 1. -/
theorem slot0_read (M : Memref sig .tc .vmem S2x512x1024 .f32) (f : M.view.ty.Contents (Elt F)) (d d' : Vec F S512x1024 .f32) (h) :
    shapeCast S512x1024 (View.readAt (Elt F) M.view slotRect0.toLoadRect
      (View.write (Elt F) (slot1 M).view (View.write (Elt F) (slot0 M).view f d Finset.univ) d' Finset.univ)) h = d := by
  have key : ∀ g : M.view.ty.Contents (Elt F), (slot0 M).view.read (Elt F) (View.write (Elt F) (slot1 M).view g d' Finset.univ) = (slot0 M).view.read (Elt F) g := by
    intro g
    refine View.read_congr fun i hi => View.write_of_not_mem _ _ _ ?_
    have hd := View.disjoint_slice (v := M.view) slots_disjoint
    rw [View.set_reshape] at hi
    show i ∉ (slot1 M).view.set
    rw [View.set_reshape]
    exact Finset.disjoint_left.mp hd hi
  funext y
  exact (congrFun (key _) y).trans (congrFun (View.read_write_univ (v := (slot0 M).view) _ _) y)

/-- The weights' columns 512 to 1536, as the copies' source names them, in `f32` and rounded. -/
abbrev wCols : Memref sig .tc .hbm S1024x1024 .f32 :=
  (wHbm.slice (Rect.unit ![0, 0, 512] S1x1024x1024.size inb_S1x1024x3072_S1x1024x1024_0_0_512) (fun _ => rfl)).squeeze S1024x1024 squeezes_S1x1024x1024_S1024x1024
def wRaw (c : Dev nD) (f : HbBuf (F := F) c wHbm) : Vec F S1024x1024 .f32 := wCols.view.read (Elt F) f
def wCast (c : Dev nD) (f : HbBuf (F := F) c wHbm) : Vec F S1024x1024 .bf16 := truncf .bf16 (wRaw c f) bitsLt_bf16_f32

/-- The two chunks, in the order of their stores (the later first). -/
abbrev chunks (p q : Vec F S512x1024 .bf16) : List (View.Piece (Elt F) S1024x1024 .bf16) :=
  [⟨Rect.unit (s := S1024x1024) ![512, 0] S512x1024.size inb_S1024x1024_S512x1024_512_0, p⟩, ⟨Rect.unit (s := S1024x1024) ![0, 0] S512x1024.size inb_S1024x1024_S512x1024_0_0, q⟩]

/-- Two chunks that are the lower and upper half of an array fill the buffer with it. -/
theorem read_chunks (M : Memref sig .tc .vmem S1024x1024 .bf16) (f : M.view.ty.Contents (Elt F)) (p q : Vec F S512x1024 .bf16) (G : Vec F S1024x1024 .bf16)
    (hp : ∀ x, p x = G ((Rect.unit (s := S1024x1024) ![512, 0] S512x1024.size inb_S1024x1024_S512x1024_512_0).emb x))
    (hq : ∀ x, q x = G ((Rect.unit (s := S1024x1024) ![0, 0] S512x1024.size inb_S1024x1024_S512x1024_0_0).emb x)) :
    M.view.read (Elt F) (M.view.writes (Elt F) f (chunks p q)) = G := by
  funext y
  refine View.read_writes_apply_of_pieces M.view f G _ ?_ y (View.cover_of_tiledL (chunks p q) S512x1024.size (by sl_kernel_rfl) y)
  intro r hr
  rcases List.mem_cons.mp hr with rfl | hr
  · exact hp
  · obtain rfl := List.mem_singleton.mp hr
    exact hq

end Cert.KernelIdeal.Ctx

end
-- ==== Proof.Ctx.Run.lean ====
/- The body's run at its two kinds of point: the first, which stages the weights, and the others. -/
module

public import proofs.«01_k».proof.Proof.Ctx.Stage
public import Idealize.ShloMosaic.Lib.WholeRead

@[expose] public section

set_option maxRecDepth 16384

noncomputable section

namespace Cert.KernelIdeal.Ctx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## What a point leaves -/

/-- The modulation's row for the context, and the bias' columns 512 to 1536, of the blocks that hold them. -/
def modRow (x1 : Vec F S1x8x6144 .f32) : Vec F S1x1x6144 .f32 :=
  fun j => x1 ((Rect.unit (s := S1x8x6144) ![0, 4, 0] S1x1x6144.size inb_S1x8x6144_S1x1x6144_0_4_0).emb j)
def biasCols (x3 : Vec F S1x3072 .f32) : Vec F S1x1024 .f32 :=
  fun j => x3 ((Rect.unit (s := S1x3072) ![0, 512] S1x1024.size inb_S1x3072_S1x1024_0_512).emb j)

/-- The two outputs' blocks from the inputs' blocks and the weights in `bf16`: the left half of the projection and the right
    half. -/
def kOut (x0 : Vec F S1x256x1024 .f32) (x1 : Vec F S1x8x6144 .f32) (x2 : Vec F S1x1024 .f32) (x3 : Vec F S1x3072 .f32) (w : Vec F S1024x1024 .bf16) : Vec F S1x256x512 .bf16 := k0_pay1 (k0_pay6 (modRow x1) x0 x2 w (biasCols x3))
def vOut (x0 : Vec F S1x256x1024 .f32) (x1 : Vec F S1x8x6144 .f32) (x2 : Vec F S1x1024 .f32) (x3 : Vec F S1x3072 .f32) (w : Vec F S1024x1024 .bf16) : Vec F S1x256x512 .bf16 := k0_pay2 (k0_pay5 (modRow x1) x0 x2 w (biasCols x3))

section
variable {x0 : Vec F S1x256x1024 .f32} {x1 : Vec F S1x8x6144 .f32} {x2 : Vec F S1x1024 .f32} {x3 : Vec F S1x3072 .f32} {w : Vec F S1024x1024 .bf16}
variable {v3 : Vec F S1x1x6144 .f32} {v5 : Vec F S1x256x1024 .f32} {v17 : Vec F S1x1024 .f32} {v30 : Vec F S1024x1024 .bf16} {v32 : Vec F S1x1024 .f32}

theorem kOut_of (h3 : v3 = modRow x1) (h5 : v5 = x0) (h17 : v17 = x2) (h30 : v30 = w) (h32 : v32 = biasCols x3) :
    k0_pay1 (k0_pay6 v3 v5 v17 v30 v32) = kOut x0 x1 x2 x3 w := by subst h3 h5 h17 h30 h32; rfl
theorem vOut_of (h3 : v3 = modRow x1) (h5 : v5 = x0) (h17 : v17 = x2) (h30 : v30 = w) (h32 : v32 = biasCols x3) :
    k0_pay2 (k0_pay5 v3 v5 v17 v30 v32) = vOut x0 x1 x2 x3 w := by subst h3 h5 h17 h30 h32; rfl
end

/-- A whole block stored is what the block then reads. -/
theorem read_store (M : Memref sig .tc .vmem S1x256x512 .bf16) (f : M.view.ty.Contents (Elt F)) (v : Vec F S1x256x512 .bf16) :
    M.view.read (Elt F) (M.view.writes (Elt F) f [⟨Rect.unit ![0, 0, 0] ![1, 256, 512] inb_S1x256x512_S1x256x512_0_0_0, v⟩]) = v :=
  View.read_writes_full (s := S1x256x512) M.view f inb_S1x256x512_S1x256x512_0_0_0 v []

/-- The staged chunks, read back from the weight buffer: the weights' columns, rounded. -/
theorem read_staged (c : Dev nD) (M : Memref sig .tc .vmem S1024x1024 .bf16) (N : Memref sig .tc .vmem S2x512x1024 .f32) (f : M.view.ty.Contents (Elt F))
    (g : N.view.ty.Contents (Elt F)) (fh0 : HbBuf (F := F) c wHbm) :
    M.view.read (Elt F) (M.view.writes (Elt F) f (chunks
      (k0_pay4 (View.readAt (Elt F) N.view slotRect1.toLoadRect (View.write (Elt F) (slot1 N).view (View.write (Elt F) (slot0 N).view g
        (fun x => wRaw c fh0 ((Rect.unit (s := S1024x1024) ![0, 0] S512x1024.size inb_S1024x1024_S512x1024_0_0).emb x)) Finset.univ)
        (fun x => wRaw c fh0 ((Rect.unit (s := S1024x1024) ![512, 0] S512x1024.size inb_S1024x1024_S512x1024_512_0).emb x)) Finset.univ)))
      (k0_pay3 (View.readAt (Elt F) N.view slotRect0.toLoadRect (View.write (Elt F) (slot1 N).view (View.write (Elt F) (slot0 N).view g
        (fun x => wRaw c fh0 ((Rect.unit (s := S1024x1024) ![0, 0] S512x1024.size inb_S1024x1024_S512x1024_0_0).emb x)) Finset.univ)
        (fun x => wRaw c fh0 ((Rect.unit (s := S1024x1024) ![512, 0] S512x1024.size inb_S1024x1024_S512x1024_512_0).emb x)) Finset.univ)))))
      = wCast c fh0 := by
  refine read_chunks M f _ _ _ (fun x => ?_) (fun x => ?_)
  · unfold k0_pay4
    dsimp only
    rw [slot1_read, shapeCast_self]
    rfl
  · unfold k0_pay3
    dsimp only
    rw [slot0_read, shapeCast_self]
    rfl

set_option maxHeartbeats 1000000 in set_option sl_exec.dmaWindow true in set_option sl_exec.dmaWindowSet true in
/-- The body at a point that stages: the weights' columns are copied and rounded into the weight buffer, and the outputs
    are the projection with them. -/
theorem run_first (c : Dev nD) (i : grid0.Coords) (arg1 : Memref sig .tc .vmem S1x256x1024 .f32) (harg1 : arg1.IsWhole) (arg2 : Memref sig .tc .vmem S1x8x6144 .f32) (harg2 : arg2.IsWhole) (arg3 : Memref sig .tc .vmem S1x1024 .f32) (harg3 : arg3.IsWhole) (arg5 : Memref sig .tc .vmem S1x3072 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x1024 .bf16) (harg8 : arg8.IsWhole) (alloca_r0 : Memref sig .tc .vmem S2x512x1024 .f32) (halloca_r0 : alloca_r0.IsWhole) (hc0 : stages i)
    (x0 : Vec F S1x256x1024 .f32) (x1 : Vec F S1x8x6144 .f32) (x2 : Vec F S1x1024 .f32) (x3 : Vec F S1x3072 .f32) (fh0 : HbBuf (F := F) c wHbm) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ (∃ d, owns (c : Thread nD τ) arg7 fullShare d)
            ∗ (∃ d, owns (c : Thread nD τ) arg8 fullShare d) ∗ (∃ d, owns (c : Thread nD τ) alloca_r0 fullShare d) ∗ semVal ((c : Thread nD τ), SemLoc.dma 9) 0 ∗ semVal ((c : Thread nD τ), SemLoc.dma 10) 0 ∗ hbPt c wHbm fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (kOut x0 x1 x2 x3 (wCast c fh0)) ∗ owns (c : Thread nD τ) arg7 fullShare (vOut x0 x1 x2 x3 (wCast c fh0))
              ∗ owns (c : Thread nD τ) arg8 fullShare (wCast c fh0) ∗ (∃ d, owns (c : Thread nD τ) alloca_r0 fullShare d) ∗ semVal ((c : Thread nD τ), SemLoc.dma 9) 0 ∗ semVal ((c : Thread nD τ), SemLoc.dma 10) 0 ∗ hbPt c wHbm fh0 ∗ (∃ W', owes (c : Thread nD τ) 0 W')) -∗ K ⟨⟩))
      ⊢ wp frame (wpE (defs₀ (F := F)) Variants.none c none) Set.univ (cc0_ctxproj i arg1 harg1 arg2 harg2 arg3 harg3 (Memref.whole main_arg3) (Memref.isWhole_whole _) arg5 harg5 arg6 harg6 arg7 harg7 arg8 harg8 alloca_r0 halloca_r0 cc0_scoped1) K := by
  simp only [cc0_ctxproj_eq_skeleton]; unfold cc0_ctxproj_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hq0, Hq1, Hh0, HW, Hk⟩
  obtain rfl := harg1.eq_unread hf0; obtain rfl := harg2.eq_unread hf1; obtain rfl := harg3.eq_unread hf2; obtain rfl := harg5.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr
    swap; · iexact H4
    ipureintro
    refine (read_store arg6 _ _).trans ?_
    unfold run_first.sl.r_2
    exact kOut_of (funext fun x => harg2.readAt_unread x1 _ x)
          (funext fun x => (harg1.readAt_unread x0 _ x).trans (congrArg x0 (Rect.emb_unit_full (s := S1x256x1024) inb_S1x256x1024_S1x256x1024_0_0_0 x)))
          (funext fun x => (harg3.readAt_unread x2 _ x).trans (congrArg x2 (Rect.emb_unit_full (s := S1x1024) inb_S1x1024_S1x1024_0_0 x)))
          (by unfold run_first.sl.v30 View.readCov; exact (View.readAt_full (s := S1024x1024) arg8.view _ inb_S1024x1024_S1024x1024_0_0).trans (by unfold run_first.sl.HS0_2 run_first.sl.r run_first.sl.v67_r0 run_first.sl.v80_r0; exact read_staged c arg8 alloca_r0 _ fs1 fh0))
          (funext fun x => harg5.readAt_unread x3 _ x)
  isplitl [H5]
  · iexists _; isplitr
    swap; · iexact H5
    ipureintro
    refine (read_store arg7 _ _).trans ?_
    unfold run_first.sl.r_1
    exact vOut_of (funext fun x => harg2.readAt_unread x1 _ x)
          (funext fun x => (harg1.readAt_unread x0 _ x).trans (congrArg x0 (Rect.emb_unit_full (s := S1x256x1024) inb_S1x256x1024_S1x256x1024_0_0_0 x)))
          (funext fun x => (harg3.readAt_unread x2 _ x).trans (congrArg x2 (Rect.emb_unit_full (s := S1x1024) inb_S1x1024_S1x1024_0_0 x)))
          (by unfold run_first.sl.v30 View.readCov; exact (View.readAt_full (s := S1024x1024) arg8.view _ inb_S1024x1024_S1024x1024_0_0).trans (by unfold run_first.sl.HS0_2 run_first.sl.r run_first.sl.v67_r0 run_first.sl.v80_r0; exact read_staged c arg8 alloca_r0 _ fs1 fh0))
          (funext fun x => harg5.readAt_unread x3 _ x)
  isplitl [HS0]
  · iexists _; isplitr
    swap; · iexact HS0
    ipureintro
    unfold run_first.sl.HS0_2 run_first.sl.r run_first.sl.v67_r0 run_first.sl.v80_r0; exact read_staged c arg8 alloca_r0 fs0 fs1 fh0
  isplitl [HS1]
  · iexists _, _; isplitr
    swap; · iexact HS1
    ipureintro; rfl
  isplitl [Hq0]; · iexact Hq0
  isplitl [Hq1]; · iexact Hq1
  isplitl [Hh0]; · iexact Hh0
  iexists _; iexact HW

set_option maxHeartbeats 1000000 in set_option sl_exec.dmaWindow true in set_option sl_exec.dmaWindowSet true in
/-- The body at a point that does not stage: the weight buffer holds `w`, is only read, and the outputs are the projection
    with it. -/
theorem run_rest (c : Dev nD) (i : grid0.Coords) (arg1 : Memref sig .tc .vmem S1x256x1024 .f32) (harg1 : arg1.IsWhole) (arg2 : Memref sig .tc .vmem S1x8x6144 .f32) (harg2 : arg2.IsWhole) (arg3 : Memref sig .tc .vmem S1x1024 .f32) (harg3 : arg3.IsWhole) (arg5 : Memref sig .tc .vmem S1x3072 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x1024 .bf16) (harg8 : arg8.IsWhole) (alloca_r0 : Memref sig .tc .vmem S2x512x1024 .f32) (halloca_r0 : alloca_r0.IsWhole) (hc0 : ¬stages i)
    (x0 : Vec F S1x256x1024 .f32) (x1 : Vec F S1x8x6144 .f32) (x2 : Vec F S1x1024 .f32) (x3 : Vec F S1x3072 .f32) (w : Vec F S1024x1024 .bf16) (fh0 : HbBuf (F := F) c wHbm) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare w ∗ (∃ d, owns (c : Thread nD τ) alloca_r0 fullShare d) ∗ semVal ((c : Thread nD τ), SemLoc.dma 9) 0 ∗ semVal ((c : Thread nD τ), SemLoc.dma 10) 0 ∗ hbPt c wHbm fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (kOut x0 x1 x2 x3 w) ∗ owns (c : Thread nD τ) arg7 fullShare (vOut x0 x1 x2 x3 w)
              ∗ owns (c : Thread nD τ) arg8 fullShare w ∗ (∃ d, owns (c : Thread nD τ) alloca_r0 fullShare d) ∗ semVal ((c : Thread nD τ), SemLoc.dma 9) 0 ∗ semVal ((c : Thread nD τ), SemLoc.dma 10) 0 ∗ hbPt c wHbm fh0 ∗ (∃ W', owes (c : Thread nD τ) 0 W')) -∗ K ⟨⟩))
      ⊢ wp frame (wpE (defs₀ (F := F)) Variants.none c none) Set.univ (cc0_ctxproj i arg1 harg1 arg2 harg2 arg3 harg3 (Memref.whole main_arg3) (Memref.isWhole_whole _) arg5 harg5 arg6 harg6 arg7 harg7 arg8 harg8 alloca_r0 halloca_r0 cc0_scoped1) K := by
  simp only [cc0_ctxproj_eq_skeleton]; unfold cc0_ctxproj_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, Hq0, Hq1, Hh0, HW, Hk⟩
  obtain rfl := harg1.eq_unread hf0; obtain rfl := harg2.eq_unread hf1; obtain rfl := harg3.eq_unread hf2; obtain rfl := harg5.eq_unread hf3; obtain rfl := harg8.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr
    swap; · iexact H4
    ipureintro
    refine (read_store arg6 _ _).trans ?_
    skip
    exact kOut_of (funext fun x => harg2.readAt_unread x1 _ x)
          (funext fun x => (harg1.readAt_unread x0 _ x).trans (congrArg x0 (Rect.emb_unit_full (s := S1x256x1024) inb_S1x256x1024_S1x256x1024_0_0_0 x)))
          (funext fun x => (harg3.readAt_unread x2 _ x).trans (congrArg x2 (Rect.emb_unit_full (s := S1x1024) inb_S1x1024_S1x1024_0_0 x)))
          (funext fun x => (harg8.readAt_unread w _ x).trans (congrArg w (Rect.emb_unit_full (s := S1024x1024) inb_S1024x1024_S1024x1024_0_0 x)))
          (funext fun x => harg5.readAt_unread x3 _ x)
  isplitl [H5]
  · iexists _; isplitr
    swap; · iexact H5
    ipureintro
    refine (read_store arg7 _ _).trans ?_
    skip
    exact vOut_of (funext fun x => harg2.readAt_unread x1 _ x)
          (funext fun x => (harg1.readAt_unread x0 _ x).trans (congrArg x0 (Rect.emb_unit_full (s := S1x256x1024) inb_S1x256x1024_S1x256x1024_0_0_0 x)))
          (funext fun x => (harg3.readAt_unread x2 _ x).trans (congrArg x2 (Rect.emb_unit_full (s := S1x1024) inb_S1x1024_S1x1024_0_0 x)))
          (funext fun x => (harg8.readAt_unread w _ x).trans (congrArg w (Rect.emb_unit_full (s := S1024x1024) inb_S1024x1024_S1024x1024_0_0 x)))
          (funext fun x => harg5.readAt_unread x3 _ x)
  isplitl [HS0]
  · iexists _; isplitr
    swap; · iexact HS0
    ipureintro
    exact harg8.read_unread w
  isplitl [HS1]
  · iexists _, _; isplitr
    swap; · iexact HS1
    ipureintro; rfl
  isplitl [Hq0]; · iexact Hq0
  isplitl [Hq1]; · iexact Hq1
  isplitl [Hh0]; · iexact Hh0
  iexists _; iexact HW

end Cert.KernelIdeal.Ctx

end
-- ==== Proof.Ctx.Dats.lean ====
/- The context projection's pipeline: what its buffers hold at every point, the body's obligation, the launch, and the frame. -/
module

public import proofs.«01_k».proof.Proof.Ctx.Run
public import Idealize.ShloMosaic.Lib.Claim

@[expose] public section

set_option maxRecDepth 16384

noncomputable section

namespace Cert.KernelIdeal.Ctx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body keeps between points once the weights are staged: the weight buffer at the rounded columns, the staging
    buffer at anything, the copies' cells at zero and the weights in HBM as launched. -/
def kept (c : Dev nD) : sProp 𝕄 :=
  iprop(iprop(owns (c : Thread nD τ) wBuf fullShare (wCast c (V m c main_arg3)) ∗ (∃ d, owns (c : Thread nD τ) stBuf fullShare d)) ∗ (∃ r, prngReg c r)
    ∗ iprop(semVal ((c : Thread nD τ), SemLoc.dma 9) 0 ∗ semVal ((c : Thread nD τ), SemLoc.dma 10) 0) ∗ iprop(hbPt c wHbm (V m c main_arg3)))

/-- The invariant before point `n`: as launched before the first, `kept` after. -/
def inv (c : Dev nD) : ℕ → sProp 𝕄
  | 0 => Pipeline.ΦD cells spec0 moved (V m) c
  | _ + 1 => kept m c

theorem inv_pos (c : Dev nD) (n : ℕ) (h : n ≠ 0) : inv m c n = kept m c := by
  cases n with
  | zero => exact absurd rfl h
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => kOut (iblk m c 0 t) (iblk m c 1 t) (iblk m c 2 t) (iblk m c 3 t) (wCast c (V m c main_arg3))
    | ⟨5, _⟩ => vOut (iblk m c 0 t) (iblk m c 1 t) (iblk m c 2 t) (iblk m c 3 t) (wCast c (V m c main_arg3))
  Φ t := inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = kOut (iblk m c 0 t) (iblk m c 1 t) (iblk m c 2 t) (iblk m c 3 t) (wCast c (V m c main_arg3)) := by dsimp only [dats]
theorem after_5 (c : Dev nD) (t : Fin cfg0.N) : (dats m 0 c).after 5 t = vOut (iblk m c 0 t) (iblk m c 1 t) (iblk m c 2 t) (iblk m c 3 t) (wCast c (V m c main_arg3)) := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (bx t) fullShare ((dats m 0 c).before 0 t d))
    ∗ (∃ d, owns (c : Thread nD τ) (bmod t) fullShare ((dats m 0 c).before 1 t d))
    ∗ (∃ d, owns (c : Thread nD τ) (bg t) fullShare ((dats m 0 c).before 2 t d))
    ∗ (∃ d, owns (c : Thread nD τ) (bb t) fullShare ((dats m 0 c).before 3 t d))
    ∗ (∃ d, owns (c : Thread nD τ) (bk t) fullShare ((dats m 0 c).before 4 t d))
    ∗ (∃ d, owns (c : Thread nD τ) (bv t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (bx t) fullShare ((dats m 0 c).after 0 t)
    ∗ owns (c : Thread nD τ) (bmod t) fullShare ((dats m 0 c).after 1 t)
    ∗ owns (c : Thread nD τ) (bg t) fullShare ((dats m 0 c).after 2 t)
    ∗ owns (c : Thread nD τ) (bb t) fullShare ((dats m 0 c).after 3 t)
    ∗ owns (c : Thread nD τ) (bk t) fullShare ((dats m 0 c).after 4 t)
    ∗ owns (c : Thread nD τ) (bv t) fullShare ((dats m 0 c).after 5 t))

set_option maxHeartbeats 3200000 in
/-- The body at any point: the first stages the weights, the others find them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = kept m c from rfl, after_0, after_1, after_2, after_3, after_4, after_5, inv_castSucc]
  unfold Dat.owesAt Pipeline.owesWithin
  rw [show (dats m 0 c).owed t.castSucc = 0 from rfl, show (dats m 0 c).owed t.succ = 0 from rfl]
  by_cases hz : t.val = 0
  · rw [show inv m c t.val = Pipeline.ΦD cells spec0 moved (V m) c from by rw [hz]; rfl, PhiD_eq]
    unfold kept
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ wBuf (Memref.isWhole_whole _) stBuf (Memref.isWhole_whole _) ((stages_iff t).mpr hz) (iblk m c 0 t) (iblk m c 1 t) (iblk m c 2 t) (iblk m c 3 t) (V m c main_arg3) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [inv_pos m c t.val hz]
    unfold kept
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩⟩
    iapply (run_rest c (grid0.coords t) _ _ _ _ _ _ _ _ _ _ _ _ wBuf (Memref.isWhole_whole _) stBuf (Memref.isWhole_whole _) (fun h => hz ((stages_iff t).mp h)) (iblk m c 0 t) (iblk m c 1 t) (iblk m c 2 t) (iblk m c 3 t) (wCast c (V m c main_arg3)) (V m c main_arg3) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦD cells spec0 moved (V m) c ⊢ (dats m 0 c).Φ 0 := Idealize.SL.BI.Entails.refl _

theorem inv_out (c : Dev nD) : (dats m 0 c).Φ (Fin.last cfg0.N) ⊢ Pipeline.ΦD cells spec0 moved (V m) c := by
  rw [show (dats m 0 c).Φ (Fin.last cfg0.N) = kept m c from
    (show _ = inv m c (Fin.last cfg0.N).val from rfl).trans (inv_pos m c _ (by rw [Fin.val_last]; have : cfg0.N = 4 := N_0; omega)), PhiD_eq]
  unfold kept
  iintro ⟨⟨HS0, HS1⟩, Hg, ⟨Hq0, Hq1⟩, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh0

-- the launch theorem's implicit arguments are found by unifying its conclusion with this one
set_option backward.isDefEq.respectTransparency.types false in
/-- The run: every array of the pipeline ends at what the proof data says, every other buffer as the call found it, and every
    semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_obligation m c).loose) (hshare := fun c => (dats m 0 c).share_full fun _ => rfl)
    (howed := fun _ _ => rfl) (V := V m) (hmain := hmainD m Variants.none) (hA := A_eq m)
    (hin := inv_in m) (hout := inv_out m)

/-- The frame: every argument ends unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).1 3).trans (((dats m 0 c).arrAt_in 3 rfl _).trans ((A_eq m c 3).trans (V_main_arg4 m c)))⟩, h.2⟩) (run_quiescent m ρ)

end Cert.KernelIdeal.Ctx

end
-- ==== Proof.Ctx.Value.lean ====
/- The context projection's results over the reals: block by block they are the reference's. -/
module

public import proofs.«01_k».proof.Proof.Ctx.Dats
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.KernelIdeal.Ctx

open Idealize.ShloMosaic Idealize.ShloMosaic.TcCoe Idealize.ShloMosaic.Tactic
open Idealize.SL Idealize.SL.Sem
open Idealize.ShloMosaic.Pipeline (Dat Cfg Window)
open Cert.KernelIdeal.Gen

/-- The weights' columns at an index. -/
theorem wCast_apply (c : Dev nD) (f : HbBuf (F := Ideal) c wHbm) (i j : Fin 1024) :
    wCast c f (ix2 i j) = f (ix3 (0 : Fin 1) i (⟨512 + j.val, by omega⟩ : Fin 3072)) := by
  have h : wRaw c f (ix2 i j) = f (ix3 (0 : Fin 1) i (⟨512 + j.val, by omega⟩ : Fin 3072)) := by
    show f ((Rect.unit (s := S1x1024x3072) ![0, 0, 512] S1x1024x1024.size inb_S1x1024x3072_S1x1024x1024_0_0_512).emb (Shape.reshapeEquiv _ (ix2 i j))) = _
    pointwise
    refine congrArg f (funext fun a => Fin.ext ?_)
    match a with
    | ⟨0, _⟩ => rfl
    | ⟨1, _⟩ => show 0 + 1 * i.val = i.val; omega
    | ⟨2, _⟩ => show 512 + 1 * j.val = 512 + j.val; omega
  exact h

theorem modRow_apply (x : Vec Ideal S1x8x6144 .f32) (j : Fin 6144) : modRow x (ix3 (0 : Fin 1) (0 : Fin 1) j) = x (ix3 (0 : Fin 1) (4 : Fin 8) j) := by
  unfold modRow
  refine congrArg x (funext fun a => Fin.ext ?_)
  match a with
  | ⟨0, _⟩ => rfl
  | ⟨1, _⟩ => rfl
  | ⟨2, _⟩ => show 0 + 1 * j.val = j.val; omega

theorem biasCols_apply (x : Vec Ideal S1x3072 .f32) (j : Fin 1024) :
    biasCols x (ix2 (0 : Fin 1) j) = x (ix2 (0 : Fin 1) (⟨512 + j.val, by omega⟩ : Fin 3072)) := by
  unfold biasCols
  refine congrArg x (funext fun a => Fin.ext ?_)
  match a with
  | ⟨0, _⟩ => rfl
  | ⟨1, _⟩ => show 512 + 1 * j.val = 512 + j.val; omega

variable (m : (ℓ : Loc nD τ sig) → Buf (Elt Ideal) ℓ) (ρ : Dev nD → PrngReg)

theorem point_lt (t : Fin cfg0.N) : t.val < 4 := Nat.lt_of_lt_of_eq t.isLt N_0

/-- Where each window's block lies at a point. -/
theorem index_0 : ∀ t : Fin cfg0.N, win0_0.index t = ![t.val, 0, 0] := (by decide +kernel : ∀ t : Fin grid0.N, win0_0.index t = ![t.val, 0, 0])
theorem index_1 : ∀ t : Fin cfg0.N, win0_1.index t = ![0, 0, 0] := (by decide +kernel : ∀ t : Fin grid0.N, win0_1.index t = ![0, 0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0, 0] := (by decide +kernel : ∀ t : Fin grid0.N, win0_4.index t = ![t.val, 0, 0])
theorem index_5 : ∀ t : Fin cfg0.N, win0_5.index t = ![t.val, 0, 0] := (by decide +kernel : ∀ t : Fin grid0.N, win0_5.index t = ![t.val, 0, 0])

/-- The input blocks at an index. -/
theorem block_0 (c : Dev nD) (t : Fin cfg0.N) (p : Fin 256) (k : Fin 1024) :
    iblk m c 0 t (ix3 (0 : Fin 1) p k) = m (c.tc.loc main_arg0) (ix3 (⟨t.val, point_lt t⟩ : Fin 4) p k) := by
  blk_ext [iblk, V, index_0 t]
theorem block_1 (c : Dev nD) (t : Fin cfg0.N) (p : Fin 8) (k : Fin 6144) :
    iblk m c 1 t (ix3 (0 : Fin 1) p k) = m (c.tc.loc main_arg1) (ix3 (0 : Fin 2) (⟨p.val, by omega⟩ : Fin 8) k) := by
  blk_ext [iblk, V, index_1 t]
theorem block_2 (c : Dev nD) (t : Fin cfg0.N) (k : Fin 1024) :
    iblk m c 2 t (ix2 (0 : Fin 1) k) = m (c.tc.loc main_arg2) (ix2 (0 : Fin 2) k) := by
  blk_simp [iblk, V, index_2 t]
  entry_read
  pointwise
  blk_ext [index_2 t]
theorem block_3 (c : Dev nD) (t : Fin cfg0.N) (k : Fin 3072) :
    iblk m c 3 t (ix2 (0 : Fin 1) k) = m (c.tc.loc main_arg4) (ix2 (0 : Fin 1) k) := by
  blk_ext [iblk, V, index_3 t]

theorem place_4 (t : Fin cfg0.N) (p : Fin 256) (q : Fin 512) :
    ((View.whole main_v3_0).slice (win0_4.rect t)).emb (ix3 (0 : Fin 1) p q) = ix3 (⟨t.val, point_lt t⟩ : Fin 4) p q := by
  blk_ext [index_4 t]
theorem place_5 (t : Fin cfg0.N) (p : Fin 256) (q : Fin 512) :
    ((View.whole main_v3_1).slice (win0_5.rect t)).emb (ix3 (0 : Fin 1) p q) = ix3 (⟨t.val, point_lt t⟩ : Fin 4) p q := by
  blk_ext [index_5 t]

/-- One entry of the projection: the row's normalised and modulated activation against a column of the weights, and the bias. -/
def proj (x : S4x256x1024.Idx → EReal) (md : S2x8x6144.Idx → EReal) (g : S2x1024.Idx → EReal) (w : S1x1024x3072.Idx → EReal) (b : S1x3072.Idx → EReal)
    (n : Fin 4) (p : Fin 256) (q : Fin 1024) : EReal :=
  ∑ k : Fin 1024, (x (ix3 n p k) * Ideal.rsqrt (Ideal.div (∑ l : Fin 1024, x (ix3 n p l) * x (ix3 n p l)) (Ideal.ofBits .f32 1149239296#32) + Ideal.ofBits .f32 897988541#32)
        * g (ix2 (0 : Fin 2) k) * (1 + md (ix3 (0 : Fin 2) (4 : Fin 8) (⟨1024 + k.val, by omega⟩ : Fin 6144))) + md (ix3 (0 : Fin 2) (4 : Fin 8) (⟨k.val, by omega⟩ : Fin 6144)))
      * w (ix3 (0 : Fin 1) k (⟨512 + q.val, by omega⟩ : Fin 3072)) + b (ix2 (0 : Fin 1) (⟨512 + q.val, by omega⟩ : Fin 3072))

section Reference
open Cert.ReferenceIdeal.Read

/-- The reference's projection at an index. -/
theorem reference_proj (x md g w b) (n : Fin 4) (p : Fin 256) (q : Fin 1024) :
    val_main_v38 (F := Ideal) x md g w b (ix3 n p q) = proj x md g w b n p q := by
  unfold proj
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_cst_2, val_main_v23, val_main_v24, val_main_v25, val_main_v26, val_main_v27, val_main_v28, val_main_v29, val_main_v30, val_main_v31, val_main_v32, val_main_v33, val_main_v34, val_main_v35, val_main_v36, val_main_v37, val_main_v38]

end Reference

/-- A point's blocks at an index. -/
theorem kOut_apply (c : Dev nD) (t : Fin cfg0.N) (p : Fin 256) (q : Fin 512) :
    kOut (iblk m c 0 t) (iblk m c 1 t) (iblk m c 2 t) (iblk m c 3 t) (wCast c (V m c main_arg3)) (ix3 (0 : Fin 1) p q)
      = proj (m (c.tc.loc main_arg0)) (m (c.tc.loc main_arg1)) (m (c.tc.loc main_arg2)) (m (c.tc.loc main_arg3)) (m (c.tc.loc main_arg4))
          ⟨t.val, point_lt t⟩ p ⟨q.val, by omega⟩ := by
  unfold kOut proj
  pointwise [k0_pay1, k0_pay6, k0_pay5]
  simp only [block_0, block_1, block_2, block_3, modRow_apply, biasCols_apply, wCast_apply, V_main_arg3]
  rfl
theorem vOut_apply (c : Dev nD) (t : Fin cfg0.N) (p : Fin 256) (q : Fin 512) :
    vOut (iblk m c 0 t) (iblk m c 1 t) (iblk m c 2 t) (iblk m c 3 t) (wCast c (V m c main_arg3)) (ix3 (0 : Fin 1) p q)
      = proj (m (c.tc.loc main_arg0)) (m (c.tc.loc main_arg1)) (m (c.tc.loc main_arg2)) (m (c.tc.loc main_arg3)) (m (c.tc.loc main_arg4))
          ⟨t.val, point_lt t⟩ p ⟨512 + q.val, by omega⟩ := by
  unfold vOut proj
  pointwise [k0_pay2, k0_pay5]
  simp only [block_0, block_1, block_2, block_3, modRow_apply, biasCols_apply, wCast_apply, V_main_arg3]
  rfl

/-- The two result arrays are the reference's. -/
theorem final_k (c : Dev nD) : (dats m 0 c).arrAt 4 cfg0.N
    = Cert.ReferenceIdeal.Read.val_main_v40 (F := Ideal) (m (c.tc.loc main_arg0)) (m (c.tc.loc main_arg1)) (m (c.tc.loc main_arg2)) (m (c.tc.loc main_arg3)) (m (c.tc.loc main_arg4)) := by
  refine (dats m 0 c).arrAt_eq_of_covers 4 _ (by decide +kernel) fun t hf y => ?_
  blk_simp
  rw [after_4]
  idx_vars y
  obtain rfl : y0 = 0 := Subsingleton.elim _ _
  rw [place_4, kOut_apply, ← reference_proj]
  pointwise [Cert.ReferenceIdeal.Read.val_main_v40, Cert.ReferenceIdeal.Read.val_main_v39]
theorem final_v (c : Dev nD) : (dats m 0 c).arrAt 5 cfg0.N
    = Cert.ReferenceIdeal.Read.val_main_v42 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after_5]
  idx_vars y
  obtain rfl : y0 = 0 := Subsingleton.elim _ _
  rw [place_5, vOut_apply, ← reference_proj]
  pointwise [Cert.ReferenceIdeal.Read.val_main_v42, Cert.ReferenceIdeal.Read.val_main_v41]

/-- The run with the values of its results. -/
theorem run_value : θ_run defs (onTc (τ := τ) (main (F := Ideal))) ⟨m, fun _ => 0, ρ⟩ (fun r => ∀ c : Dev nD,
      r.2.mem ((c.tc : Thread nD τ).loc main_v3_0) = Cert.ReferenceIdeal.Read.val_main_v40 (F := Ideal) (m (c.tc.loc main_arg0)) (m (c.tc.loc main_arg1)) (m (c.tc.loc main_arg2)) (m (c.tc.loc main_arg3)) (m (c.tc.loc main_arg4))
      ∧ r.2.mem ((c.tc : Thread nD τ).loc main_v3_1) = Cert.ReferenceIdeal.Read.val_main_v42 (F := Ideal) (m (c.tc.loc main_arg0)) (m (c.tc.loc main_arg1)) (m (c.tc.loc main_arg2)) (m (c.tc.loc main_arg3)) (m (c.tc.loc main_arg4))) :=
  (θ_run defs _ _).mono (fun _ h c => ⟨((h.1 c).1 4).trans (final_k m c), ((h.1 c).1 5).trans (final_v m c)⟩) (run_quiescent m ρ)

end Cert.KernelIdeal.Ctx

end
-- ==== Proof.Mix.Sub.lean ====
/- The output projection with the MLP, one subtile of 512 rows: both subtiles run the same computation, written once here. -/
module

public import proofs.«01_k».proof.Proof.Gen.Kernel2Ideal.Frame

@[expose] public section

set_option maxRecDepth 16384

noncomputable section

namespace Cert.Kernel2Ideal.Mix

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen

variable {F : FTy → Type} [FloatOps F]

/-- A subtile's four Hyena column blocks, brought back into row order and laid side by side. -/
def hyRows (u0 u1 u2 u3 : Vec F S8x64x128 .f32) : FVec F S512x512 .bf16 :=
  truncf .bf16 (concatenate S512x512 1 [⟨S512x128, k0_pay3 u0⟩, ⟨S512x128, k0_pay3 u1⟩, ⟨S512x128, k0_pay3 u2⟩, ⟨S512x128, k0_pay3 u3⟩] concatenates_S512x128_S512x128_S512x128_S512x128_S512x512_d1) bitsLt_bf16_f32

/-- The residual rows after the output projection. -/
def hRows (v1 : Vec F S1x1x6144 .f32) (att : Vec F S1x512x512 .bf16) (woA : Vec F S1x512x1024 .bf16) (u0 u1 u2 u3 : Vec F S8x64x128 .f32) (woB : Vec F S1x512x1024 .bf16) (bo : Vec F S1x1024 .f32) (x : Vec F S1x512x1024 .f32) : FVec F S512x1024 .f32 :=
  k0_pay11 (k0_pay2 v1) (k0_pay9 att woA) (k0_pay10 (k0_pay3 u0) (k0_pay7 (k0_pay4 u1) (k0_pay5 u1) (k0_pay6 u1)) (k0_pay8 u2) u3 woB) bo x

/-- What a subtile stores. -/
def sub (v1 : Vec F S1x1x6144 .f32) (att : Vec F S1x512x512 .bf16) (woA : Vec F S1x512x1024 .bf16) (u0 u1 u2 u3 : Vec F S8x64x128 .f32) (woB : Vec F S1x512x1024 .bf16) (bo : Vec F S1x1024 .f32) (x : Vec F S1x512x1024 .f32)
    (g : Vec F S1x1024 .f32) (a0 b0 a1 b1 a2 b2 a3 b3 : Vec F S1x1024x1024 .bf16) : FVec F S1x512x1024 .f32 :=
  k0_pay17 (k0_pay11 (k0_pay2 v1) (k0_pay9 att woA) (k0_pay10 (k0_pay3 u0) (k0_pay7 (k0_pay4 u1) (k0_pay5 u1) (k0_pay6 u1)) (k0_pay8 u2) u3 woB) bo x) (k0_pay12 (k0_pay2 v1)) (k0_pay15 (k0_pay13 (k0_pay2 v1) (k0_pay9 att woA) (k0_pay10 (k0_pay3 u0) (k0_pay7 (k0_pay4 u1) (k0_pay5 u1) (k0_pay6 u1)) (k0_pay8 u2) u3 woB) bo x g) (k0_pay14 (k0_pay2 v1) (k0_pay9 att woA) (k0_pay10 (k0_pay3 u0) (k0_pay7 (k0_pay4 u1) (k0_pay5 u1) (k0_pay6 u1)) (k0_pay8 u2) u3 woB) bo x g a0) b0 a1 b1 a2 b2) (k0_pay16 (k0_pay13 (k0_pay2 v1) (k0_pay9 att woA) (k0_pay10 (k0_pay3 u0) (k0_pay7 (k0_pay4 u1) (k0_pay5 u1) (k0_pay6 u1)) (k0_pay8 u2) u3 woB) bo x g) a3) b3

theorem first_eq (v1 : Vec F S1x1x6144 .f32) (att : Vec F S1x512x512 .bf16) (woA : Vec F S1x512x1024 .bf16) (u0 u1 u2 u3 : Vec F S8x64x128 .f32) (woB : Vec F S1x512x1024 .bf16) (bo : Vec F S1x1024 .f32) (x : Vec F S1x512x1024 .f32)
    (g : Vec F S1x1024 .f32) (a0 b0 a1 b1 a2 b2 a3 b3 : Vec F S1x1024x1024 .bf16) :
    k0_pay17 (k0_pay11 (k0_pay2 v1) (k0_pay9 att woA) (k0_pay10 (k0_pay3 u0) (k0_pay7 (k0_pay4 u1) (k0_pay5 u1) (k0_pay6 u1)) (k0_pay8 u2) u3 woB) bo x) (k0_pay12 (k0_pay2 v1)) (k0_pay15 (k0_pay13 (k0_pay2 v1) (k0_pay9 att woA) (k0_pay10 (k0_pay3 u0) (k0_pay7 (k0_pay4 u1) (k0_pay5 u1) (k0_pay6 u1)) (k0_pay8 u2) u3 woB) bo x g) (k0_pay14 (k0_pay2 v1) (k0_pay9 att woA) (k0_pay10 (k0_pay3 u0) (k0_pay7 (k0_pay4 u1) (k0_pay5 u1) (k0_pay6 u1)) (k0_pay8 u2) u3 woB) bo x g a0) b0 a1 b1 a2 b2) (k0_pay16 (k0_pay13 (k0_pay2 v1) (k0_pay9 att woA) (k0_pay10 (k0_pay3 u0) (k0_pay7 (k0_pay4 u1) (k0_pay5 u1) (k0_pay6 u1)) (k0_pay8 u2) u3 woB) bo x g) a3) b3
      = sub v1 att woA u0 u1 u2 u3 woB bo x g a0 b0 a1 b1 a2 b2 a3 b3 := rfl

theorem second_eq (v1 : Vec F S1x1x6144 .f32) (att : Vec F S1x512x512 .bf16) (woA : Vec F S1x512x1024 .bf16) (u0 u1 u2 u3 : Vec F S8x64x128 .f32) (woB : Vec F S1x512x1024 .bf16) (bo : Vec F S1x1024 .f32) (x : Vec F S1x512x1024 .f32)
    (g : Vec F S1x1024 .f32) (a0 b0 a1 b1 a2 b2 a3 b3 : Vec F S1x1024x1024 .bf16) :
    k0_pay1 (k0_pay32 (k0_pay2 v1) (k0_pay29 (k0_pay18 u0) (k0_pay19 u1) (k0_pay21 u2) (k0_pay22 u2) (k0_pay23 u2) (k0_pay24 u2) (k0_pay25 u2) (k0_pay26 u2) (k0_pay27 u2) (k0_pay28 u2) u3) (k0_pay30 att) (k0_pay31 woA) (constant S512x1024 .f32 0x00000000#32) woB bo x) (k0_pay33 (k0_pay2 v1)) (k0_pay36 (k0_pay34 (k0_pay2 v1) (k0_pay29 (k0_pay18 u0) (k0_pay19 u1) (k0_pay21 u2) (k0_pay22 u2) (k0_pay23 u2) (k0_pay24 u2) (k0_pay25 u2) (k0_pay26 u2) (k0_pay27 u2) (k0_pay28 u2) u3) (k0_pay30 att) (k0_pay31 woA) (constant S512x1024 .f32 0x00000000#32) woB bo x g) (k0_pay35 a0) (constant S512x1024 .f32 0x00000000#32) b0 a1 b1 a2 b2) (k0_pay37 (k0_pay34 (k0_pay2 v1) (k0_pay29 (k0_pay18 u0) (k0_pay19 u1) (k0_pay21 u2) (k0_pay22 u2) (k0_pay23 u2) (k0_pay24 u2) (k0_pay25 u2) (k0_pay26 u2) (k0_pay27 u2) (k0_pay28 u2) u3) (k0_pay30 att) (k0_pay31 woA) (constant S512x1024 .f32 0x00000000#32) woB bo x g) a3) b3
      = sub v1 att woA u0 u1 u2 u3 woB bo x g a0 b0 a1 b1 a2 b2 a3 b3 := rfl

/-- The Hyena half's product, from the rows. -/
theorem hyProd_eq (u0 u1 u2 u3 : Vec F S8x64x128 .f32) (woB : Vec F S1x512x1024 .bf16) :
    k0_pay10 (k0_pay3 u0) (k0_pay7 (k0_pay4 u1) (k0_pay5 u1) (k0_pay6 u1)) (k0_pay8 u2) u3 woB = matmul dot_S512x512_S512x1024_S512x1024_1_0_0_1_n_n none (hyRows u0 u1 u2 u3) (shapeCast S512x1024 woB shapeCasts_S1x512x1024_S512x1024) (constant S512x1024 .f32 0x00000000#32) := rfl

end Cert.Kernel2Ideal.Mix

end
-- ==== Proof.Layer.Mlp.lean ====
/- The squared-ReLU MLP of one normalised and modulated row, over the reals, and its hidden units taken in four chunks. -/
module

public import Idealize.ShloMosaic.PureOps.Ideal
public import Idealize.ShloMosaic.Lib.Pointwise

@[expose] public section

noncomputable section

namespace Cert.Mlp

open Idealize.ShloMosaic

/-- The reciprocal root mean square of a row of 1024 entries. -/
def rms (x : Fin 1024 → EReal) : EReal :=
  Ideal.rsqrt (Ideal.div (∑ l : Fin 1024, x l * x l) (Ideal.ofBits .f32 1149239296#32) + Ideal.ofBits .f32 897988541#32)

/-- A row normalised, with the gain `g`, scaled and shifted. -/
def act (x g sc sh : Fin 1024 → EReal) (k : Fin 1024) : EReal := x k * rms x * g k * (1 + sc k) + sh k

/-- A hidden unit, squared. -/
def unit {n : Nat} (a : Fin 1024 → EReal) (w1 : Fin 1024 → Fin n → EReal) (k : Fin n) : EReal :=
  max (∑ j : Fin 1024, a j * w1 j k) 0 * max (∑ j : Fin 1024, a j * w1 j k) 0

/-- One entry of the MLP's second product. -/
def mlp (a : Fin 1024 → EReal) (w1 : Fin 1024 → Fin 4096 → EReal) (w2 : Fin 4096 → Fin 1024 → EReal) (q : Fin 1024) : EReal :=
  ∑ k : Fin 4096, unit a w1 k * w2 k q

/-- A sum over 4096 terms as its four quarters in order. -/
theorem sum_quarters (f : Fin 4096 → EReal) :
    ∑ k : Fin 4096, f k = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [Fin.sum_univ_two_halves 3072 1024 rfl f, Fin.sum_univ_two_halves 2048 1024 rfl, Fin.sum_univ_two_halves 1024 1024 rfl]

/-- The second product, the hidden units taken in four chunks of 1024. -/
theorem mlp_chunks (a : Fin 1024 → EReal) (w1 : Fin 1024 → Fin 4096 → EReal) (w2 : Fin 4096 → Fin 1024 → EReal) (q : Fin 1024)
    (a0 a1 a2 a3 : Fin 1024 → Fin 1024 → EReal) (b0 b1 b2 b3 : Fin 1024 → Fin 1024 → EReal)
    (ha0 : ∀ j k, a0 j k = w1 j ⟨k.val, by omega⟩) (ha1 : ∀ j k, a1 j k = w1 j ⟨1024 + k.val, by omega⟩)
    (ha2 : ∀ j k, a2 j k = w1 j ⟨2048 + k.val, by omega⟩) (ha3 : ∀ j k, a3 j k = w1 j ⟨3072 + k.val, by omega⟩)
    (hb0 : ∀ k j, b0 k j = w2 ⟨k.val, by omega⟩ j) (hb1 : ∀ k j, b1 k j = w2 ⟨1024 + k.val, by omega⟩ j)
    (hb2 : ∀ k j, b2 k j = w2 ⟨2048 + k.val, by omega⟩ j) (hb3 : ∀ k j, b3 k j = w2 ⟨3072 + k.val, by omega⟩ j) :
    (∑ k : Fin 1024, unit a a0 k * b0 k q) + (∑ k : Fin 1024, unit a a1 k * b1 k q)
      + (∑ k : Fin 1024, unit a a2 k * b2 k q) + (∑ k : Fin 1024, unit a a3 k * b3 k q) = mlp a w1 w2 q := by
  unfold mlp
  rw [sum_quarters]
  simp only [unit, ha0, ha1, ha2, ha3, hb0, hb1, hb2, hb3]

end Cert.Mlp

end
-- ==== Proof.Mix.Point.lean ====
/- A subtile at an index, over the reals. -/
module

public import proofs.«01_k».proof.Proof.Mix.Sub
public import proofs.«01_k».proof.Proof.Layer.Mlp
public import Idealize.ShloMosaic.Lib.Pipeline.ValueKit
public import Idealize.ShloMosaic.Lib.Pointwise

@[expose] public section

set_option maxRecDepth 16384

noncomputable section

namespace Cert.Kernel2Ideal.Mix

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen

/-- Row `64 s + 8 a + b` of the row order is row `(a, 8 s + b)` of the block order. -/
theorem rows_apply (u : Vec Ideal S8x64x128 .f32) (s a b : Fin 8) (l : Fin 128) :
    k0_pay3 u (ix2 (⟨64 * s.val + 8 * a.val + b.val, by omega⟩ : Fin 512) l) = u (ix3 a (⟨8 * s.val + b.val, by omega⟩ : Fin 64) l) := by
  pointwise [k0_pay3]
  fin_vals s with hk
  all_goals simp only [hk, Nat.reduceSub, Nat.reduceLT, Nat.reduceMul, Nat.zero_add, ↓reduceDIte]

/-- The same at a row number. -/
theorem rows_apply' (u : Vec Ideal S8x64x128 .f32) (p : Fin 512) (l : Fin 128) :
    k0_pay3 u (ix2 p l) = u (ix3 (⟨p.val / 8 % 8, by omega⟩ : Fin 8) (⟨8 * (p.val / 64) + p.val % 8, by omega⟩ : Fin 64) l) := by
  have h := rows_apply u ⟨p.val / 64, by omega⟩ ⟨p.val / 8 % 8, by omega⟩ ⟨p.val % 8, by omega⟩ l
  have e : (⟨64 * (p.val / 64) + 8 * (p.val / 8 % 8) + p.val % 8, by omega⟩ : Fin 512) = p := Fin.ext (by show 64 * (p.val / 64) + 8 * (p.val / 8 % 8) + p.val % 8 = p.val; omega)
  exact (congrArg (fun p' => k0_pay3 u (ix2 p' l)) e.symm).trans h

/-- The Hyena rows at an index, given the four blocks' entries. -/
theorem hyRows_apply (u0 u1 u2 u3 : Vec Ideal S8x64x128 .f32) (Y : Fin 8 → Fin 64 → Fin 512 → EReal)
    (h0 : ∀ a y (l : Fin 128), u0 (ix3 a y l) = Y a y ⟨l.val, by omega⟩) (h1 : ∀ a y (l : Fin 128), u1 (ix3 a y l) = Y a y ⟨128 + l.val, by omega⟩)
    (h2 : ∀ a y (l : Fin 128), u2 (ix3 a y l) = Y a y ⟨256 + l.val, by omega⟩) (h3 : ∀ a y (l : Fin 128), u3 (ix3 a y l) = Y a y ⟨384 + l.val, by omega⟩)
    (p k : Fin 512) :
    hyRows u0 u1 u2 u3 (ix2 p k) = Y ⟨p.val / 8 % 8, by omega⟩ ⟨8 * (p.val / 64) + p.val % 8, by omega⟩ k := by
  pointwise [hyRows]
  simp only [rows_apply', h0, h1, h2, h3]
  split_ifs <;> exact congrArg (Y _ _) (Fin.ext (by dsimp only <;> omega))

/-- The residual rows at an index. -/
theorem hRows_apply (v1 : Vec Ideal S1x1x6144 .f32) (att : Vec Ideal S1x512x512 .bf16) (woA : Vec Ideal S1x512x1024 .bf16) (u0 u1 u2 u3 : Vec Ideal S8x64x128 .f32) (woB : Vec Ideal S1x512x1024 .bf16) (bo : Vec Ideal S1x1024 .f32) (x : Vec Ideal S1x512x1024 .f32) (p : Fin 512) (q : Fin 1024) :
    hRows v1 att woA u0 u1 u2 u3 woB bo x (ix2 p q)
      = x (ix3 (0 : Fin 1) p q) + v1 (ix3 (0 : Fin 1) (0 : Fin 1) (⟨2048 + q.val, by omega⟩ : Fin 6144))
          * ((∑ k : Fin 512, att (ix3 (0 : Fin 1) p k) * woA (ix3 (0 : Fin 1) k q)) + (∑ k : Fin 512, hyRows u0 u1 u2 u3 (ix2 p k) * woB (ix3 (0 : Fin 1) k q)) + bo (ix2 (0 : Fin 1) q)) := by
  unfold hRows
  rw [hyProd_eq]
  pointwise [k0_pay11, k0_pay9, k0_pay2]

/-- The normalised and modulated residual rows at an index. -/
theorem act_apply (v1 : Vec Ideal S1x1x6144 .f32) (y0 y1 : FVec Ideal S512x1024 .f32) (bo : Vec Ideal S1x1024 .f32) (x : Vec Ideal S1x512x1024 .f32) (g : Vec Ideal S1x1024 .f32)
    (p : Fin 512) (k : Fin 1024) :
    k0_pay13 (k0_pay2 v1) y0 y1 bo x g (ix2 p k)
      = Cert.Mlp.act (fun l => k0_pay11 (k0_pay2 v1) y0 y1 bo x (ix2 p l)) (fun l => g (ix2 (0 : Fin 1) l))
          (fun l => v1 (ix3 (0 : Fin 1) (0 : Fin 1) (⟨4096 + l.val, by omega⟩ : Fin 6144))) (fun l => v1 (ix3 (0 : Fin 1) (0 : Fin 1) (⟨3072 + l.val, by omega⟩ : Fin 6144))) k := by
  unfold Cert.Mlp.act Cert.Mlp.rms
  pointwise [k0_pay13, k0_pay2]

/-- A subtile at an index. -/
theorem sub_apply (v1 : Vec Ideal S1x1x6144 .f32) (att : Vec Ideal S1x512x512 .bf16) (woA : Vec Ideal S1x512x1024 .bf16) (u0 u1 u2 u3 : Vec Ideal S8x64x128 .f32) (woB : Vec Ideal S1x512x1024 .bf16) (bo : Vec Ideal S1x1024 .f32) (x : Vec Ideal S1x512x1024 .f32)
    (g : Vec Ideal S1x1024 .f32) (a0 b0 a1 b1 a2 b2 a3 b3 : Vec Ideal S1x1024x1024 .bf16) (p : Fin 512) (q : Fin 1024)
    (w1 : Fin 1024 → Fin 4096 → EReal) (w2 : Fin 4096 → Fin 1024 → EReal)
    (ha0 : ∀ j k : Fin 1024, a0 (ix3 (0 : Fin 1) j k) = w1 j ⟨k.val, by omega⟩) (ha1 : ∀ j k : Fin 1024, a1 (ix3 (0 : Fin 1) j k) = w1 j ⟨1024 + k.val, by omega⟩)
    (ha2 : ∀ j k : Fin 1024, a2 (ix3 (0 : Fin 1) j k) = w1 j ⟨2048 + k.val, by omega⟩) (ha3 : ∀ j k : Fin 1024, a3 (ix3 (0 : Fin 1) j k) = w1 j ⟨3072 + k.val, by omega⟩)
    (hb0 : ∀ k j : Fin 1024, b0 (ix3 (0 : Fin 1) k j) = w2 ⟨k.val, by omega⟩ j) (hb1 : ∀ k j : Fin 1024, b1 (ix3 (0 : Fin 1) k j) = w2 ⟨1024 + k.val, by omega⟩ j)
    (hb2 : ∀ k j : Fin 1024, b2 (ix3 (0 : Fin 1) k j) = w2 ⟨2048 + k.val, by omega⟩ j) (hb3 : ∀ k j : Fin 1024, b3 (ix3 (0 : Fin 1) k j) = w2 ⟨3072 + k.val, by omega⟩ j) :
    sub v1 att woA u0 u1 u2 u3 woB bo x g a0 b0 a1 b1 a2 b2 a3 b3 (ix3 (0 : Fin 1) p q)
      = hRows v1 att woA u0 u1 u2 u3 woB bo x (ix2 p q) + v1 (ix3 (0 : Fin 1) (0 : Fin 1) (⟨5120 + q.val, by omega⟩ : Fin 6144))
          * Cert.Mlp.mlp (Cert.Mlp.act (fun l => hRows v1 att woA u0 u1 u2 u3 woB bo x (ix2 p l)) (fun l => g (ix2 (0 : Fin 1) l))
              (fun l => v1 (ix3 (0 : Fin 1) (0 : Fin 1) (⟨4096 + l.val, by omega⟩ : Fin 6144))) (fun l => v1 (ix3 (0 : Fin 1) (0 : Fin 1) (⟨3072 + l.val, by omega⟩ : Fin 6144))))
              w1 w2 q := by
  rw [← Cert.Mlp.mlp_chunks _ w1 w2 q _ _ _ _ _ _ _ _ ha0 ha1 ha2 ha3 hb0 hb1 hb2 hb3]
  unfold sub hRows Cert.Mlp.unit
  pointwise [k0_pay17, k0_pay15, k0_pay16, k0_pay14, k0_pay12]
  simp only [act_apply]
  pointwise [k0_pay2]

end Cert.Kernel2Ideal.Mix

end
-- ==== Proof.Mix.Blocks.lean ====
/- The mixer call's blocks, read from the arguments. -/
module

public import proofs.«01_k».proof.Proof.Gen.Kernel2Ideal.Value
public import proofs.«01_k».proof.Proof.Mix.Point
public import Idealize.ShloMosaic.Lib.Pipeline.ValueKit
public import Idealize.ShloMosaic.Lib.Pointwise

@[expose] public section

set_option maxRecDepth 16384

noncomputable section

namespace Cert.Kernel2Ideal.Mix

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen Cert.Kernel2Ideal.Value

variable (m : (ℓ : Loc nD τ sig) → Buf (Elt Ideal) ℓ) (ρ : Dev nD → PrngReg)

theorem point_lt (t : Fin cfg0.N) : t.val < 16 := Nat.lt_of_lt_of_eq t.isLt N_0

/-- Where each window's block lies at a point. -/
theorem index_0 : ∀ t : Fin cfg0.N, win0_0.index t = ![t.val / 4, t.val % 4, 0] := (by decide +kernel : ∀ t : Fin grid0.N, win0_0.index t = ![t.val / 4, t.val % 4, 0])
theorem index_1 : ∀ t : Fin cfg0.N, win0_1.index t = ![t.val / 4, t.val % 4, 0] := (by decide +kernel : ∀ t : Fin grid0.N, win0_1.index t = ![t.val / 4, t.val % 4, 0])
theorem index_2 : ∀ t : Fin cfg0.N, win0_2.index t = ![t.val / 4, 0, 0, t.val % 4, 0] := (by decide +kernel : ∀ t : Fin grid0.N, win0_2.index t = ![t.val / 4, 0, 0, t.val % 4, 0])
theorem index_3 : ∀ t : Fin cfg0.N, win0_3.index t = ![0, 0, 0] := (by decide +kernel : ∀ t : Fin grid0.N, win0_3.index t = ![0, 0, 0])
theorem index_4 : ∀ t : Fin cfg0.N, win0_4.index t = ![0, 0, 0] := (by decide +kernel : ∀ t : Fin grid0.N, win0_4.index t = ![0, 0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0, 0] := (by decide +kernel : ∀ t : Fin grid0.N, win0_7.index t = ![0, 0, 0])
theorem index_8 : ∀ t : Fin cfg0.N, win0_8.index t = ![0, 0, 0] := (by decide +kernel : ∀ t : Fin grid0.N, win0_8.index t = ![0, 0, 0])
theorem index_9 : ∀ t : Fin cfg0.N, win0_9.index t = ![t.val / 4, t.val % 4, 0] := (by decide +kernel : ∀ t : Fin grid0.N, win0_9.index t = ![t.val / 4, t.val % 4, 0])

/-- The batch a point works on, and the array row of its row `p`. -/
def batch (t : Fin cfg0.N) : Fin 4 := ⟨t.val / 4, by have := point_lt t; omega⟩
def row (t : Fin cfg0.N) (p : Fin 1024) : Fin 4096 := ⟨1024 * (t.val % 4) + p.val, by omega⟩

/-- The blocks the windows bring in, at an index. -/
theorem block_0 (c : Dev nD) (t : Fin cfg0.N) (p q : Fin 1024) : iblk m c 0 t (ix3 (0 : Fin 1) p q) = m (c.tc.loc main_arg0) (ix3 (batch t) (row t p) q) := by
  have ht := point_lt t
  unfold batch row
  blk_simp [iblk, V, index_0 t]
  blk_ext [index_0 t]
theorem block_1 (c : Dev nD) (t : Fin cfg0.N) (p : Fin 1024) (q : Fin 512) : iblk m c 1 t (ix3 (0 : Fin 1) p q) = m (c.tc.loc main_arg1) (ix3 (batch t) (row t p) q) := by
  have ht := point_lt t
  unfold batch row
  blk_simp [iblk, V, index_1 t]
  entry_read
  pointwise
  try blk_ext [index_1 t]
theorem block_3 (c : Dev nD) (t : Fin cfg0.N) (n : Fin 8) (j : Fin 6144) : iblk m c 3 t (ix3 (0 : Fin 1) n j) = m (c.tc.loc main_arg3) (ix3 (0 : Fin 2) n j) := by
  have ht := point_lt t
  blk_simp [iblk, V, index_3 t]
  blk_ext [index_3 t]
theorem block_4 (c : Dev nD) (t : Fin cfg0.N) (p q : Fin 1024) : iblk m c 4 t (ix3 (0 : Fin 1) p q) = m (c.tc.loc main_arg4) (ix3 (0 : Fin 1) p q) := by
  have ht := point_lt t
  blk_simp [iblk, V, index_4 t]
  entry_read
  pointwise
  try blk_ext [index_4 t]
theorem block_5 (c : Dev nD) (t : Fin cfg0.N) (q : Fin 1024) : iblk m c 5 t (ix2 (0 : Fin 1) q) = m (c.tc.loc main_arg5) (ix2 (0 : Fin 1) q) := by
  have ht := point_lt t
  blk_simp [iblk, V, index_5 t]
  entry_read
  pointwise
  try blk_ext [index_5 t]
theorem block_6 (c : Dev nD) (t : Fin cfg0.N) (q : Fin 1024) : iblk m c 6 t (ix2 (0 : Fin 1) q) = m (c.tc.loc main_arg6) (ix2 (0 : Fin 2) q) := by
  have ht := point_lt t
  blk_simp [iblk, V, index_6 t]
  entry_read
  pointwise
  try blk_ext [index_6 t]
theorem block_7 (c : Dev nD) (t : Fin cfg0.N) (p : Fin 1024) (q : Fin 4096) : iblk m c 7 t (ix3 (0 : Fin 1) p q) = m (c.tc.loc main_arg7) (ix3 (0 : Fin 2) p q) := by
  have ht := point_lt t
  blk_simp [iblk, V, index_7 t]
  entry_read
  pointwise
  try blk_ext [index_7 t]
theorem block_8 (c : Dev nD) (t : Fin cfg0.N) (p : Fin 4096) (q : Fin 1024) : iblk m c 8 t (ix3 (0 : Fin 1) p q) = m (c.tc.loc main_arg8) (ix3 (0 : Fin 2) p q) := by
  have ht := point_lt t
  blk_simp [iblk, V, index_8 t]
  entry_read
  pointwise
  try blk_ext [index_8 t]

/-- The Hyena output is packed eight rows at a time: packed row `y` of plane `a` is array row `64 * (y / 8) + 8 * a + y % 8` of the tile. -/
theorem block_2 (c : Dev nD) (t : Fin cfg0.N) (cb : Fin 4) (a : Fin 8) (y l : Fin 128) : iblk m c 2 t (ix5 (0 : Fin 1) cb a y l) = m (c.tc.loc main_arg2) (ix3 (batch t) (row t ⟨64 * (y.val / 8) + 8 * a.val + y.val % 8, by omega⟩) (⟨128 * cb.val + l.val, by omega⟩ : Fin 512)) := by
  have ht := point_lt t
  unfold batch row
  blk_simp [iblk, V, index_2 t]
  entry_read
  pointwise
  try blk_ext [index_2 t]

/-- Where the output's block lies. -/
theorem place_9 (t : Fin cfg0.N) (p q : Fin 1024) : ((View.whole main_v12).slice (win0_9.rect t)).emb (ix3 (0 : Fin 1) p q) = ix3 (batch t) (row t p) q := by
  have ht := point_lt t
  unfold batch row
  blk_ext [index_9 t]

end Cert.Kernel2Ideal.Mix

end
-- ==== Proof.Mix.Reference.lean ====
/- The layer 0 result at an index, and the reference there. -/
module

public import proofs.«01_k».proof.Proof.Gen.Reference2Ideal.Read
public import proofs.«01_k».proof.Proof.Layer.Mlp
public import Idealize.ShloMosaic.Lib.Pointwise

@[expose] public section

set_option maxRecDepth 16384

noncomputable section

namespace Cert.Reference2Ideal.Mix

open Idealize.ShloMosaic Idealize.ShloMosaic.TcCoe Idealize.ShloMosaic.Tactic
open Idealize.SL Idealize.SL.Sem
open Idealize.ShloMosaic.Pipeline (Dat Cfg Window)
open Cert.Reference2Ideal Cert.Reference2Ideal.Read

/-- The residual rows: the input plus the gated output projection of the two mixers' columns. -/
def resid (x : S4x4096x1024.Idx → EReal) (att hy : S4x4096x512.Idx → EReal) (md : S2x8x6144.Idx → EReal) (wo : S1x1024x1024.Idx → EReal) (bo : S1x1024.Idx → EReal) (n : Fin 4) (r : Fin 4096) (q : Fin 1024) : EReal :=
  x (ix3 n r q) + md (ix3 (0 : Fin 2) (⟨n.val, by omega⟩ : Fin 8) (⟨2048 + q.val, by omega⟩ : Fin 6144))
    * ((∑ k : Fin 512, att (ix3 n r k) * wo (ix3 (0 : Fin 1) (⟨k.val, by omega⟩ : Fin 1024) q))
        + (∑ k : Fin 512, hy (ix3 n r k) * wo (ix3 (0 : Fin 1) (⟨512 + k.val, by omega⟩ : Fin 1024) q)) + bo (ix2 (0 : Fin 1) q))

/-- The residual rows normalised and modulated. -/
def acted (x : S4x4096x1024.Idx → EReal) (att hy : S4x4096x512.Idx → EReal) (md : S2x8x6144.Idx → EReal) (wo : S1x1024x1024.Idx → EReal) (bo : S1x1024.Idx → EReal) (g : S2x1024.Idx → EReal) (n : Fin 4) (r : Fin 4096) : Fin 1024 → EReal :=
  Cert.Mlp.act (fun l => resid x att hy md wo bo n r l) (fun l => g (ix2 (0 : Fin 2) l))
    (fun l => md (ix3 (0 : Fin 2) (⟨n.val, by omega⟩ : Fin 8) (⟨4096 + l.val, by omega⟩ : Fin 6144)))
    (fun l => md (ix3 (0 : Fin 2) (⟨n.val, by omega⟩ : Fin 8) (⟨3072 + l.val, by omega⟩ : Fin 6144)))

/-- The result: the residual rows plus the gated MLP. -/
def entry (x : S4x4096x1024.Idx → EReal) (att hy : S4x4096x512.Idx → EReal) (md : S2x8x6144.Idx → EReal) (wo : S1x1024x1024.Idx → EReal) (bo : S1x1024.Idx → EReal) (g : S2x1024.Idx → EReal) (w1 : S2x1024x4096.Idx → EReal) (w2 : S2x4096x1024.Idx → EReal) (n : Fin 4) (r : Fin 4096) (q : Fin 1024) : EReal :=
  resid x att hy md wo bo n r q + md (ix3 (0 : Fin 2) (⟨n.val, by omega⟩ : Fin 8) (⟨5120 + q.val, by omega⟩ : Fin 6144))
    * Cert.Mlp.mlp (acted x att hy md wo bo g n r) (fun j k => w1 (ix3 (0 : Fin 2) j k)) (fun k j => w2 (ix3 (0 : Fin 2) k j)) q

theorem resid_read (x : S4x4096x1024.Idx → EReal) (att hy : S4x4096x512.Idx → EReal) (md : S2x8x6144.Idx → EReal) (wo : S1x1024x1024.Idx → EReal) (bo : S1x1024.Idx → EReal) (n : Fin 4) (r : Fin 4096) (q : Fin 1024) :
    val_main_v23 (F := Ideal) x att hy md wo bo (ix3 n r q) = resid x att hy md wo bo n r q := by
  unfold resid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23]

theorem acted_read (x : S4x4096x1024.Idx → EReal) (att hy : S4x4096x512.Idx → EReal) (md : S2x8x6144.Idx → EReal) (wo : S1x1024x1024.Idx → EReal) (bo : S1x1024.Idx → EReal) (g : S2x1024.Idx → EReal) (n : Fin 4) (r : Fin 4096) (k : Fin 1024) :
    val_main_v44 (F := Ideal) x att hy md wo bo g (ix3 n r k) = acted x att hy md wo bo g n r k := by
  unfold acted Cert.Mlp.act Cert.Mlp.rms
  simp only [← resid_read]
  pointwise [val_main_v0, val_main_v1, val_main_v2, val_main_v3, val_main_v4, val_main_v5, val_main_v6, val_main_v7, val_main_v8, val_main_v9, val_main_v10, val_main_v11, val_main_v12, val_main_v13, val_main_v24, val_main_v25, val_main_v26, val_main_cst, val_main_v27, val_main_v28, val_main_cst_0, val_main_v29, val_main_v30, val_main_cst_1, val_main_v31, val_main_v32, val_main_v33, val_main_v34, val_main_v35, val_main_v36, val_main_v37, val_main_v38, val_main_cst_2, val_main_v39, val_main_v40, val_main_v41, val_main_v42, val_main_v43, val_main_v44]

theorem reference_apply (x : S4x4096x1024.Idx → EReal) (att hy : S4x4096x512.Idx → EReal) (md : S2x8x6144.Idx → EReal) (wo : S1x1024x1024.Idx → EReal) (bo : S1x1024.Idx → EReal) (g : S2x1024.Idx → EReal) (w1 : S2x1024x4096.Idx → EReal) (w2 : S2x4096x1024.Idx → EReal) (n : Fin 4) (r : Fin 4096) (q : Fin 1024) :
    val_main_v55 (F := Ideal) x att hy md wo bo g w1 w2 (ix3 n r q) = entry x att hy md wo bo g w1 w2 n r q := by
  unfold entry Cert.Mlp.mlp Cert.Mlp.unit
  simp only [← resid_read, ← acted_read]
  pointwise [val_main_v0, val_main_v1, val_main_v2, val_main_v3, val_main_v4, val_main_v5, val_main_v6, val_main_v7, val_main_v8, val_main_v9, val_main_v10, val_main_v11, val_main_v12, val_main_v13, val_main_v45, val_main_v46, val_main_v47, val_main_v48, val_main_v49, val_main_call0_cst, val_main_call0_v0, val_main_v50, val_main_v51, val_main_v52, val_main_v53, val_main_v54, val_main_v55]

end Cert.Reference2Ideal.Mix

end
-- ==== Proof.Mix.Value.lean ====
/- The mixer call's result over the reals: block by block it is the reference's. -/
module

public import proofs.«01_k».proof.Proof.Mix.Blocks
public import proofs.«01_k».proof.Proof.Mix.Reference
public import proofs.«01_k».proof.Proof.Gen.Reference2Ideal.Run
public import Idealize.ShloMosaic.Lib.WholeRead
public import Idealize.ShloMosaic.Lib.ValueLayout

@[expose] public section

set_option maxRecDepth 16384

noncomputable section

namespace Cert.Kernel2Ideal.Mix

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen Cert.Kernel2Ideal.Value

/-- Where a packed Hyena row, a channel block's column, a weight chunk's column and a batch's modulation row lie. -/
abbrev packRow (a : Fin 8) (y : Fin 64) : Fin 512 := ⟨64 * (y.val / 8) + 8 * a.val + y.val % 8, by omega⟩
abbrev colH (c : Fin 4) (l : Fin 128) : Fin 512 := ⟨128 * c.val + l.val, by omega⟩
abbrev colW (c : Fin 4) (k : Fin 1024) : Fin 4096 := ⟨1024 * c.val + k.val, by omega⟩
abbrev lowHalf (k : Fin 512) : Fin 1024 := ⟨k.val, by omega⟩
abbrev highHalf (k : Fin 512) : Fin 1024 := ⟨512 + k.val, by omega⟩
abbrev asEight (n : Fin 4) : Fin 8 := ⟨n.val, by omega⟩

/-- A subtile whose loads are the arguments' rows `R` stores the result's rows `R`. -/
theorem sub_entry (v1 : Vec Ideal S1x1x6144 .f32) (att : Vec Ideal S1x512x512 .bf16) (woA : Vec Ideal S1x512x1024 .bf16) (u0 u1 u2 u3 : Vec Ideal S8x64x128 .f32) (woB : Vec Ideal S1x512x1024 .bf16) (bo : Vec Ideal S1x1024 .f32) (x : Vec Ideal S1x512x1024 .f32)
    (g : Vec Ideal S1x1024 .f32) (a0 b0 a1 b1 a2 b2 a3 b3 : Vec Ideal S1x1024x1024 .bf16)
    (X : S4x4096x1024.Idx → EReal) (ATT HY : S4x4096x512.Idx → EReal) (MD : S2x8x6144.Idx → EReal) (WO : S1x1024x1024.Idx → EReal) (BO : S1x1024.Idx → EReal) (G : S2x1024.Idx → EReal) (W1 : S2x1024x4096.Idx → EReal) (W2 : S2x4096x1024.Idx → EReal)
    (n : Fin 4) (R : Fin 512 → Fin 4096)
    (hv : ∀ j, v1 (ix3 (0 : Fin 1) (0 : Fin 1) j) = MD (ix3 (0 : Fin 2) (asEight n) j))
    (hatt : ∀ (p k : Fin 512), att (ix3 (0 : Fin 1) p k) = ATT (ix3 n (R p) k))
    (hwA : ∀ (k : Fin 512) (q : Fin 1024), woA (ix3 (0 : Fin 1) k q) = WO (ix3 (0 : Fin 1) (lowHalf k) q))
    (hwB : ∀ (k : Fin 512) (q : Fin 1024), woB (ix3 (0 : Fin 1) k q) = WO (ix3 (0 : Fin 1) (highHalf k) q))
    (hbo : ∀ q, bo (ix2 (0 : Fin 1) q) = BO (ix2 (0 : Fin 1) q))
    (hx : ∀ (p : Fin 512) (q : Fin 1024), x (ix3 (0 : Fin 1) p q) = X (ix3 n (R p) q))
    (hg : ∀ q, g (ix2 (0 : Fin 1) q) = G (ix2 (0 : Fin 2) q))
    (hu0 : ∀ (a : Fin 8) (y : Fin 64) (l : Fin 128), u0 (ix3 a y l) = HY (ix3 n (R (packRow a y)) (colH 0 l)))
    (hu1 : ∀ (a : Fin 8) (y : Fin 64) (l : Fin 128), u1 (ix3 a y l) = HY (ix3 n (R (packRow a y)) (colH 1 l)))
    (hu2 : ∀ (a : Fin 8) (y : Fin 64) (l : Fin 128), u2 (ix3 a y l) = HY (ix3 n (R (packRow a y)) (colH 2 l)))
    (hu3 : ∀ (a : Fin 8) (y : Fin 64) (l : Fin 128), u3 (ix3 a y l) = HY (ix3 n (R (packRow a y)) (colH 3 l)))
    (ha0 : ∀ j k : Fin 1024, a0 (ix3 (0 : Fin 1) j k) = W1 (ix3 (0 : Fin 2) j (colW 0 k)))
    (hb0 : ∀ k j : Fin 1024, b0 (ix3 (0 : Fin 1) k j) = W2 (ix3 (0 : Fin 2) (colW 0 k) j))
    (ha1 : ∀ j k : Fin 1024, a1 (ix3 (0 : Fin 1) j k) = W1 (ix3 (0 : Fin 2) j (colW 1 k)))
    (hb1 : ∀ k j : Fin 1024, b1 (ix3 (0 : Fin 1) k j) = W2 (ix3 (0 : Fin 2) (colW 1 k) j))
    (ha2 : ∀ j k : Fin 1024, a2 (ix3 (0 : Fin 1) j k) = W1 (ix3 (0 : Fin 2) j (colW 2 k)))
    (hb2 : ∀ k j : Fin 1024, b2 (ix3 (0 : Fin 1) k j) = W2 (ix3 (0 : Fin 2) (colW 2 k) j))
    (ha3 : ∀ j k : Fin 1024, a3 (ix3 (0 : Fin 1) j k) = W1 (ix3 (0 : Fin 2) j (colW 3 k)))
    (hb3 : ∀ k j : Fin 1024, b3 (ix3 (0 : Fin 1) k j) = W2 (ix3 (0 : Fin 2) (colW 3 k) j))
    (p : Fin 512) (q : Fin 1024) :
    sub v1 att woA u0 u1 u2 u3 woB bo x g a0 b0 a1 b1 a2 b2 a3 b3 (ix3 (0 : Fin 1) p q) = Cert.Reference2Ideal.Mix.entry X ATT HY MD WO BO G W1 W2 n (R p) q := by
  have hh : ∀ p k : Fin 512, hyRows u0 u1 u2 u3 (ix2 p k) = HY (ix3 n (R p) k) := fun p k =>
    (hyRows_apply u0 u1 u2 u3 (fun a y k => HY (ix3 n (R (packRow a y)) k)) (fun a y l => (hu0 a y l).trans (congrArg (fun k => HY (ix3 n (R (packRow a y)) k)) (Fin.ext (Nat.zero_add l.val)))) hu1 hu2 hu3 p k).trans
      (congrArg (fun r => HY (ix3 n (R r) k)) (Fin.ext (by dsimp only; omega)))
  have hr : ∀ (p : Fin 512) (q : Fin 1024), hRows v1 att woA u0 u1 u2 u3 woB bo x (ix2 p q) = Cert.Reference2Ideal.Mix.resid X ATT HY MD WO BO n (R p) q := fun p q => by
    rw [hRows_apply]
    unfold Cert.Reference2Ideal.Mix.resid
    simp only [hv, hatt, hwA, hwB, hbo, hx, hh]
  rw [sub_apply v1 att woA u0 u1 u2 u3 woB bo x g a0 b0 a1 b1 a2 b2 a3 b3 p q (fun j k => W1 (ix3 (0 : Fin 2) j k)) (fun k j => W2 (ix3 (0 : Fin 2) k j))
    (fun j k => (ha0 j k).trans (congrArg (fun k => W1 (ix3 (0 : Fin 2) j k)) (Fin.ext (Nat.zero_add k.val)))) ha1 ha2 ha3
    (fun k j => (hb0 k j).trans (congrArg (fun k => W2 (ix3 (0 : Fin 2) k j)) (Fin.ext (Nat.zero_add k.val)))) hb1 hb2 hb3]
  simp only [hr, hv, hg]
  unfold Cert.Reference2Ideal.Mix.entry Cert.Reference2Ideal.Mix.acted
  rfl

variable (m : (ℓ : Loc nD τ sig) → Buf (Elt Ideal) ℓ) (ρ : Dev nD → PrngReg)

/-- A subtile's rows of the result. -/
abbrev subRow (t : Fin cfg0.N) (o : ℕ) (ho : o ≤ 512) (p : Fin 512) : Fin 4096 := ⟨1024 * (t.val % 4) + o + p.val, by omega⟩

/-- The modulation row a point loads is its batch's. -/
theorem off1_eq : ∀ t : Fin cfg0.N, k0_off1 (grid0.coords t) = ![0, t.val / 4, 0] := (by decide +kernel : ∀ t : Fin grid0.N, k0_off1 (grid0.coords t) = ![0, t.val / 4, 0])
theorem modRow_apply (t : Fin cfg0.N) (f : Vec Ideal S1x8x6144 .f32) (inb) (j : Fin 6144) :
    View.ld f (Rect.unit (k0_off1 (grid0.coords t)) ![1, 1, 6144] inb) (ix3 (0 : Fin 1) (0 : Fin 1) j) = f (ix3 (0 : Fin 1) (⟨(batch t).val, by omega⟩ : Fin 8) j) := by
  refine View.ld_unit_apply_of f _ _ inb _ _ fun a => ?_
  have e := congrFun (off1_eq t) a
  refine Eq.trans ?_ (congrArg (· + _) e.symm)
  match a with
  | ⟨0, _⟩ => rfl
  | ⟨1, _⟩ => rfl
  | ⟨2, _⟩ => show j.val = 0 + j.val; omega

/-- A load of packed Hyena rows through the channel block's view. -/
theorem hyTile_0 (t : Fin cfg0.N) (f : Vec Ideal S1x4x8x128x128 .f32) (hw : (ms0_2 t).IsWhole) (inb hn) (o : ℕ) (inb') (a : Fin 8) (y : Fin 64) (l : Fin 128) (ho : o + 64 ≤ 128) :
    View.ld (View.read (Elt Ideal) (((ms0_2 t).view.slice (Rect.unit ![0, 0, 0, 0, 0] ![1, 1, 8, 128, 128] inb)).reshape S8x128x128 hn) (hw.unread f)) (Rect.unit ![0, o, 0] ![8, 64, 128] inb') (ix3 a y l)
      = f (ix5 (0 : Fin 1) (0 : Fin 4) a (⟨o + y.val, by omega⟩ : Fin 128) l) := by
  refine (View.ld_unit_apply_of _ _ _ inb' _ (ix3 a (⟨o + y.val, by omega⟩ : Fin 128) l) fun a => ?_).trans ?_
  · match a with
    | ⟨0, _⟩ => exact (Nat.zero_add _).symm
    | ⟨1, _⟩ => rfl
    | ⟨2, _⟩ => exact (Nat.zero_add _).symm
  · refine (congrFun (hw.read_unread (Val := Elt Ideal) f) _).trans ?_
    refine (congrArg (fun i => f ((Rect.unit (s := S1x4x8x128x128) ![0, 0, 0, 0, 0] ![1, 1, 8, 128, 128] inb).emb i)) (Idealize.ShloMosaic.ValueIdx.reshapeEquiv_ix3_11abc hn a (⟨o + y.val, by omega⟩ : Fin 128) l)).trans ?_
    blk_ext
theorem hyTile_1 (t : Fin cfg0.N) (f : Vec Ideal S1x4x8x128x128 .f32) (hw : (ms0_2 t).IsWhole) (inb hn) (o : ℕ) (inb') (a : Fin 8) (y : Fin 64) (l : Fin 128) (ho : o + 64 ≤ 128) :
    View.ld (View.read (Elt Ideal) (((ms0_2 t).view.slice (Rect.unit ![0, 1, 0, 0, 0] ![1, 1, 8, 128, 128] inb)).reshape S8x128x128 hn) (hw.unread f)) (Rect.unit ![0, o, 0] ![8, 64, 128] inb') (ix3 a y l)
      = f (ix5 (0 : Fin 1) (1 : Fin 4) a (⟨o + y.val, by omega⟩ : Fin 128) l) := by
  refine (View.ld_unit_apply_of _ _ _ inb' _ (ix3 a (⟨o + y.val, by omega⟩ : Fin 128) l) fun a => ?_).trans ?_
  · match a with
    | ⟨0, _⟩ => exact (Nat.zero_add _).symm
    | ⟨1, _⟩ => rfl
    | ⟨2, _⟩ => exact (Nat.zero_add _).symm
  · refine (congrFun (hw.read_unread (Val := Elt Ideal) f) _).trans ?_
    refine (congrArg (fun i => f ((Rect.unit (s := S1x4x8x128x128) ![0, 1, 0, 0, 0] ![1, 1, 8, 128, 128] inb).emb i)) (Idealize.ShloMosaic.ValueIdx.reshapeEquiv_ix3_11abc hn a (⟨o + y.val, by omega⟩ : Fin 128) l)).trans ?_
    blk_ext
theorem hyTile_2 (t : Fin cfg0.N) (f : Vec Ideal S1x4x8x128x128 .f32) (hw : (ms0_2 t).IsWhole) (inb hn) (o : ℕ) (inb') (a : Fin 8) (y : Fin 64) (l : Fin 128) (ho : o + 64 ≤ 128) :
    View.ld (View.read (Elt Ideal) (((ms0_2 t).view.slice (Rect.unit ![0, 2, 0, 0, 0] ![1, 1, 8, 128, 128] inb)).reshape S8x128x128 hn) (hw.unread f)) (Rect.unit ![0, o, 0] ![8, 64, 128] inb') (ix3 a y l)
      = f (ix5 (0 : Fin 1) (2 : Fin 4) a (⟨o + y.val, by omega⟩ : Fin 128) l) := by
  refine (View.ld_unit_apply_of _ _ _ inb' _ (ix3 a (⟨o + y.val, by omega⟩ : Fin 128) l) fun a => ?_).trans ?_
  · match a with
    | ⟨0, _⟩ => exact (Nat.zero_add _).symm
    | ⟨1, _⟩ => rfl
    | ⟨2, _⟩ => exact (Nat.zero_add _).symm
  · refine (congrFun (hw.read_unread (Val := Elt Ideal) f) _).trans ?_
    refine (congrArg (fun i => f ((Rect.unit (s := S1x4x8x128x128) ![0, 2, 0, 0, 0] ![1, 1, 8, 128, 128] inb).emb i)) (Idealize.ShloMosaic.ValueIdx.reshapeEquiv_ix3_11abc hn a (⟨o + y.val, by omega⟩ : Fin 128) l)).trans ?_
    blk_ext
theorem hyTile_3 (t : Fin cfg0.N) (f : Vec Ideal S1x4x8x128x128 .f32) (hw : (ms0_2 t).IsWhole) (inb hn) (o : ℕ) (inb') (a : Fin 8) (y : Fin 64) (l : Fin 128) (ho : o + 64 ≤ 128) :
    View.ld (View.read (Elt Ideal) (((ms0_2 t).view.slice (Rect.unit ![0, 3, 0, 0, 0] ![1, 1, 8, 128, 128] inb)).reshape S8x128x128 hn) (hw.unread f)) (Rect.unit ![0, o, 0] ![8, 64, 128] inb') (ix3 a y l)
      = f (ix5 (0 : Fin 1) (3 : Fin 4) a (⟨o + y.val, by omega⟩ : Fin 128) l) := by
  refine (View.ld_unit_apply_of _ _ _ inb' _ (ix3 a (⟨o + y.val, by omega⟩ : Fin 128) l) fun a => ?_).trans ?_
  · match a with
    | ⟨0, _⟩ => exact (Nat.zero_add _).symm
    | ⟨1, _⟩ => rfl
    | ⟨2, _⟩ => exact (Nat.zero_add _).symm
  · refine (congrFun (hw.read_unread (Val := Elt Ideal) f) _).trans ?_
    refine (congrArg (fun i => f ((Rect.unit (s := S1x4x8x128x128) ![0, 3, 0, 0, 0] ![1, 1, 8, 128, 128] inb).emb i)) (Idealize.ShloMosaic.ValueIdx.reshapeEquiv_ix3_11abc hn a (⟨o + y.val, by omega⟩ : Fin 128) l)).trans ?_
    blk_ext

/-- Three coordinates, one by one. -/
theorem coords3 {i j : Fin 3 → ℕ} (h0 : i 0 = j 0) (h1 : i 1 = j 1) (h2 : i 2 = j 2) : ∀ a, i a = j a
  | ⟨0, _⟩ => h0
  | ⟨1, _⟩ => h1
  | ⟨2, _⟩ => h2

/-- A Hyena entry named by its row and channel. -/
theorem packed (c : Dev nD) (t : Fin cfg0.N) (n : Fin 4) (r r' : Fin 4096) (k k' : Fin 512) (h : r.val = r'.val) (h' : k.val = k'.val) :
    m (c.tc.loc main_arg2) (ix3 n r k) = m (c.tc.loc main_arg2) (ix3 n r' k') := by
  rw [Fin.ext h, Fin.ext h']

set_option maxHeartbeats 1000000 in
/-- What the two subtiles of a point store, at the result's rows: the result array is the reference's. -/
theorem final_9 (c : Dev nD) : (dats m 0 c).arrAt 9 cfg0.N = Cert.Reference2Ideal.Read.val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 9 _ (by decide +kernel) fun t hf y => ?_
  blk_simp
  rw [after0_9]
  unfold outsAt0 out0_A_9
  frame_out
  idx_vars y
  obtain rfl : y0 = 0 := Subsingleton.elim _ _
  rw [place_9, Cert.Reference2Ideal.Mix.reference_apply]
  have ht := point_lt t
  by_cases h : y1.val < 512
  · have hi : (ix3 (0 : Fin 1) y1 y2 : S1x1024x1024.Idx) = (Rect.unit (s := S1x1024x1024) ![0, 0, 0] ![1, 512, 1024] inb_S1x1024x1024_S1x512x1024_0_0_0).emb (ix3 (0 : Fin 1) (⟨y1.val - 0, by omega⟩ : Fin 512) y2) := by
      refine funext fun a => Fin.ext ?_
      match a with
      | ⟨0, _⟩ => rfl
      | ⟨1, _⟩ => show y1.val = 0 + 1 * (y1.val - 0); omega
      | ⟨2, _⟩ => show y2.val = 0 + 1 * y2.val; omega
    have hR : row t y1 = subRow t 0 (by omega) (⟨y1.val - 0, by omega⟩ : Fin 512) := Fin.ext (by simp only [row, subRow]; omega)
    rw [hR, hi]
    rw [View.canon_cons_of_not_mem _ _ (Rect.not_mem_set_of_axis _ _ (1 : Fin 3) 512 512 rfl rfl rfl (by show 0 + 1 * (y1.val - 0) < 512 ∨ _; omega))]
    rw [View.canon_cons_emb]
    refine (congrFun (first_eq _ _ _ _ _ _ _ _ _ _ _ _ _ _ _ _ _ _ _) _).trans
      (sub_entry _ _ _ _ _ _ _ _ _ _ _ _ _ _ _ _ _ _ _ (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (batch t) (subRow t 0 (by omega))
        ?_ ?_ ?_ ?_ ?_ ?_ ?_ ?_ ?_ ?_ ?_ ?_ ?_ ?_ ?_ ?_ ?_ ?_ ?_ _ _)
    · exact fun j => (modRow_apply t _ _ j).trans (block_3 m c t _ _)
    · exact fun p k => (View.ld_unit_apply_of _ _ _ _ _ (ix3 (0 : Fin 1) (⟨0 + p.val, by omega⟩ : Fin 1024) k) (coords3 rfl rfl (Nat.zero_add _).symm)).trans
        ((block_1 m c t _ _).trans (congrArg (fun r => m (c.tc.loc main_arg1) (ix3 (batch t) r k)) (Fin.ext (by simp only [row, subRow]; omega))))
    · exact fun k q => (View.ld_unit_apply_of _ _ _ _ _ (ix3 (0 : Fin 1) (lowHalf k) q) (coords3 rfl (Nat.zero_add _).symm (Nat.zero_add _).symm)).trans (block_4 m c t _ _)
    · exact fun k q => (View.ld_unit_apply_of _ _ _ _ _ (ix3 (0 : Fin 1) (highHalf k) q) (coords3 rfl rfl (Nat.zero_add _).symm)).trans (block_4 m c t _ _)
    · exact block_5 m c t
    · exact fun p q => (View.ld_unit_apply_of _ _ _ _ _ (ix3 (0 : Fin 1) (⟨0 + p.val, by omega⟩ : Fin 1024) q) (coords3 rfl rfl (Nat.zero_add _).symm)).trans
        ((block_0 m c t _ _).trans (congrArg (fun r => m (c.tc.loc main_arg0) (ix3 (batch t) r q)) (Fin.ext (by simp only [row, subRow]; omega))))
    · exact block_6 m c t
    · exact fun a y l => (hyTile_0 t _ _ _ _ 0 _ a y l (by omega)).trans ((block_2 m c t _ _ _ _).trans (packed m c t _ _ _ _ _ (by simp only [row, subRow]; omega) rfl))
    · exact fun a y l => (hyTile_1 t _ _ _ _ 0 _ a y l (by omega)).trans ((block_2 m c t _ _ _ _).trans (packed m c t _ _ _ _ _ (by simp only [row, subRow]; omega) rfl))
    · exact fun a y l => (hyTile_2 t _ _ _ _ 0 _ a y l (by omega)).trans ((block_2 m c t _ _ _ _).trans (packed m c t _ _ _ _ _ (by simp only [row, subRow]; omega) rfl))
    · exact fun a y l => (hyTile_3 t _ _ _ _ 0 _ a y l (by omega)).trans ((block_2 m c t _ _ _ _).trans (packed m c t _ _ _ _ _ (by simp only [row, subRow]; omega) rfl))
    · exact fun j k => (View.ld_unit_apply_of _ _ _ _ _ (ix3 (0 : Fin 1) j (colW 0 k : Fin 4096)) (coords3 rfl (Nat.zero_add _).symm rfl)).trans (block_7 m c t _ _)
    · exact fun k j => (View.ld_unit_apply_of _ _ _ _ _ (ix3 (0 : Fin 1) (colW 0 k : Fin 4096) j) (coords3 rfl rfl (Nat.zero_add _).symm)).trans (block_8 m c t _ _)
    · exact fun j k => (View.ld_unit_apply_of _ _ _ _ _ (ix3 (0 : Fin 1) j (colW 1 k : Fin 4096)) (coords3 rfl (Nat.zero_add _).symm rfl)).trans (block_7 m c t _ _)
    · exact fun k j => (View.ld_unit_apply_of _ _ _ _ _ (ix3 (0 : Fin 1) (colW 1 k : Fin 4096) j) (coords3 rfl rfl (Nat.zero_add _).symm)).trans (block_8 m c t _ _)
    · exact fun j k => (View.ld_unit_apply_of _ _ _ _ _ (ix3 (0 : Fin 1) j (colW 2 k : Fin 4096)) (coords3 rfl (Nat.zero_add _).symm rfl)).trans (block_7 m c t _ _)
    · exact fun k j => (View.ld_unit_apply_of _ _ _ _ _ (ix3 (0 : Fin 1) (colW 2 k : Fin 4096) j) (coords3 rfl rfl (Nat.zero_add _).symm)).trans (block_8 m c t _ _)
    · exact fun j k => (View.ld_unit_apply_of _ _ _ _ _ (ix3 (0 : Fin 1) j (colW 3 k : Fin 4096)) (coords3 rfl (Nat.zero_add _).symm rfl)).trans (block_7 m c t _ _)
    · exact fun k j => (View.ld_unit_apply_of _ _ _ _ _ (ix3 (0 : Fin 1) (colW 3 k : Fin 4096) j) (coords3 rfl rfl (Nat.zero_add _).symm)).trans (block_8 m c t _ _)
  · have hi : (ix3 (0 : Fin 1) y1 y2 : S1x1024x1024.Idx) = (Rect.unit (s := S1x1024x1024) ![0, 512, 0] ![1, 512, 1024] inb_S1x1024x1024_S1x512x1024_0_512_0).emb (ix3 (0 : Fin 1) (⟨y1.val - 512, by omega⟩ : Fin 512) y2) := by
      refine funext fun a => Fin.ext ?_
      match a with
      | ⟨0, _⟩ => rfl
      | ⟨1, _⟩ => show y1.val = 512 + 1 * (y1.val - 512); omega
      | ⟨2, _⟩ => show y2.val = 0 + 1 * y2.val; omega
    have hR : row t y1 = subRow t 512 (by omega) (⟨y1.val - 512, by omega⟩ : Fin 512) := Fin.ext (by simp only [row, subRow]; omega)
    rw [hR, hi]
    rw [View.canon_cons_emb]
    refine (congrFun (second_eq _ _ _ _ _ _ _ _ _ _ _ _ _ _ _ _ _ _ _) _).trans
      (sub_entry _ _ _ _ _ _ _ _ _ _ _ _ _ _ _ _ _ _ _ (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (batch t) (subRow t 512 (by omega))
        ?_ ?_ ?_ ?_ ?_ ?_ ?_ ?_ ?_ ?_ ?_ ?_ ?_ ?_ ?_ ?_ ?_ ?_ ?_ _ _)
    · exact fun j => (modRow_apply t _ _ j).trans (block_3 m c t _ _)
    · exact fun p k => (View.ld_unit_apply_of _ _ _ _ _ (ix3 (0 : Fin 1) (⟨512 + p.val, by omega⟩ : Fin 1024) k) (coords3 rfl rfl (Nat.zero_add _).symm)).trans
        ((block_1 m c t _ _).trans (congrArg (fun r => m (c.tc.loc main_arg1) (ix3 (batch t) r k)) (Fin.ext (by simp only [row, subRow]; omega))))
    · exact fun k q => (View.ld_unit_apply_of _ _ _ _ _ (ix3 (0 : Fin 1) (lowHalf k) q) (coords3 rfl (Nat.zero_add _).symm (Nat.zero_add _).symm)).trans (block_4 m c t _ _)
    · exact fun k q => (View.ld_unit_apply_of _ _ _ _ _ (ix3 (0 : Fin 1) (highHalf k) q) (coords3 rfl rfl (Nat.zero_add _).symm)).trans (block_4 m c t _ _)
    · exact block_5 m c t
    · exact fun p q => (View.ld_unit_apply_of _ _ _ _ _ (ix3 (0 : Fin 1) (⟨512 + p.val, by omega⟩ : Fin 1024) q) (coords3 rfl rfl (Nat.zero_add _).symm)).trans
        ((block_0 m c t _ _).trans (congrArg (fun r => m (c.tc.loc main_arg0) (ix3 (batch t) r q)) (Fin.ext (by simp only [row, subRow]; omega))))
    · exact block_6 m c t
    · exact fun a y l => (hyTile_0 t _ _ _ _ 64 _ a y l (by omega)).trans ((block_2 m c t _ _ _ _).trans (packed m c t _ _ _ _ _ (by simp only [row, subRow]; omega) rfl))
    · exact fun a y l => (hyTile_1 t _ _ _ _ 64 _ a y l (by omega)).trans ((block_2 m c t _ _ _ _).trans (packed m c t _ _ _ _ _ (by simp only [row, subRow]; omega) rfl))
    · exact fun a y l => (hyTile_2 t _ _ _ _ 64 _ a y l (by omega)).trans ((block_2 m c t _ _ _ _).trans (packed m c t _ _ _ _ _ (by simp only [row, subRow]; omega) rfl))
    · exact fun a y l => (hyTile_3 t _ _ _ _ 64 _ a y l (by omega)).trans ((block_2 m c t _ _ _ _).trans (packed m c t _ _ _ _ _ (by simp only [row, subRow]; omega) rfl))
    · exact fun j k => (View.ld_unit_apply_of _ _ _ _ _ (ix3 (0 : Fin 1) j (colW 0 k : Fin 4096)) (coords3 rfl (Nat.zero_add _).symm rfl)).trans (block_7 m c t _ _)
    · exact fun k j => (View.ld_unit_apply_of _ _ _ _ _ (ix3 (0 : Fin 1) (colW 0 k : Fin 4096) j) (coords3 rfl rfl (Nat.zero_add _).symm)).trans (block_8 m c t _ _)
    · exact fun j k => (View.ld_unit_apply_of _ _ _ _ _ (ix3 (0 : Fin 1) j (colW 1 k : Fin 4096)) (coords3 rfl (Nat.zero_add _).symm rfl)).trans (block_7 m c t _ _)
    · exact fun k j => (View.ld_unit_apply_of _ _ _ _ _ (ix3 (0 : Fin 1) (colW 1 k : Fin 4096) j) (coords3 rfl rfl (Nat.zero_add _).symm)).trans (block_8 m c t _ _)
    · exact fun j k => (View.ld_unit_apply_of _ _ _ _ _ (ix3 (0 : Fin 1) j (colW 2 k : Fin 4096)) (coords3 rfl (Nat.zero_add _).symm rfl)).trans (block_7 m c t _ _)
    · exact fun k j => (View.ld_unit_apply_of _ _ _ _ _ (ix3 (0 : Fin 1) (colW 2 k : Fin 4096) j) (coords3 rfl rfl (Nat.zero_add _).symm)).trans (block_8 m c t _ _)
    · exact fun j k => (View.ld_unit_apply_of _ _ _ _ _ (ix3 (0 : Fin 1) j (colW 3 k : Fin 4096)) (coords3 rfl (Nat.zero_add _).symm rfl)).trans (block_7 m c t _ _)
    · exact fun k j => (View.ld_unit_apply_of _ _ _ _ _ (ix3 (0 : Fin 1) (colW 3 k : Fin 4096) j) (coords3 rfl rfl (Nat.zero_add _).symm)).trans (block_8 m c t _ _)

/-- The run with the value of its result. -/
theorem run_value : θ_run defs (onTc (τ := τ) (main (F := Ideal))) ⟨m, fun _ => 0, ρ⟩ (fun r => ∀ c : Dev nD,
      r.2.mem ((c.tc : Thread nD τ).loc main_v12) = Cert.Reference2Ideal.Read.val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))) :=
  (θ_run defs _ _).mono (fun _ h c => (h c).1.trans (final_9 m c)) (run_blocks m ρ)

end Cert.Kernel2Ideal.Mix

end
-- ==== Proof.Layer.Pool.lean ====
/- The windows of the pooling layer: a row function set in zeros, its window sums, and how many rows a window holds. -/
module

public import Idealize.ShloMosaic.Lib.Pointwise

@[expose] public section

set_option maxRecDepth 16384

noncomputable section

namespace Cert.Pool

open Idealize.ShloMosaic Idealize.ShloMosaic.TcCoe Idealize.ShloMosaic.Tactic
open Idealize.SL Idealize.SL.Sem

/-- The rows with eight zeros before them and zeros after. -/
def padded (A : Fin 4096 → EReal) (i : ℕ) : EReal := if h : 8 ≤ i ∧ i < 4104 then A ⟨i - 8, by omega⟩ else 0

/-- The sum of the `n` entries from `a` on. -/
def win (f : ℕ → EReal) (a n : ℕ) : EReal := ∑ j ∈ Finset.range n, f (a + j)

/-- How many of the sequence's rows lie in the window of half width `h` about row `t`, as the programs count them. -/
def count (h : ℕ) (t : Fin 4096) : BitVec 32 :=
  IntOp.subi (IntOp.minsi (IntOp.addi (BitVec.ofNat 32 t.val) (BitVec.ofNat 32 h)) 4096#32) (IntOp.maxsi (IntOp.subi (BitVec.ofNat 32 t.val) (BitVec.ofNat 32 h)) 0#32)

/-- The mean of the rows in the window about row `t`, less the row. -/
def delta (A : Fin 4096 → EReal) (h : ℕ) (t : Fin 4096) : EReal :=
  Ideal.div (win (padded A) (t.val + 8 - h) (2 * h)) (FloatOps.sitofp (F := Ideal) .f32 (count h t)) - A t

theorem padded_at (A : Fin 4096 → EReal) (t : Fin 4096) : padded A (t.val + 8) = A t := by
  unfold padded
  rw [dif_pos (by omega)]
  exact congrArg A (Fin.ext (by dsimp only; omega))

/-- The mean less the row, from its three parts. -/
theorem delta_of (A : Fin 4096 → EReal) (h : ℕ) (t : Fin 4096) (s a : EReal) (c : BitVec 32) (hs : s = win (padded A) (t.val + 8 - h) (2 * h)) (ha : a = A t)
    (hc : c = count h t) : Ideal.div s (FloatOps.sitofp (F := Ideal) .f32 c) - a = delta A h t := by
  subst hs; subst ha; subst hc; rfl

/-- A window sum by halves. -/
theorem win2 (f : ℕ → EReal) (a : ℕ) : win f a 2 = f a + f (a + 1) := by
  simp only [win, Finset.sum_range_succ, Finset.range_zero, Finset.sum_empty, zero_add, Nat.add_zero]
theorem win4 (f : ℕ → EReal) (a : ℕ) : win f a 4 = win f a 2 + win f (a + 2) 2 := Finset.sum_range_add (fun j => f (a + j)) 2 2 |>.trans (by simp only [win, Nat.add_assoc])
theorem win8 (f : ℕ → EReal) (a : ℕ) : win f a 8 = win f a 4 + win f (a + 4) 4 := Finset.sum_range_add (fun j => f (a + j)) 4 4 |>.trans (by simp only [win, Nat.add_assoc])
theorem win16 (f : ℕ → EReal) (a : ℕ) : win f a 16 = win f a 8 + win f (a + 8) 8 := Finset.sum_range_add (fun j => f (a + j)) 8 8 |>.trans (by simp only [win, Nat.add_assoc])

theorem fwd1 (x : ℕ) (h : x < 527) : (x + 528 - 527) % 528 = x + 1 := by omega
theorem fwd2 (x : ℕ) (h : x < 526) : (x + 528 - 526) % 528 = x + 2 := by omega
theorem fwd4 (x : ℕ) (h : x < 524) : (x + 528 - 524) % 528 = x + 4 := by omega
theorem back1 (p : ℕ) (h : p < 512) : (8 + p + 528 - 1) % 528 = p + 7 := by omega
theorem back2 (p : ℕ) (h : p < 512) : (8 + p + 528 - 2) % 528 = p + 6 := by omega
theorem back4 (p : ℕ) (h : p < 512) : (8 + p + 528 - 4) % 528 = p + 4 := by omega
theorem back8 (p : ℕ) (h : p < 512) : (8 + p + 528 - 8) % 528 = p := by omega

end Cert.Pool

end
-- ==== Proof.Pool.Windows.lean ====
/- The pooling windows of a subtile, from its extended rows. -/
module

public import proofs.«01_k».proof.Proof.Gen.Kernel3Ideal.Skeleton
public import proofs.«01_k».proof.Proof.Layer.Pool
public import Idealize.ShloMosaic.Lib.Pointwise

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen Cert.Pool

/-- The fourth group's sums of four and of eight rows. -/
def fours {F : FTy → Type} [FloatOps F] (E : FVec F S528x1024 .f32) : FVec F S528x256 .f32 := addf (k0_pay15 E) (dynamicRotate 0 526#32 none (k0_pay15 E) rotates_S528x256_d0)
def eights {F : FTy → Type} [FloatOps F] (E : FVec F S528x1024 .f32) : FVec F S528x256 .f32 := addf (fours E) (dynamicRotate 0 524#32 none (fours E) rotates_S528x256_d0)

/-- The fourth group's product, which the program computes together with what follows. -/
def fourth {F : FTy → Type} [FloatOps F] (E : FVec F S528x1024 .f32) (tt : IVec S528x1 32) (w : Vec F S1x256x256 .bf16) : FVec F S512x256 .f32 :=
  have v128 : FVec F S528x256 .f32 := addf (dynamicRotate 0 8#32 none (eights E) rotates_S528x256_d0) (eights E)
  have n : IVec S512x1 32 := subi (minsi (addi (k0_pay6 tt) (broadcast S512x1 8#32)) (broadcast S512x1 4096#32)) (maxsi (subi (k0_pay6 tt) (broadcast S512x1 8#32)) (broadcast S512x1 0#32))
  matmul dot_S512x256_S256x256_S512x256_1_0_0_1_n_n none
    (truncf .bf16 (subf (divf (extractStridedSlice S512x256 ![8, 0] v128 slices_S528x256_o8_0_S512x256) (broadcastTo S512x256 (sitofp .f32 n) broadcasts_S512x1_S512x256))
      (extractStridedSlice S512x256 ![8, 0] (k0_pay14 E) slices_S528x256_o8_0_S512x256)) bitsLt_bf16_f32)
    (shapeCast S256x256 w shapeCasts_S1x256x256_S256x256) (constant S512x256 .f32 0x00000000#32)

set_option maxHeartbeats 1000000 in
/-- Group 0: windows of 2 rows. -/
theorem group_0 (v31 : FVec Ideal S528x1024 .f32) (tt : IVec S528x1 32) (A : Fin 1024 → Fin 4096 → EReal) (B : ℕ) (hB : B + 512 ≤ 4096)
    (hE : ∀ (x : Fin 528) (j : Fin 1024), k0_pay5 v31 tt (ix2 x j) = padded (A j) (B + x.val))
    (ht : ∀ p : Fin 512, tt (ix2 (⟨8 + p.val, by omega⟩ : Fin 528) (0 : Fin 1)) = BitVec.ofNat 32 (B + p.val))
    (w : Vec Ideal S1x256x256 .bf16) (p : Fin 512) (k : Fin 256) :
    k0_pay7 v31 tt w (ix2 p k) = ∑ x : Fin 256, delta (A ⟨0 + x.val, by omega⟩) 1 ⟨B + p.val, by omega⟩ * w (ix3 (0 : Fin 1) x k) := by
  have hp := p.isLt
  have ht' := ht p
  pointwise [k0_pay7, k0_pay6]
  refine Finset.sum_congr rfl fun x _ => ?_
  simp only [hE, ht']
  simp (discharger := omega) only [back1]
  refine congrArg (· * w (ix3 (0 : Fin 1) x k)) (delta_of _ _ _ _ _ _ ?_ ?_ rfl)
  · have e : B + p.val + 8 - 1 = B + (p.val + 7) := by omega
    refine Eq.trans ?_ (congrArg (fun a => win _ a _) e.symm)
    simp only [Nat.reduceMul, win16, win8, win4, win2, Nat.add_assoc, Nat.reduceAdd, Nat.add_zero, Nat.add_comm 8 p.val]
  · exact (congrArg (padded _) (by dsimp only; omega)).trans (padded_at _ ⟨B + p.val, by omega⟩)

set_option maxHeartbeats 1000000 in
/-- Group 1: windows of 4 rows. -/
theorem group_1 (v31 : FVec Ideal S528x1024 .f32) (tt : IVec S528x1 32) (A : Fin 1024 → Fin 4096 → EReal) (B : ℕ) (hB : B + 512 ≤ 4096)
    (hE : ∀ (x : Fin 528) (j : Fin 1024), k0_pay5 v31 tt (ix2 x j) = padded (A j) (B + x.val))
    (ht : ∀ p : Fin 512, tt (ix2 (⟨8 + p.val, by omega⟩ : Fin 528) (0 : Fin 1)) = BitVec.ofNat 32 (B + p.val))
    (w : Vec Ideal S1x256x256 .bf16) (p : Fin 512) (k : Fin 256) :
    k0_pay12 (k0_pay8 v31 tt) (k0_pay9 v31 tt) (k0_pay10 tt) (k0_pay11 tt) w (ix2 p k) = ∑ x : Fin 256, delta (A ⟨256 + x.val, by omega⟩) 2 ⟨B + p.val, by omega⟩ * w (ix3 (0 : Fin 1) x k) := by
  have hp := p.isLt
  have ht' := ht p
  pointwise [k0_pay12, k0_pay9, k0_pay8, k0_pay10, k0_pay11, k0_pay6]
  refine Finset.sum_congr rfl fun x _ => ?_
  simp only [hE, ht']
  simp (discharger := omega) only [back2, fwd1]
  refine congrArg (· * w (ix3 (0 : Fin 1) x k)) (delta_of _ _ _ _ _ _ ?_ ?_ rfl)
  · have e : B + p.val + 8 - 2 = B + (p.val + 6) := by omega
    refine Eq.trans ?_ (congrArg (fun a => win _ a _) e.symm)
    simp only [Nat.reduceMul, win16, win8, win4, win2, Nat.add_assoc, Nat.reduceAdd, Nat.add_zero, Nat.add_comm 8 p.val]
  · exact (congrArg (padded _) (by dsimp only; omega)).trans (padded_at _ ⟨B + p.val, by omega⟩)

set_option maxHeartbeats 1000000 in
/-- Group 2: windows of 8 rows. -/
theorem group_2 (v31 : FVec Ideal S528x1024 .f32) (tt : IVec S528x1 32) (A : Fin 1024 → Fin 4096 → EReal) (B : ℕ) (hB : B + 512 ≤ 4096)
    (hE : ∀ (x : Fin 528) (j : Fin 1024), k0_pay5 v31 tt (ix2 x j) = padded (A j) (B + x.val))
    (ht : ∀ p : Fin 512, tt (ix2 (⟨8 + p.val, by omega⟩ : Fin 528) (0 : Fin 1)) = BitVec.ofNat 32 (B + p.val))
    (w : Vec Ideal S1x256x256 .bf16) (p : Fin 512) (k : Fin 256) :
    k0_pay13 (k0_pay5 v31 tt) (k0_pay6 tt) w (ix2 p k) = ∑ x : Fin 256, delta (A ⟨512 + x.val, by omega⟩) 4 ⟨B + p.val, by omega⟩ * w (ix3 (0 : Fin 1) x k) := by
  have hp := p.isLt
  have ht' := ht p
  pointwise [k0_pay13, k0_pay6]
  refine Finset.sum_congr rfl fun x _ => ?_
  simp only [hE, ht']
  simp (discharger := omega) only [back4, fwd1, fwd2]
  refine congrArg (· * w (ix3 (0 : Fin 1) x k)) (delta_of _ _ _ _ _ _ ?_ ?_ rfl)
  · have e : B + p.val + 8 - 4 = B + (p.val + 4) := by omega
    refine Eq.trans ?_ (congrArg (fun a => win _ a _) e.symm)
    simp only [Nat.reduceMul, win16, win8, win4, win2, Nat.add_assoc, Nat.reduceAdd, Nat.add_zero, Nat.add_comm 8 p.val]
  · exact (congrArg (padded _) (by dsimp only; omega)).trans (padded_at _ ⟨B + p.val, by omega⟩)

theorem twos_apply (E : FVec Ideal S528x1024 .f32) (A : Fin 1024 → Fin 4096 → EReal) (B : ℕ)
    (hE : ∀ (x : Fin 528) (j : Fin 1024), E (ix2 x j) = padded (A j) (B + x.val)) (x : ℕ) (hx : x + 2 ≤ 528) (k : Fin 256) :
    k0_pay15 E (ix2 (⟨x, by omega⟩ : Fin 528) k) = win (padded (A ⟨768 + k.val, by omega⟩)) (B + x) 2 := by
  pointwise [k0_pay15, k0_pay14]
  have e : (⟨(x + 528 - 527) % 528, by omega⟩ : Fin 528) = ⟨x + 1, by omega⟩ := Fin.ext (fwd1 x (by omega))
  simp only [hE, win2]
  exact congrArg (_ + padded _ ·) (congrArg (B + ·) (fwd1 x (by omega)))

theorem fours_apply (E : FVec Ideal S528x1024 .f32) (A : Fin 1024 → Fin 4096 → EReal) (B : ℕ)
    (hE : ∀ (x : Fin 528) (j : Fin 1024), E (ix2 x j) = padded (A j) (B + x.val)) (x : ℕ) (hx : x + 4 ≤ 528) (k : Fin 256) :
    fours E (ix2 (⟨x, by omega⟩ : Fin 528) k) = win (padded (A ⟨768 + k.val, by omega⟩)) (B + x) 4 := by
  pointwise [fours]
  have e : (⟨(x + 528 - 526) % 528, by omega⟩ : Fin 528) = ⟨x + 2, by omega⟩ := Fin.ext (fwd2 x (by omega))
  refine (congr (congrArg HAdd.hAdd (twos_apply E A B hE x (by omega) k)) ((congrArg (fun i => k0_pay15 E (ix2 i k)) e).trans (twos_apply E A B hE (x + 2) (by omega) k))).trans ?_
  exact (win4 _ _).symm

theorem eights_apply (E : FVec Ideal S528x1024 .f32) (A : Fin 1024 → Fin 4096 → EReal) (B : ℕ)
    (hE : ∀ (x : Fin 528) (j : Fin 1024), E (ix2 x j) = padded (A j) (B + x.val)) (x : ℕ) (hx : x + 8 ≤ 528) (k : Fin 256) :
    eights E (ix2 (⟨x, by omega⟩ : Fin 528) k) = win (padded (A ⟨768 + k.val, by omega⟩)) (B + x) 8 := by
  pointwise [eights]
  have e : (⟨(x + 528 - 524) % 528, by omega⟩ : Fin 528) = ⟨x + 4, by omega⟩ := Fin.ext (fwd4 x (by omega))
  refine (congr (congrArg HAdd.hAdd (fours_apply E A B hE x (by omega) k)) ((congrArg (fun i => fours E (ix2 i k)) e).trans (fours_apply E A B hE (x + 4) (by omega) k))).trans ?_
  exact (win8 _ _).symm

/-- Group 3: windows of 16 rows. -/
theorem group_3 (E : FVec Ideal S528x1024 .f32) (tt : IVec S528x1 32) (A : Fin 1024 → Fin 4096 → EReal) (B : ℕ) (hB : B + 512 ≤ 4096)
    (hE : ∀ (x : Fin 528) (j : Fin 1024), E (ix2 x j) = padded (A j) (B + x.val))
    (ht : ∀ p : Fin 512, tt (ix2 (⟨8 + p.val, by omega⟩ : Fin 528) (0 : Fin 1)) = BitVec.ofNat 32 (B + p.val))
    (w : Vec Ideal S1x256x256 .bf16) (p : Fin 512) (k : Fin 256) :
    fourth E tt w (ix2 p k) = ∑ x : Fin 256, delta (A ⟨768 + x.val, by omega⟩) 8 ⟨B + p.val, by omega⟩ * w (ix3 (0 : Fin 1) x k) := by
  have hp := p.isLt
  have ht' := ht p
  pointwise [fourth, k0_pay14, k0_pay6]
  refine Finset.sum_congr rfl fun x _ => ?_
  simp only [hE, ht']
  refine congrArg (· * w (ix3 (0 : Fin 1) x k)) (delta_of _ _ _ _ _ _ ?_ ?_ rfl)
  · have e : (⟨(8 + p.val + 528 - 8) % 528, by omega⟩ : Fin 528) = ⟨p.val, by omega⟩ := Fin.ext (back8 p.val hp)
    refine (congr (congrArg HAdd.hAdd ((congrArg (fun i => eights E (ix2 i x)) e).trans (eights_apply E A B hE p.val (by omega) x))) (eights_apply E A B hE (8 + p.val) (by omega) x)).trans ?_
    refine Eq.trans ?_ (win16 _ _).symm
    exact congrArg₂ (fun a b => win (padded (A ⟨768 + x.val, by omega⟩)) a 8 + win (padded (A ⟨768 + x.val, by omega⟩)) b 8) (show B + p.val = B + p.val + 8 - 8 by omega) (show B + (8 + p.val) = B + p.val + 8 - 8 + 8 by omega)
  · exact (congrArg (padded _) (by dsimp only; omega)).trans (padded_at _ ⟨B + p.val, by omega⟩)

end Cert.Kernel3Ideal.Pool

end
-- ==== Proof.Pool.Sub.lean ====
/- The pooling mixer with the MLP, one subtile of 512 rows: both subtiles run the same computation, written once here. -/
module

public import proofs.«01_k».proof.Proof.Pool.Windows

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

variable {F : FTy → Type} [FloatOps F]

/-- The rows after the pooling mixer, from the four groups' products. -/
def mixed (v1 : Vec F S1x1x6144 .f32) (x : Vec F S1x512x1024 .f32) (y0 y1 y2 y3 : FVec F S512x256 .f32) (ps : Vec F S1x1024 .f32) : FVec F S512x1024 .f32 :=
  addf (k0_pay2 x) (mulf (broadcastTo S512x1024 (extractStridedSlice S1x1024 ![0, 2048] (k0_pay1 v1) slices_S1x6144_o0_2048_S1x1024) broadcasts_S1x1024_S512x1024)
    (mulf (concatenate S512x1024 1 [⟨S512x256, y0⟩, ⟨S512x256, y1⟩, ⟨S512x256, y2⟩, ⟨S512x256, y3⟩] concatenates_S512x256_S512x256_S512x256_S512x256_S512x1024_d1)
      (broadcastTo S512x1024 (shapeCast S1x1024 ps shapeCasts_S1x1024_S1x1024) broadcasts_S1x1024_S512x1024)))

/-- The rows after the pooling mixer. -/
def hRows (v1 : Vec F S1x1x6144 .f32) (x : Vec F S1x512x1024 .f32) (ab be : Vec F S1x8x1024 .f32) (g1 : Vec F S1x1024 .f32) (tt : IVec S528x1 32) (w0 w1 w2 w3 : Vec F S1x256x256 .bf16) (ps : Vec F S1x1024 .f32) : FVec F S512x1024 .f32 :=
  k0_pay16 (k0_pay1 v1) (k0_pay2 x) (k0_pay6 tt) (k0_pay7 (k0_pay3 v1 x ab be g1) tt w0) (k0_pay12 (k0_pay8 (k0_pay3 v1 x ab be g1) tt) (k0_pay9 (k0_pay3 v1 x ab be g1) tt) (k0_pay10 tt) (k0_pay11 tt) w1) (k0_pay13 (k0_pay5 (k0_pay3 v1 x ab be g1) tt) (k0_pay6 tt) w2) (k0_pay14 (k0_pay5 (k0_pay3 v1 x ab be g1) tt)) (k0_pay15 (k0_pay5 (k0_pay3 v1 x ab be g1) tt)) 526#32 w3 ps

/-- The MLP's rows, normalised and modulated. -/
def acted (v1 : Vec F S1x1x6144 .f32) (h : FVec F S512x1024 .f32) (g2 : Vec F S1x1024 .f32) : FVec F S512x1024 .bf16 :=
  k0_pay22 h (k0_pay17 g2) (k0_pay18 (k0_pay1 v1)) (k0_pay19 (k0_pay1 v1))
    (divf (shapeCast S512x1 (multiReduction .add [1] S512 (mulf h h) 0x00000000#32 reduces_S512x1024_S512 (.inl rfl) rfl) shapeCasts_S512_S512x1) (broadcast S512x1 (Scalar.ofBits .f32 0x44800000#32)))

/-- The MLP's first two chunks of hidden units, from the normalised rows. -/
def half (act : FVec F S512x1024 .bf16) (a0 b0 a1 b1 : Vec F S1x1024x1024 .bf16) : FVec F S512x1024 .f32 :=
  let unit := fun (a : Vec F S1x1024x1024 .bf16) (b : Vec F S1x1024x1024 .bf16) =>
    let u := maximumf (matmul dot_S512x1024_S1024x1024_S512x1024_1_0_0_1_n_n none act (shapeCast S1024x1024 a shapeCasts_S1x1024x1024_S1024x1024) (constant S512x1024 .f32 0x00000000#32)) (broadcast S512x1024 (Scalar.ofBits .f32 0x00000000#32))
    matmul dot_S512x1024_S1024x1024_S512x1024_1_0_0_1_n_n none (truncf .bf16 (mulf u u) bitsLt_bf16_f32) (shapeCast S1024x1024 b shapeCasts_S1x1024x1024_S1024x1024) (constant S512x1024 .f32 0x00000000#32)
  addf (unit a0 b0) (unit a1 b1)

/-- What a subtile stores. -/
def sub (v1 : Vec F S1x1x6144 .f32) (x : Vec F S1x512x1024 .f32) (ab be : Vec F S1x8x1024 .f32) (g1 : Vec F S1x1024 .f32) (tt : IVec S528x1 32) (w0 w1 w2 w3 : Vec F S1x256x256 .bf16) (ps : Vec F S1x1024 .f32)
    (g2 : Vec F S1x1024 .f32) (a0 b0 a1 b1 a2 b2 a3 b3 : Vec F S1x1024x1024 .bf16) (gf : Vec F S1x1024 .f32) : FVec F S1x512x1024 .f32 :=
  k0_pay26 (k0_pay25 (hRows v1 x ab be g1 tt w0 w1 w2 w3 ps) (k0_pay20 (k0_pay1 v1)) (acted v1 (hRows v1 x ab be g1 tt w0 w1 w2 w3 ps) g2) (half (acted v1 (hRows v1 x ab be g1 tt w0 w1 w2 w3 ps) g2) a0 b0 a1 b1) (k0_pay24 a2) b2 a3 b3 gf)

/-- Both stored values are `sub`, at their row numbers. -/
theorem first_eq (i : grid0.Coords) (v1 : Vec F S1x1x6144 .f32) (x : Vec F S1x512x1024 .f32) (ab be : Vec F S1x8x1024 .f32) (g1 : Vec F S1x1024 .f32) (w0 w1 w2 w3 : Vec F S1x256x256 .bf16) (ps : Vec F S1x1024 .f32)
    (g2 : Vec F S1x1024 .f32) (a0 b0 a1 b1 a2 b2 a3 b3 : Vec F S1x1024x1024 .bf16) (gf : Vec F S1x1024 .f32) :
    k0_pay26 (k0_pay25 (k0_pay16 (k0_pay1 v1) (k0_pay2 x) (k0_pay6 (k0_pay4 i)) (k0_pay7 (k0_pay3 v1 x ab be g1) (k0_pay4 i) w0) (k0_pay12 (k0_pay8 (k0_pay3 v1 x ab be g1) (k0_pay4 i)) (k0_pay9 (k0_pay3 v1 x ab be g1) (k0_pay4 i)) (k0_pay10 (k0_pay4 i)) (k0_pay11 (k0_pay4 i)) w1) (k0_pay13 (k0_pay5 (k0_pay3 v1 x ab be g1) (k0_pay4 i)) (k0_pay6 (k0_pay4 i)) w2) (k0_pay14 (k0_pay5 (k0_pay3 v1 x ab be g1) (k0_pay4 i))) (k0_pay15 (k0_pay5 (k0_pay3 v1 x ab be g1) (k0_pay4 i))) 526#32 w3 ps) (k0_pay20 (k0_pay1 v1)) (k0_pay22 (k0_pay16 (k0_pay1 v1) (k0_pay2 x) (k0_pay6 (k0_pay4 i)) (k0_pay7 (k0_pay3 v1 x ab be g1) (k0_pay4 i) w0) (k0_pay12 (k0_pay8 (k0_pay3 v1 x ab be g1) (k0_pay4 i)) (k0_pay9 (k0_pay3 v1 x ab be g1) (k0_pay4 i)) (k0_pay10 (k0_pay4 i)) (k0_pay11 (k0_pay4 i)) w1) (k0_pay13 (k0_pay5 (k0_pay3 v1 x ab be g1) (k0_pay4 i)) (k0_pay6 (k0_pay4 i)) w2) (k0_pay14 (k0_pay5 (k0_pay3 v1 x ab be g1) (k0_pay4 i))) (k0_pay15 (k0_pay5 (k0_pay3 v1 x ab be g1) (k0_pay4 i))) 526#32 w3 ps) (k0_pay17 g2) (k0_pay18 (k0_pay1 v1)) (k0_pay19 (k0_pay1 v1)) (k0_pay21 (k0_pay1 v1) (k0_pay2 x) (k0_pay6 (k0_pay4 i)) (k0_pay7 (k0_pay3 v1 x ab be g1) (k0_pay4 i) w0) (k0_pay12 (k0_pay8 (k0_pay3 v1 x ab be g1) (k0_pay4 i)) (k0_pay9 (k0_pay3 v1 x ab be g1) (k0_pay4 i)) (k0_pay10 (k0_pay4 i)) (k0_pay11 (k0_pay4 i)) w1) (k0_pay13 (k0_pay5 (k0_pay3 v1 x ab be g1) (k0_pay4 i)) (k0_pay6 (k0_pay4 i)) w2) (k0_pay14 (k0_pay5 (k0_pay3 v1 x ab be g1) (k0_pay4 i))) (k0_pay15 (k0_pay5 (k0_pay3 v1 x ab be g1) (k0_pay4 i))) 526#32 w3 ps)) (k0_pay23 (k0_pay16 (k0_pay1 v1) (k0_pay2 x) (k0_pay6 (k0_pay4 i)) (k0_pay7 (k0_pay3 v1 x ab be g1) (k0_pay4 i) w0) (k0_pay12 (k0_pay8 (k0_pay3 v1 x ab be g1) (k0_pay4 i)) (k0_pay9 (k0_pay3 v1 x ab be g1) (k0_pay4 i)) (k0_pay10 (k0_pay4 i)) (k0_pay11 (k0_pay4 i)) w1) (k0_pay13 (k0_pay5 (k0_pay3 v1 x ab be g1) (k0_pay4 i)) (k0_pay6 (k0_pay4 i)) w2) (k0_pay14 (k0_pay5 (k0_pay3 v1 x ab be g1) (k0_pay4 i))) (k0_pay15 (k0_pay5 (k0_pay3 v1 x ab be g1) (k0_pay4 i))) 526#32 w3 ps) (k0_pay17 g2) (k0_pay18 (k0_pay1 v1)) (k0_pay19 (k0_pay1 v1)) (k0_pay21 (k0_pay1 v1) (k0_pay2 x) (k0_pay6 (k0_pay4 i)) (k0_pay7 (k0_pay3 v1 x ab be g1) (k0_pay4 i) w0) (k0_pay12 (k0_pay8 (k0_pay3 v1 x ab be g1) (k0_pay4 i)) (k0_pay9 (k0_pay3 v1 x ab be g1) (k0_pay4 i)) (k0_pay10 (k0_pay4 i)) (k0_pay11 (k0_pay4 i)) w1) (k0_pay13 (k0_pay5 (k0_pay3 v1 x ab be g1) (k0_pay4 i)) (k0_pay6 (k0_pay4 i)) w2) (k0_pay14 (k0_pay5 (k0_pay3 v1 x ab be g1) (k0_pay4 i))) (k0_pay15 (k0_pay5 (k0_pay3 v1 x ab be g1) (k0_pay4 i))) 526#32 w3 ps) a0 b0 a1 b1) (k0_pay24 a2) b2 a3 b3 gf)
      = sub v1 x ab be g1 (k0_pay4 i) w0 w1 w2 w3 ps g2 a0 b0 a1 b1 a2 b2 a3 b3 gf := rfl

theorem second_eq (i : BitVec 32) (v1 : Vec F S1x1x6144 .f32) (x : Vec F S1x512x1024 .f32) (ab be : Vec F S1x8x1024 .f32) (g1 : Vec F S1x1024 .f32) (w0 w1 w2 w3 : Vec F S1x256x256 .bf16) (ps : Vec F S1x1024 .f32)
    (g2 : Vec F S1x1024 .f32) (a0 b0 a1 b1 a2 b2 a3 b3 : Vec F S1x1024x1024 .bf16) (gf : Vec F S1x1024 .f32) :
    k0_pay51 (k0_pay42 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) (k0_pay46 (k0_pay1 v1)) (k0_pay48 (k0_pay42 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) (k0_pay43 g2) (k0_pay44 (k0_pay1 v1)) (k0_pay45 (k0_pay1 v1)) (k0_pay47 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps)) (k0_pay49 (k0_pay42 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) (k0_pay43 g2) (k0_pay44 (k0_pay1 v1)) (k0_pay45 (k0_pay1 v1)) (k0_pay47 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) a0 b0 a1 b1) (k0_pay50 (k0_pay42 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) (k0_pay43 g2) (k0_pay44 (k0_pay1 v1)) (k0_pay45 (k0_pay1 v1)) (k0_pay47 (k0_pay1 v1) (k0_pay27 x) (k0_pay32 (k0_pay29 i)) (k0_pay33 (k0_pay28 (k0_pay1 v1) x ab be g1) (k0_pay29 i) (k0_pay30 i) w0) (k0_pay38 (k0_pay34 (k0_pay28 (k0_pay1 v1) x ab be g1) (k0_pay29 i) (k0_pay30 i)) (k0_pay35 (k0_pay28 (k0_pay1 v1) x ab be g1) (k0_pay29 i) (k0_pay30 i)) (k0_pay36 (k0_pay29 i)) (k0_pay37 (k0_pay29 i)) w1) (k0_pay39 (k0_pay31 (k0_pay28 (k0_pay1 v1) x ab be g1) (k0_pay29 i) (k0_pay30 i)) (k0_pay32 (k0_pay29 i)) w2) (k0_pay40 (k0_pay31 (k0_pay28 (k0_pay1 v1) x ab be g1) (k0_pay29 i) (k0_pay30 i))) (k0_pay41 (k0_pay31 (k0_pay28 (k0_pay1 v1) x ab be g1) (k0_pay29 i) (k0_pay30 i))) 524#32 w3 ps) a2) (Scalar.ofBits .f32 0x00000000#32) b2 a3 b3 gf
      = sub v1 x ab be g1 (k0_pay29 i) w0 w1 w2 w3 ps g2 a0 b0 a1 b1 a2 b2 a3 b3 gf := rfl

/-- The mixed rows from the four groups' products. -/
theorem hRows_eq (v1 : Vec F S1x1x6144 .f32) (x : Vec F S1x512x1024 .f32) (ab be : Vec F S1x8x1024 .f32) (g1 : Vec F S1x1024 .f32) (tt : IVec S528x1 32) (w0 w1 w2 w3 : Vec F S1x256x256 .bf16) (ps : Vec F S1x1024 .f32) :
    hRows v1 x ab be g1 tt w0 w1 w2 w3 ps = mixed v1 x (k0_pay7 (k0_pay3 v1 x ab be g1) tt w0) (k0_pay12 (k0_pay8 (k0_pay3 v1 x ab be g1) tt) (k0_pay9 (k0_pay3 v1 x ab be g1) tt) (k0_pay10 tt) (k0_pay11 tt) w1)
      (k0_pay13 (k0_pay5 (k0_pay3 v1 x ab be g1) tt) (k0_pay6 tt) w2) (fourth (k0_pay5 (k0_pay3 v1 x ab be g1) tt) tt w3) ps := rfl

end Cert.Kernel3Ideal.Pool

end
-- ==== Proof.Pool.Rows.lean ====
/- The rows the pooling mixer works on: each subtile's 512 with eight on either side, normalised and modulated, and zero outside the sequence. -/
module

public import proofs.«01_k».proof.Proof.Gen.Kernel3Ideal.Frame
public import proofs.«01_k».proof.Proof.Layer.Mlp
public import proofs.«01_k».proof.Proof.Layer.Pool
public import Idealize.ShloMosaic.Lib.Pipeline.ValueKit
public import Idealize.ShloMosaic.Lib.Pointwise

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen
open Cert.Pool

/-- The row numbers of a subtile's extended rows, and whether a row lies in the sequence. -/
def rowNo (s : Fin 8) (i : Fin 528) : BitVec 32 := IntOp.subi (BitVec.ofNat 32 (512 * s.val + i.val)) 8#32

theorem rowNo_inner : ∀ (s : Fin 8) (p : Fin 512), rowNo s ⟨8 + p.val, by omega⟩ = BitVec.ofNat 32 (512 * s.val + p.val) := by decide +kernel

theorem rowNo_mask : ∀ (s : Fin 8) (i : Fin 528),
    IntOp.andi (IntOp.cmpi .sge (rowNo s i) 0#32) (IntOp.cmpi .slt (rowNo s i) 4096#32) = if 8 ≤ 512 * s.val + i.val ∧ 512 * s.val + i.val < 4104 then 1#1 else 0#1 := by decide +kernel

theorem rowNo_first : ∀ (t : Fin 4) (i : Fin 528),
    IntOp.addi (BitVec.ofNat 32 i.val) (IntOp.subi (IntOp.addi (IntOp.muli (BitVec.ofNat 32 t.val) 1024#32) 0#32) 8#32) = rowNo ⟨2 * t.val, by omega⟩ i := by decide +kernel
theorem rowNo_second : ∀ (t : Fin 4) (i : Fin 528),
    IntOp.addi (BitVec.ofNat 32 i.val) (IntOp.subi (IntOp.addi (IntOp.muli (BitVec.ofNat 32 t.val) 1024#32) 512#32) 8#32) = rowNo ⟨2 * t.val + 1, by omega⟩ i := by decide +kernel

theorem pay4_apply (i : grid0.Coords) (t : Fin 4) (h : (i 1).val = t.val) (x : Fin 528) : k0_pay4 i (ix2 x (0 : Fin 1)) = rowNo ⟨2 * t.val, by omega⟩ x := by
  pointwise [k0_pay4]
  rw [h]
  exact rowNo_first t x
theorem pay29_apply (t : Fin 4) (x : Fin 528) : k0_pay29 (BitVec.ofNat 32 t.val) (ix2 x (0 : Fin 1)) = rowNo ⟨2 * t.val + 1, by omega⟩ x := by
  pointwise [k0_pay29]
  exact rowNo_second t x

/-- The extended rows of a subtile. -/
def ext (x : Vec Ideal S1x512x1024 .f32) (ab be : Vec Ideal S1x8x1024 .f32) (i : Fin 528) (l : Fin 1024) : EReal :=
  if h : i.val < 8 then ab (ix3 (0 : Fin 1) (⟨i.val, h⟩ : Fin 8) l) else if h : i.val - 8 < 512 then x (ix3 (0 : Fin 1) (⟨i.val - 8, h⟩ : Fin 512) l) else be (ix3 (0 : Fin 1) (⟨i.val - 8 - 512, by omega⟩ : Fin 8) l)

/-- Normalised and modulated. -/
theorem pay3_apply (v1 : Vec Ideal S1x1x6144 .f32) (x : Vec Ideal S1x512x1024 .f32) (ab be : Vec Ideal S1x8x1024 .f32) (g1 : Vec Ideal S1x1024 .f32) (i : Fin 528) (k : Fin 1024) :
    k0_pay3 v1 x ab be g1 (ix2 i k)
      = Cert.Mlp.act (ext x ab be i) (fun l => g1 (ix2 (0 : Fin 1) l))
          (fun l => v1 (ix3 (0 : Fin 1) (0 : Fin 1) (⟨1024 + l.val, by omega⟩ : Fin 6144))) (fun l => v1 (ix3 (0 : Fin 1) (0 : Fin 1) (⟨l.val, by omega⟩ : Fin 6144))) k := by
  unfold Cert.Mlp.act Cert.Mlp.rms ext
  pointwise [k0_pay3, k0_pay1, k0_pay2]

/-- And zero outside the sequence: the sequence's rows set in zeros. -/
theorem pay5_apply (v1 : Vec Ideal S1x1x6144 .f32) (x : Vec Ideal S1x512x1024 .f32) (ab be : Vec Ideal S1x8x1024 .f32) (g1 : Vec Ideal S1x1024 .f32) (tt : IVec S528x1 32)
    (s : Fin 8) (H : Fin 4096 → Fin 1024 → EReal) (ht : ∀ i : Fin 528, tt (ix2 i (0 : Fin 1)) = rowNo s i)
    (he : ∀ (i : Fin 528) (r : Fin 4096), 512 * s.val + i.val = r.val + 8 → ext x ab be i = H r) (i : Fin 528) (k : Fin 1024) :
    k0_pay5 (k0_pay3 v1 x ab be g1) tt (ix2 i k)
      = padded (fun r => Cert.Mlp.act (H r) (fun l => g1 (ix2 (0 : Fin 1) l))
          (fun l => v1 (ix3 (0 : Fin 1) (0 : Fin 1) (⟨1024 + l.val, by omega⟩ : Fin 6144))) (fun l => v1 (ix3 (0 : Fin 1) (0 : Fin 1) (⟨l.val, by omega⟩ : Fin 6144))) k) (512 * s.val + i.val) := by
  have e : k0_pay5 (k0_pay3 v1 x ab be g1) tt (ix2 i k)
      = if IntOp.andi (IntOp.cmpi .sge (rowNo s i) 0#32) (IntOp.cmpi .slt (rowNo s i) 4096#32) = 1#1 then k0_pay3 v1 x ab be g1 (ix2 i k) else 0 := by
    rw [← ht i]
    pointwise [k0_pay5]
    rfl
  rw [e, rowNo_mask]
  unfold padded
  by_cases h : 8 ≤ 512 * s.val + i.val ∧ 512 * s.val + i.val < 4104
  · rw [if_pos h, if_pos rfl, dif_pos h, pay3_apply, he i ⟨512 * s.val + i.val - 8, by omega⟩ (by dsimp only; omega)]
  · rw [if_neg h, if_neg (by decide), dif_neg h]

end Cert.Kernel3Ideal.Pool

end
-- ==== Proof.Layer.PoolSpec.lean ====
/- The pooling mixer's spec, one row at a time, over the reals. -/
module

public import proofs.«01_k».proof.Proof.Layer.Mlp
public import proofs.«01_k».proof.Proof.Layer.Pool

@[expose] public section

set_option maxRecDepth 16384

noncomputable section

namespace Cert.Pool

open Idealize.ShloMosaic Idealize.ShloMosaic.TcCoe Idealize.ShloMosaic.Tactic
open Idealize.SL Idealize.SL.Sem
open Idealize.ShloMosaic.Pipeline (Dat Cfg Window)

/-- The four groups' products side by side: column `q` of row `r`, of the columns `A` and the groups' weights `W`. -/
def pooled (A : Fin 1024 → Fin 4096 → EReal) (W : Fin 4 → Fin 256 → Fin 256 → EReal) (r : Fin 4096) (q : Fin 1024) : EReal :=
  if h0 : q.val < 256 then ∑ x : Fin 256, delta (A ⟨0 + x.val, by omega⟩) 1 r * W 0 x ⟨q.val, by omega⟩
  else if h1 : q.val < 512 then ∑ x : Fin 256, delta (A ⟨256 + x.val, by omega⟩) 2 r * W 1 x ⟨q.val - 256, by omega⟩
  else if h2 : q.val < 768 then ∑ x : Fin 256, delta (A ⟨512 + x.val, by omega⟩) 4 r * W 2 x ⟨q.val - 512, by omega⟩
  else ∑ x : Fin 256, delta (A ⟨768 + x.val, by omega⟩) 8 r * W 3 x ⟨q.val - 768, by omega⟩

/-- A row normalised, with the gain `g`. -/
def normed (x g : Fin 1024 → EReal) (q : Fin 1024) : EReal := x q * Cert.Mlp.rms x * g q

end Cert.Pool

end
-- ==== Proof.Pool.Point.lean ====
/- A subtile of the pooling call at an index, over the reals. -/
module

public import proofs.«01_k».proof.Proof.Pool.Sub
public import proofs.«01_k».proof.Proof.Pool.Rows
public import proofs.«01_k».proof.Proof.Layer.PoolSpec

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen
open Cert.Pool

/-- A modulation row's columns. -/
abbrev mcol (o : ℕ) (ho : o ≤ 5120) (q : Fin 1024) : Fin 6144 := ⟨o + q.val, by omega⟩

/-- The mixed rows from the four groups' products, at an index. -/
theorem mixed_apply (v1 : Vec Ideal S1x1x6144 .f32) (x : Vec Ideal S1x512x1024 .f32) (y0 y1 y2 y3 : FVec Ideal S512x256 .f32) (ps : Vec Ideal S1x1024 .f32) (p : Fin 512) (q : Fin 1024)
    (A : Fin 1024 → Fin 4096 → EReal) (W : Fin 4 → Fin 256 → Fin 256 → EReal) (r : Fin 4096)
    (h0 : ∀ k : Fin 256, y0 (ix2 p k) = ∑ x : Fin 256, delta (A ⟨0 + x.val, by omega⟩) 1 r * W 0 x k)
    (h1 : ∀ k : Fin 256, y1 (ix2 p k) = ∑ x : Fin 256, delta (A ⟨256 + x.val, by omega⟩) 2 r * W 1 x k)
    (h2 : ∀ k : Fin 256, y2 (ix2 p k) = ∑ x : Fin 256, delta (A ⟨512 + x.val, by omega⟩) 4 r * W 2 x k)
    (h3 : ∀ k : Fin 256, y3 (ix2 p k) = ∑ x : Fin 256, delta (A ⟨768 + x.val, by omega⟩) 8 r * W 3 x k) :
    mixed v1 x y0 y1 y2 y3 ps (ix2 p q)
      = x (ix3 (0 : Fin 1) p q) + v1 (ix3 (0 : Fin 1) (0 : Fin 1) (mcol 2048 (by omega) q)) * (pooled A W r q * ps (ix2 (0 : Fin 1) q)) := by
  pointwise [mixed, k0_pay1, k0_pay2]
  refine congrArg (fun z => x (ix3 (0 : Fin 1) p q) + v1 _ * (z * ps (ix2 (0 : Fin 1) q))) ?_
  unfold pooled
  simp only [h0, h1, h2, h3]
  by_cases c0 : q.val < 256
  · rw [dif_pos c0, dif_pos c0]
  by_cases c1 : q.val < 512
  · rw [dif_neg c0, dif_neg c0, dif_pos (by omega), dif_pos c1]
  by_cases c2 : q.val < 768
  · rw [dif_neg c0, dif_neg c0, dif_neg (by omega), dif_neg c1, dif_pos (by omega), dif_pos c2]
    exact Finset.sum_congr rfl fun x _ => congrArg (fun k => delta (A _) 4 r * W 2 x k) (Fin.ext (by dsimp only; omega))
  · rw [dif_neg c0, dif_neg c0, dif_neg (by omega), dif_neg c1, dif_neg (by omega), dif_neg c2]
    exact Finset.sum_congr rfl fun x _ => congrArg (fun k => delta (A _) 8 r * W 3 x k) (Fin.ext (by dsimp only; omega))

/-- The normalised rows of the layer at an index: of the rows `H`, with the gain and the modulation row. -/
abbrev layerRow (v1 : Vec Ideal S1x1x6144 .f32) (g1 : Vec Ideal S1x1024 .f32) (H : Fin 4096 → Fin 1024 → EReal) (k : Fin 1024) (r : Fin 4096) : EReal :=
  Cert.Mlp.act (H r) (fun l => g1 (ix2 (0 : Fin 1) l)) (fun l => v1 (ix3 (0 : Fin 1) (0 : Fin 1) (⟨1024 + l.val, by omega⟩ : Fin 6144))) (fun l => v1 (ix3 (0 : Fin 1) (0 : Fin 1) (⟨l.val, by omega⟩ : Fin 6144))) k

/-- The rows after the pooling mixer, at an index. -/
theorem hRows_apply (v1 : Vec Ideal S1x1x6144 .f32) (x : Vec Ideal S1x512x1024 .f32) (ab be : Vec Ideal S1x8x1024 .f32) (g1 : Vec Ideal S1x1024 .f32) (tt : IVec S528x1 32) (w0 w1 w2 w3 : Vec Ideal S1x256x256 .bf16) (ps : Vec Ideal S1x1024 .f32)
    (s : Fin 8) (H : Fin 4096 → Fin 1024 → EReal) (w : Fin 4 → Fin 256 → Fin 256 → EReal) (ht : ∀ i : Fin 528, tt (ix2 i (0 : Fin 1)) = rowNo s i)
    (he : ∀ (i : Fin 528) (r : Fin 4096), 512 * s.val + i.val = r.val + 8 → ext x ab be i = H r)
    (hw0 : ∀ j k : Fin 256, w0 (ix3 (0 : Fin 1) j k) = w 0 j k) (hw1 : ∀ j k : Fin 256, w1 (ix3 (0 : Fin 1) j k) = w 1 j k)
    (hw2 : ∀ j k : Fin 256, w2 (ix3 (0 : Fin 1) j k) = w 2 j k) (hw3 : ∀ j k : Fin 256, w3 (ix3 (0 : Fin 1) j k) = w 3 j k) (p : Fin 512) (q : Fin 1024) :
    hRows v1 x ab be g1 tt w0 w1 w2 w3 ps (ix2 p q)
      = x (ix3 (0 : Fin 1) p q) + v1 (ix3 (0 : Fin 1) (0 : Fin 1) (mcol 2048 (by omega) q))
          * (pooled (layerRow v1 g1 H) w ⟨512 * s.val + p.val, by omega⟩ q * ps (ix2 (0 : Fin 1) q)) := by
  have hE := pay5_apply v1 x ab be g1 tt s H ht he
  have hT : ∀ p : Fin 512, tt (ix2 (⟨8 + p.val, by omega⟩ : Fin 528) (0 : Fin 1)) = BitVec.ofNat 32 (512 * s.val + p.val) := fun p => (ht _).trans (rowNo_inner s p)
  rw [hRows_eq]
  refine mixed_apply v1 x _ _ _ _ ps p q (layerRow v1 g1 H) w ⟨512 * s.val + p.val, by omega⟩ (fun k => ?_) (fun k => ?_) (fun k => ?_) (fun k => ?_)
  · exact (group_0 _ tt (layerRow v1 g1 H) _ (by omega) hE hT w0 p k).trans (Finset.sum_congr rfl fun j _ => congrArg (_ * ·) (hw0 j k))
  · exact (group_1 _ tt (layerRow v1 g1 H) _ (by omega) hE hT w1 p k).trans (Finset.sum_congr rfl fun j _ => congrArg (_ * ·) (hw1 j k))
  · exact (group_2 _ tt (layerRow v1 g1 H) _ (by omega) hE hT w2 p k).trans (Finset.sum_congr rfl fun j _ => congrArg (_ * ·) (hw2 j k))
  · exact (group_3 _ tt (layerRow v1 g1 H) _ (by omega) hE hT w3 p k).trans (Finset.sum_congr rfl fun j _ => congrArg (_ * ·) (hw3 j k))

/-- The MLP's normalised and modulated rows at an index. -/
theorem acted_apply (v1 : Vec Ideal S1x1x6144 .f32) (h : FVec Ideal S512x1024 .f32) (g : Vec Ideal S1x1024 .f32) (p : Fin 512) (k : Fin 1024) :
    acted v1 h g (ix2 p k)
      = Cert.Mlp.act (fun l => h (ix2 p l)) (fun l => g (ix2 (0 : Fin 1) l)) (fun l => v1 (ix3 (0 : Fin 1) (0 : Fin 1) (mcol 4096 (by omega) l))) (fun l => v1 (ix3 (0 : Fin 1) (0 : Fin 1) (mcol 3072 (by omega) l))) k := by
  unfold Cert.Mlp.act Cert.Mlp.rms
  pointwise [acted, k0_pay22, k0_pay17, k0_pay18, k0_pay19, k0_pay1]

/-- The rows after the MLP. -/
def after (v1 : Vec Ideal S1x1x6144 .f32) (h : FVec Ideal S512x1024 .f32) (g2 : Vec Ideal S1x1024 .f32) (w1 : Fin 1024 → Fin 4096 → EReal) (w2 : Fin 4096 → Fin 1024 → EReal) (p : Fin 512) (q : Fin 1024) : EReal :=
  h (ix2 p q) + v1 (ix3 (0 : Fin 1) (0 : Fin 1) (mcol 5120 (by omega) q)) * Cert.Mlp.mlp (fun k => acted v1 h g2 (ix2 p k)) w1 w2 q

/-- A subtile at an index. -/
theorem sub_apply (v1 : Vec Ideal S1x1x6144 .f32) (x : Vec Ideal S1x512x1024 .f32) (ab be : Vec Ideal S1x8x1024 .f32) (g1 : Vec Ideal S1x1024 .f32) (tt : IVec S528x1 32) (w0 w1 w2 w3 : Vec Ideal S1x256x256 .bf16) (ps : Vec Ideal S1x1024 .f32)
    (g2 : Vec Ideal S1x1024 .f32) (a0 b0 a1 b1 a2 b2 a3 b3 : Vec Ideal S1x1024x1024 .bf16) (gf : Vec Ideal S1x1024 .f32) (p : Fin 512) (q : Fin 1024)
    (u1 : Fin 1024 → Fin 4096 → EReal) (u2 : Fin 4096 → Fin 1024 → EReal)
    (ha0 : ∀ j k : Fin 1024, a0 (ix3 (0 : Fin 1) j k) = u1 j ⟨k.val, by omega⟩) (ha1 : ∀ j k : Fin 1024, a1 (ix3 (0 : Fin 1) j k) = u1 j ⟨1024 + k.val, by omega⟩)
    (ha2 : ∀ j k : Fin 1024, a2 (ix3 (0 : Fin 1) j k) = u1 j ⟨2048 + k.val, by omega⟩) (ha3 : ∀ j k : Fin 1024, a3 (ix3 (0 : Fin 1) j k) = u1 j ⟨3072 + k.val, by omega⟩)
    (hb0 : ∀ k j : Fin 1024, b0 (ix3 (0 : Fin 1) k j) = u2 ⟨k.val, by omega⟩ j) (hb1 : ∀ k j : Fin 1024, b1 (ix3 (0 : Fin 1) k j) = u2 ⟨1024 + k.val, by omega⟩ j)
    (hb2 : ∀ k j : Fin 1024, b2 (ix3 (0 : Fin 1) k j) = u2 ⟨2048 + k.val, by omega⟩ j) (hb3 : ∀ k j : Fin 1024, b3 (ix3 (0 : Fin 1) k j) = u2 ⟨3072 + k.val, by omega⟩ j) :
    sub v1 x ab be g1 tt w0 w1 w2 w3 ps g2 a0 b0 a1 b1 a2 b2 a3 b3 gf (ix3 (0 : Fin 1) p q)
      = normed (after v1 (hRows v1 x ab be g1 tt w0 w1 w2 w3 ps) g2 u1 u2 p) (fun l => gf (ix2 (0 : Fin 1) l)) q := by
  have e : ∀ q, Cert.Mlp.mlp (fun k => acted v1 (hRows v1 x ab be g1 tt w0 w1 w2 w3 ps) g2 (ix2 p k)) u1 u2 q = _ := fun q => (Cert.Mlp.mlp_chunks _ u1 u2 q _ _ _ _ _ _ _ _ ha0 ha1 ha2 ha3 hb0 hb1 hb2 hb3).symm
  unfold sub normed Cert.Mlp.rms after
  simp only [e]
  generalize hRows v1 x ab be g1 tt w0 w1 w2 w3 ps = h
  generalize acted v1 h g2 = act
  unfold Cert.Mlp.unit
  pointwise [k0_pay26, k0_pay25, k0_pay24, k0_pay20, k0_pay1, half]

end Cert.Kernel3Ideal.Pool

end
-- ==== Proof.Pool.Blocks.lean ====
/- The pooling call's blocks, read from the arguments. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen Cert.Kernel3Ideal.Value

variable (m : (ℓ : Loc nD τ sig) → Buf (Elt Ideal) ℓ) (ρ : Dev nD → PrngReg)

theorem point_lt (t : Fin cfg0.N) : t.val < 16 := Nat.lt_of_lt_of_eq t.isLt N_0

/-- Where each window's block lies at a point. -/
theorem index_0 : ∀ t : Fin cfg0.N, win0_0.index t = ![t.val / 4, t.val % 4, 0] := (by decide +kernel : ∀ t : Fin grid0.N, win0_0.index t = ![t.val / 4, t.val % 4, 0])
theorem index_1 : ∀ t : Fin cfg0.N, win0_1.index t = ![t.val / 4, t.val % 4 * 128 - 1, 0] := (by decide +kernel : ∀ t : Fin grid0.N, win0_1.index t = ![t.val / 4, t.val % 4 * 128 - 1, 0])
theorem index_2 : ∀ t : Fin cfg0.N, win0_2.index t = ![t.val / 4, min ((t.val % 4 + 1) * 128) 511, 0] := (by decide +kernel : ∀ t : Fin grid0.N, win0_2.index t = ![t.val / 4, min ((t.val % 4 + 1) * 128) 511, 0])
theorem index_3 : ∀ t : Fin cfg0.N, win0_3.index t = ![1, 0, 0] := (by decide +kernel : ∀ t : Fin grid0.N, win0_3.index t = ![1, 0, 0])
theorem index_4 : ∀ t : Fin cfg0.N, win0_4.index t = ![0, 0] := (by decide +kernel : ∀ t : Fin grid0.N, win0_4.index t = ![0, 0])
theorem index_5 : ∀ t : Fin cfg0.N, win0_5.index t = ![0, 0, 0] := (by decide +kernel : ∀ t : Fin grid0.N, win0_5.index t = ![0, 0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![1, 0, 0] := (by decide +kernel : ∀ t : Fin grid0.N, win0_8.index t = ![1, 0, 0])
theorem index_9 : ∀ t : Fin cfg0.N, win0_9.index t = ![1, 0, 0] := (by decide +kernel : ∀ t : Fin grid0.N, win0_9.index t = ![1, 0, 0])
theorem index_10 : ∀ t : Fin cfg0.N, win0_10.index t = ![0, 0] := (by decide +kernel : ∀ t : Fin grid0.N, win0_10.index t = ![0, 0])
theorem index_11 : ∀ t : Fin cfg0.N, win0_11.index t = ![t.val / 4, t.val % 4, 0] := (by decide +kernel : ∀ t : Fin grid0.N, win0_11.index t = ![t.val / 4, t.val % 4, 0])

/-- The batch a point works on, the array row of its row `p`, and the array rows of the eight before and after its block (at the sequence's ends, of the nearest eight). -/
def batch (t : Fin cfg0.N) : Fin 4 := ⟨t.val / 4, by have := point_lt t; omega⟩
def row (t : Fin cfg0.N) (p : Fin 1024) : Fin 4096 := ⟨1024 * (t.val % 4) + p.val, by omega⟩
def above (t : Fin cfg0.N) (p : Fin 8) : Fin 4096 := ⟨(t.val % 4 * 128 - 1) * 8 + p.val, by omega⟩
def below (t : Fin cfg0.N) (p : Fin 8) : Fin 4096 := ⟨min ((t.val % 4 + 1) * 128) 511 * 8 + p.val, by omega⟩

/-- The blocks the windows bring in, at an index. -/
theorem block_0 (c : Dev nD) (t : Fin cfg0.N) (p q : Fin 1024) : iblk m c 0 t (ix3 (0 : Fin 1) p q) = m (c.tc.loc main_arg0) (ix3 (batch t) (row t p) q) := by
  have ht := point_lt t
  unfold batch row
  blk_simp [iblk, V, index_0 t]
  blk_ext [index_0 t]
theorem block_1 (c : Dev nD) (t : Fin cfg0.N) (p : Fin 8) (q : Fin 1024) : iblk m c 1 t (ix3 (0 : Fin 1) p q) = m (c.tc.loc main_arg0) (ix3 (batch t) (above t p) q) := by
  have ht := point_lt t
  unfold batch above
  blk_simp [iblk, V, index_1 t]
  blk_ext [index_1 t]
theorem block_2 (c : Dev nD) (t : Fin cfg0.N) (p : Fin 8) (q : Fin 1024) : iblk m c 2 t (ix3 (0 : Fin 1) p q) = m (c.tc.loc main_arg0) (ix3 (batch t) (below t p) q) := by
  have ht := point_lt t
  unfold batch below
  blk_simp [iblk, V, index_2 t]
  blk_ext [index_2 t]
theorem block_3 (c : Dev nD) (t : Fin cfg0.N) (n : Fin 8) (j : Fin 6144) : iblk m c 3 t (ix3 (0 : Fin 1) n j) = m (c.tc.loc main_arg1) (ix3 (1 : Fin 2) n j) := by
  have ht := point_lt t
  blk_simp [iblk, V, index_3 t]
  blk_ext [index_3 t]
theorem block_4 (c : Dev nD) (t : Fin cfg0.N) (q : Fin 1024) : iblk m c 4 t (ix2 (0 : Fin 1) q) = m (c.tc.loc main_arg2) (ix2 (1 : Fin 2) q) := by
  have ht := point_lt t
  blk_simp [iblk, V, index_4 t]
  entry_read
  pointwise
  try blk_ext [index_4 t]
theorem block_5 (c : Dev nD) (t : Fin cfg0.N) (g : Fin 4) (j k : Fin 256) : iblk m c 5 t (ix3 (0 : Fin 1) (⟨256 * g.val + j.val, by omega⟩ : Fin 1024) k) = m (c.tc.loc main_arg3) (ix4 (0 : Fin 1) g j k) := by
  have ht := point_lt t
  blk_simp [iblk, V, index_5 t]
  entry_read
  pointwise
  try blk_ext [index_5 t]
theorem block_6 (c : Dev nD) (t : Fin cfg0.N) (q : Fin 1024) : iblk m c 6 t (ix2 (0 : Fin 1) q) = m (c.tc.loc main_arg4) (ix2 (0 : Fin 1) q) := by
  have ht := point_lt t
  blk_simp [iblk, V, index_6 t]
  entry_read
  pointwise
  try blk_ext [index_6 t]
theorem block_7 (c : Dev nD) (t : Fin cfg0.N) (q : Fin 1024) : iblk m c 7 t (ix2 (0 : Fin 1) q) = m (c.tc.loc main_arg5) (ix2 (1 : Fin 2) q) := by
  have ht := point_lt t
  blk_simp [iblk, V, index_7 t]
  entry_read
  pointwise
  try blk_ext [index_7 t]
theorem block_8 (c : Dev nD) (t : Fin cfg0.N) (p : Fin 1024) (q : Fin 4096) : iblk m c 8 t (ix3 (0 : Fin 1) p q) = m (c.tc.loc main_arg6) (ix3 (1 : Fin 2) p q) := by
  have ht := point_lt t
  blk_simp [iblk, V, index_8 t]
  entry_read
  pointwise
  try blk_ext [index_8 t]
theorem block_9 (c : Dev nD) (t : Fin cfg0.N) (p : Fin 4096) (q : Fin 1024) : iblk m c 9 t (ix3 (0 : Fin 1) p q) = m (c.tc.loc main_arg7) (ix3 (1 : Fin 2) p q) := by
  have ht := point_lt t
  blk_simp [iblk, V, index_9 t]
  entry_read
  pointwise
  try blk_ext [index_9 t]
theorem block_10 (c : Dev nD) (t : Fin cfg0.N) (q : Fin 1024) : iblk m c 10 t (ix2 (0 : Fin 1) q) = m (c.tc.loc main_arg8) (ix1 q) := by
  have ht := point_lt t
  blk_simp [iblk, V, index_10 t]
  entry_read
  pointwise
  try blk_ext [index_10 t]

/-- Where the output's block lies. -/
theorem place_11 (t : Fin cfg0.N) (p q : Fin 1024) : ((View.whole main_v13).slice (win0_11.rect t)).emb (ix3 (0 : Fin 1) p q) = ix3 (batch t) (row t p) q := by
  have ht := point_lt t
  unfold batch row
  blk_ext [index_11 t]

end Cert.Kernel3Ideal.Pool

end
-- ==== Proof.Pool.Reads.lean ====
/- The reference's four pooled groups, read at an index. -/
module

public import proofs.«01_k».proof.Proof.Gen.Reference3Ideal.Read
public import proofs.«01_k».proof.Proof.Layer.Mlp
public import proofs.«01_k».proof.Proof.Layer.PoolSpec
public import Idealize.ShloMosaic.Lib.Pointwise

@[expose] public section

set_option maxRecDepth 16384

noncomputable section

namespace Cert.Reference3Ideal.Pool

open Idealize.ShloMosaic Idealize.ShloMosaic.TcCoe Idealize.ShloMosaic.Tactic
open Idealize.SL Idealize.SL.Sem
open Idealize.ShloMosaic.Pipeline (Dat Cfg Window)
open Cert.Reference3Ideal Cert.Reference3Ideal.Read
open Cert.Pool

theorem sitofp_zero : FloatOps.sitofp (F := Ideal) .f32 0#32 = (0 : EReal) := by simp [FloatOps.sitofp]
theorem count_0 : ∀ r : Fin 4096, IntOp.subi (IntOp.minsi 4096#32 (IntOp.maxsi 0#32 (IntOp.subi (IntOp.addi (BitVec.ofNat 32 r.val) 2#32) 1#32))) (IntOp.minsi 4096#32 (IntOp.maxsi 0#32 (IntOp.subi (BitVec.ofNat 32 r.val) 1#32))) = count 1 r := by decide +kernel
theorem count_1 : ∀ r : Fin 4096, IntOp.subi (IntOp.minsi 4096#32 (IntOp.maxsi 0#32 (IntOp.subi (IntOp.addi (BitVec.ofNat 32 r.val) 4#32) 2#32))) (IntOp.minsi 4096#32 (IntOp.maxsi 0#32 (IntOp.subi (BitVec.ofNat 32 r.val) 2#32))) = count 2 r := by decide +kernel
theorem count_2 : ∀ r : Fin 4096, IntOp.subi (IntOp.minsi 4096#32 (IntOp.maxsi 0#32 (IntOp.subi (IntOp.addi (BitVec.ofNat 32 r.val) 8#32) 4#32))) (IntOp.minsi 4096#32 (IntOp.maxsi 0#32 (IntOp.subi (BitVec.ofNat 32 r.val) 4#32))) = count 4 r := by decide +kernel
theorem count_3 : ∀ r : Fin 4096, IntOp.subi (IntOp.minsi 4096#32 (IntOp.maxsi 0#32 (IntOp.subi (IntOp.addi (BitVec.ofNat 32 r.val) 16#32) 8#32))) (IntOp.minsi 4096#32 (IntOp.maxsi 0#32 (IntOp.subi (BitVec.ofNat 32 r.val) 8#32))) = count 8 r := by decide +kernel

theorem pad_0 (h : S4x4096x1024.Idx → EReal) (md : S2x8x6144.Idx → EReal) (g1 : S2x1024.Idx → EReal) (n : Fin 4) (i : Fin 4097) (k : Fin 256) :
    val_main_v39 (F := Ideal) h md g1 (ix3 n i k) = padded (fun r => val_main_v34 (F := Ideal) h md g1 (ix3 n r (⟨0 + k.val, by omega⟩ : Fin 1024))) (i.val + 7) := by
  unfold padded
  pointwise [val_main_v38, val_main_c, val_main_call0_v0, val_main_v39]
  by_cases c : 1 ≤ i.val ∧ i.val - 1 < 4096
  · rw [dif_pos c, dif_pos (by omega)]
    exact congrArg (fun r => val_main_v34 (F := Ideal) h md g1 (ix3 n r _)) (Fin.ext (by dsimp only; omega))
  · rw [dif_neg c, dif_neg (by omega)]
    exact sitofp_zero

theorem delta_0 (h : S4x4096x1024.Idx → EReal) (md : S2x8x6144.Idx → EReal) (g1 : S2x1024.Idx → EReal) (n : Fin 4) (r : Fin 4096) (k : Fin 256) :
    val_main_v58 (F := Ideal) h md g1 (ix3 n r k) = delta (fun r => val_main_v34 (F := Ideal) h md g1 (ix3 n r (⟨0 + k.val, by omega⟩ : Fin 1024))) 1 r := by
  have hr := r.isLt
  pointwise [val_main_v37, val_main_v38, val_main_v40, val_main_cst_3, val_main_v41, val_main_v42, val_main_v43, val_main_v44, val_main_c_4, val_main_v45, val_main_v46, val_main_c_5, val_main_c_6, val_main_call1_v0, val_main_call1_v1, val_main_call1_v2, val_main_call1_v3, val_main_call1_v4, val_main_v47, val_main_c_7, val_main_v48, val_main_v49, val_main_c_8, val_main_v50, val_main_v51, val_main_c_9, val_main_c_10, val_main_call2_v0, val_main_call2_v1, val_main_call2_v2, val_main_call2_v3, val_main_call2_v4, val_main_v52, val_main_v53, val_main_v54, val_main_v55, val_main_v56, val_main_v57, val_main_v58]
  refine delta_of _ 1 r _ _ _ ?_ ?_ ?_
  · simp only [pad_0, win, Finset.sum_range_succ, Finset.range_zero, Finset.sum_empty, zero_add]
    repeat (refine congrArg₂ HAdd.hAdd ?_ (congrArg (padded _) (by omega)))
    exact congrArg (padded _) (by omega)
  · rfl
  · exact count_0 r

theorem pad_1 (h : S4x4096x1024.Idx → EReal) (md : S2x8x6144.Idx → EReal) (g1 : S2x1024.Idx → EReal) (n : Fin 4) (i : Fin 4099) (k : Fin 256) :
    val_main_v60 (F := Ideal) h md g1 (ix3 n i k) = padded (fun r => val_main_v34 (F := Ideal) h md g1 (ix3 n r (⟨256 + k.val, by omega⟩ : Fin 1024))) (i.val + 6) := by
  unfold padded
  pointwise [val_main_v59, val_main_c_11, val_main_call3_v0, val_main_v60]
  by_cases c : 2 ≤ i.val ∧ i.val - 2 < 4096
  · rw [dif_pos c, dif_pos (by omega)]
    exact congrArg (fun r => val_main_v34 (F := Ideal) h md g1 (ix3 n r _)) (Fin.ext (by dsimp only; omega))
  · rw [dif_neg c, dif_neg (by omega)]
    exact sitofp_zero

theorem delta_1 (h : S4x4096x1024.Idx → EReal) (md : S2x8x6144.Idx → EReal) (g1 : S2x1024.Idx → EReal) (n : Fin 4) (r : Fin 4096) (k : Fin 256) :
    val_main_v83 (F := Ideal) h md g1 (ix3 n r k) = delta (fun r => val_main_v34 (F := Ideal) h md g1 (ix3 n r (⟨256 + k.val, by omega⟩ : Fin 1024))) 2 r := by
  have hr := r.isLt
  pointwise [val_main_v37, val_main_v59, val_main_v61, val_main_cst_12, val_main_v62, val_main_v63, val_main_v64, val_main_v65, val_main_v66, val_main_v67, val_main_v68, val_main_v69, val_main_c_13, val_main_v70, val_main_v71, val_main_c_14, val_main_c_15, val_main_call4_v0, val_main_call4_v1, val_main_call4_v2, val_main_call4_v3, val_main_call4_v4, val_main_v72, val_main_c_16, val_main_v73, val_main_v74, val_main_c_17, val_main_v75, val_main_v76, val_main_c_18, val_main_c_19, val_main_call5_v0, val_main_call5_v1, val_main_call5_v2, val_main_call5_v3, val_main_call5_v4, val_main_v77, val_main_v78, val_main_v79, val_main_v80, val_main_v81, val_main_v82, val_main_v83]
  refine delta_of _ 2 r _ _ _ ?_ ?_ ?_
  · simp only [pad_1, win, Finset.sum_range_succ, Finset.range_zero, Finset.sum_empty, zero_add]
    repeat (refine congrArg₂ HAdd.hAdd ?_ (congrArg (padded _) (by omega)))
    exact congrArg (padded _) (by omega)
  · rfl
  · exact count_1 r

theorem pad_2 (h : S4x4096x1024.Idx → EReal) (md : S2x8x6144.Idx → EReal) (g1 : S2x1024.Idx → EReal) (n : Fin 4) (i : Fin 4103) (k : Fin 256) :
    val_main_v85 (F := Ideal) h md g1 (ix3 n i k) = padded (fun r => val_main_v34 (F := Ideal) h md g1 (ix3 n r (⟨512 + k.val, by omega⟩ : Fin 1024))) (i.val + 4) := by
  unfold padded
  pointwise [val_main_v84, val_main_c_20, val_main_call6_v0, val_main_v85]
  by_cases c : 4 ≤ i.val ∧ i.val - 4 < 4096
  · rw [dif_pos c, dif_pos (by omega)]
    exact congrArg (fun r => val_main_v34 (F := Ideal) h md g1 (ix3 n r _)) (Fin.ext (by dsimp only; omega))
  · rw [dif_neg c, dif_neg (by omega)]
    exact sitofp_zero

theorem delta_2 (h : S4x4096x1024.Idx → EReal) (md : S2x8x6144.Idx → EReal) (g1 : S2x1024.Idx → EReal) (n : Fin 4) (r : Fin 4096) (k : Fin 256) :
    val_main_v116 (F := Ideal) h md g1 (ix3 n r k) = delta (fun r => val_main_v34 (F := Ideal) h md g1 (ix3 n r (⟨512 + k.val, by omega⟩ : Fin 1024))) 4 r := by
  have hr := r.isLt
  pointwise [val_main_v37, val_main_v84, val_main_v86, val_main_cst_21, val_main_v87, val_main_v88, val_main_v89, val_main_v90, val_main_v91, val_main_v92, val_main_v93, val_main_v94, val_main_v95, val_main_v96, val_main_v97, val_main_v98, val_main_v99, val_main_v100, val_main_v101, val_main_v102, val_main_c_22, val_main_v103, val_main_v104, val_main_c_23, val_main_c_24, val_main_call7_v0, val_main_call7_v1, val_main_call7_v2, val_main_call7_v3, val_main_call7_v4, val_main_v105, val_main_c_25, val_main_v106, val_main_v107, val_main_c_26, val_main_v108, val_main_v109, val_main_c_27, val_main_c_28, val_main_call8_v0, val_main_call8_v1, val_main_call8_v2, val_main_call8_v3, val_main_call8_v4, val_main_v110, val_main_v111, val_main_v112, val_main_v113, val_main_v114, val_main_v115, val_main_v116]
  refine delta_of _ 4 r _ _ _ ?_ ?_ ?_
  · simp only [pad_2, win, Finset.sum_range_succ, Finset.range_zero, Finset.sum_empty, zero_add]
    repeat (refine congrArg₂ HAdd.hAdd ?_ (congrArg (padded _) (by omega)))
    exact congrArg (padded _) (by omega)
  · rfl
  · exact count_2 r

theorem pad_3 (h : S4x4096x1024.Idx → EReal) (md : S2x8x6144.Idx → EReal) (g1 : S2x1024.Idx → EReal) (n : Fin 4) (i : Fin 4111) (k : Fin 256) :
    val_main_v118 (F := Ideal) h md g1 (ix3 n i k) = padded (fun r => val_main_v34 (F := Ideal) h md g1 (ix3 n r (⟨768 + k.val, by omega⟩ : Fin 1024))) (i.val + 0) := by
  unfold padded
  pointwise [val_main_v117, val_main_c_29, val_main_call9_v0, val_main_v118]
  by_cases c : 8 ≤ i.val ∧ i.val - 8 < 4096
  · rw [dif_pos c, dif_pos (by omega)]
  · rw [dif_neg c, dif_neg (by omega)]
    exact sitofp_zero

theorem delta_3 (h : S4x4096x1024.Idx → EReal) (md : S2x8x6144.Idx → EReal) (g1 : S2x1024.Idx → EReal) (n : Fin 4) (r : Fin 4096) (k : Fin 256) :
    val_main_v165 (F := Ideal) h md g1 (ix3 n r k) = delta (fun r => val_main_v34 (F := Ideal) h md g1 (ix3 n r (⟨768 + k.val, by omega⟩ : Fin 1024))) 8 r := by
  have hr := r.isLt
  pointwise [val_main_v37, val_main_v117, val_main_v119, val_main_cst_30, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_c_31, val_main_v152, val_main_v153, val_main_c_32, val_main_c_33, val_main_call10_v0, val_main_call10_v1, val_main_call10_v2, val_main_call10_v3, val_main_call10_v4, val_main_v154, val_main_c_34, val_main_v155, val_main_v156, val_main_c_35, val_main_v157, val_main_v158, val_main_c_36, val_main_c_37, val_main_call11_v0, val_main_call11_v1, val_main_call11_v2, val_main_call11_v3, val_main_call11_v4, val_main_v159, val_main_v160, val_main_v161, val_main_v162, val_main_v163, val_main_v164, val_main_v165]
  refine delta_of _ 8 r _ _ _ ?_ ?_ ?_
  · simp only [pad_3, win, Finset.sum_range_succ, Finset.range_zero, Finset.sum_empty, zero_add]
    repeat (refine congrArg₂ HAdd.hAdd ?_ (congrArg (padded _) (by omega)))
    exact congrArg (padded _) (by omega)
  · rfl
  · exact count_3 r

end Cert.Reference3Ideal.Pool

end
-- ==== Proof.Pool.Reference.lean ====
/- The layer 1 result at an index, and the reference there. -/
module

public import proofs.«01_k».proof.Proof.Pool.Reads

@[expose] public section

set_option maxRecDepth 16384

noncomputable section

namespace Cert.Reference3Ideal.Pool

open Idealize.ShloMosaic Idealize.ShloMosaic.TcCoe Idealize.ShloMosaic.Tactic
open Idealize.SL Idealize.SL.Sem
open Idealize.ShloMosaic.Pipeline (Dat Cfg Window)
open Cert.Reference3Ideal Cert.Reference3Ideal.Read
open Cert.Pool

/-- The layer's input normalised and modulated: column `k`, row `r`. -/
def acted1 (h : S4x4096x1024.Idx → EReal) (md : S2x8x6144.Idx → EReal) (g1 : S2x1024.Idx → EReal) (n : Fin 4) (k : Fin 1024) (r : Fin 4096) : EReal :=
  Cert.Mlp.act (fun l => h (ix3 n r l)) (fun l => g1 (ix2 (1 : Fin 2) l)) (fun l => md (ix3 (1 : Fin 2) (⟨n.val, by omega⟩ : Fin 8) (⟨1024 + l.val, by omega⟩ : Fin 6144))) (fun l => md (ix3 (1 : Fin 2) (⟨n.val, by omega⟩ : Fin 8) (⟨l.val, by omega⟩ : Fin 6144))) k

/-- The rows after the pooling mixer. -/
def mixed (h : S4x4096x1024.Idx → EReal) (md : S2x8x6144.Idx → EReal) (g1 : S2x1024.Idx → EReal) (pw : S1x4x256x256.Idx → EReal) (ps : S1x1024.Idx → EReal) (n : Fin 4) (r : Fin 4096) (q : Fin 1024) : EReal :=
  h (ix3 n r q) + md (ix3 (1 : Fin 2) (⟨n.val, by omega⟩ : Fin 8) (⟨2048 + q.val, by omega⟩ : Fin 6144)) * (pooled (acted1 h md g1 n) (fun g j k => pw (ix4 (0 : Fin 1) g j k)) r q * ps (ix2 (0 : Fin 1) q))

/-- Those normalised and modulated. -/
def acted2 (h : S4x4096x1024.Idx → EReal) (md : S2x8x6144.Idx → EReal) (g1 : S2x1024.Idx → EReal) (pw : S1x4x256x256.Idx → EReal) (ps : S1x1024.Idx → EReal) (g2 : S2x1024.Idx → EReal) (n : Fin 4) (r : Fin 4096) : Fin 1024 → EReal :=
  Cert.Mlp.act (mixed h md g1 pw ps n r) (fun l => g2 (ix2 (1 : Fin 2) l)) (fun l => md (ix3 (1 : Fin 2) (⟨n.val, by omega⟩ : Fin 8) (⟨4096 + l.val, by omega⟩ : Fin 6144))) (fun l => md (ix3 (1 : Fin 2) (⟨n.val, by omega⟩ : Fin 8) (⟨3072 + l.val, by omega⟩ : Fin 6144)))

/-- The rows after the MLP. -/
def after (h : S4x4096x1024.Idx → EReal) (md : S2x8x6144.Idx → EReal) (g1 : S2x1024.Idx → EReal) (pw : S1x4x256x256.Idx → EReal) (ps : S1x1024.Idx → EReal) (g2 : S2x1024.Idx → EReal) (w1 : S2x1024x4096.Idx → EReal) (w2 : S2x4096x1024.Idx → EReal) (n : Fin 4) (r : Fin 4096) (q : Fin 1024) : EReal :=
  mixed h md g1 pw ps n r q + md (ix3 (1 : Fin 2) (⟨n.val, by omega⟩ : Fin 8) (⟨5120 + q.val, by omega⟩ : Fin 6144)) * Cert.Mlp.mlp (acted2 h md g1 pw ps g2 n r) (fun j k => w1 (ix3 (1 : Fin 2) j k)) (fun k j => w2 (ix3 (1 : Fin 2) k j)) q

/-- The result: those normalised once more. -/
def entry (h : S4x4096x1024.Idx → EReal) (md : S2x8x6144.Idx → EReal) (g1 : S2x1024.Idx → EReal) (pw : S1x4x256x256.Idx → EReal) (ps : S1x1024.Idx → EReal) (g2 : S2x1024.Idx → EReal) (w1 : S2x1024x4096.Idx → EReal) (w2 : S2x4096x1024.Idx → EReal) (gf : S1024.Idx → EReal) (n : Fin 4) (r : Fin 4096) (q : Fin 1024) : EReal :=
  normed (after h md g1 pw ps g2 w1 w2 n r) (fun l => gf (ix1 l)) q

theorem acted1_read (h : S4x4096x1024.Idx → EReal) (md : S2x8x6144.Idx → EReal) (g1 : S2x1024.Idx → EReal) (n : Fin 4) (r : Fin 4096) (k : Fin 1024) : val_main_v34 (F := Ideal) h md g1 (ix3 n r k) = acted1 h md g1 n k r := by
  unfold acted1 Cert.Mlp.act Cert.Mlp.rms
  pointwise [val_main_v0, val_main_v1, val_main_v2, val_main_v3, val_main_v8, val_main_v9, val_main_v14, val_main_v15, val_main_v16, val_main_cst, val_main_v17, val_main_v18, val_main_cst_0, val_main_v19, val_main_v20, val_main_cst_1, val_main_v21, val_main_v22, val_main_v23, val_main_v24, val_main_v25, val_main_v26, val_main_v27, val_main_v28, val_main_cst_2, val_main_v29, val_main_v30, val_main_v31, val_main_v32, val_main_v33, val_main_v34]

/-- The four groups' means less the row. -/
theorem delta_read_0 (h : S4x4096x1024.Idx → EReal) (md : S2x8x6144.Idx → EReal) (g1 : S2x1024.Idx → EReal) (n : Fin 4) (r : Fin 4096) (k : Fin 256) : val_main_v58 (F := Ideal) h md g1 (ix3 n r k) = delta (acted1 h md g1 n ⟨0 + k.val, by omega⟩) 1 r := by
  rw [delta_0]
  exact congrArg (fun A => delta A 1 r) (funext fun r => acted1_read h md g1 n r _)
theorem delta_read_1 (h : S4x4096x1024.Idx → EReal) (md : S2x8x6144.Idx → EReal) (g1 : S2x1024.Idx → EReal) (n : Fin 4) (r : Fin 4096) (k : Fin 256) : val_main_v83 (F := Ideal) h md g1 (ix3 n r k) = delta (acted1 h md g1 n ⟨256 + k.val, by omega⟩) 2 r := by
  rw [delta_1]
  exact congrArg (fun A => delta A 2 r) (funext fun r => acted1_read h md g1 n r _)
theorem delta_read_2 (h : S4x4096x1024.Idx → EReal) (md : S2x8x6144.Idx → EReal) (g1 : S2x1024.Idx → EReal) (n : Fin 4) (r : Fin 4096) (k : Fin 256) : val_main_v116 (F := Ideal) h md g1 (ix3 n r k) = delta (acted1 h md g1 n ⟨512 + k.val, by omega⟩) 4 r := by
  rw [delta_2]
  exact congrArg (fun A => delta A 4 r) (funext fun r => acted1_read h md g1 n r _)
theorem delta_read_3 (h : S4x4096x1024.Idx → EReal) (md : S2x8x6144.Idx → EReal) (g1 : S2x1024.Idx → EReal) (n : Fin 4) (r : Fin 4096) (k : Fin 256) : val_main_v165 (F := Ideal) h md g1 (ix3 n r k) = delta (acted1 h md g1 n ⟨768 + k.val, by omega⟩) 8 r := by
  rw [delta_3]
  exact congrArg (fun A => delta A 8 r) (funext fun r => acted1_read h md g1 n r _)

/-- The four groups' products. -/
theorem pooled_read (h : S4x4096x1024.Idx → EReal) (md : S2x8x6144.Idx → EReal) (g1 : S2x1024.Idx → EReal) (pw : S1x4x256x256.Idx → EReal) (ps : S1x1024.Idx → EReal) (n : Fin 4) (r : Fin 4096) (q : Fin 1024) :
    val_main_v173 (F := Ideal) h md g1 pw (ix3 n r q) = pooled (acted1 h md g1 n) (fun g j k => pw (ix4 (0 : Fin 1) g j k)) r q := by
  have hq := q.isLt
  pointwise [val_main_v35, val_main_v166, val_main_v167, val_main_v168, val_main_v169, val_main_v170, val_main_v171, val_main_v172, val_main_v173]
  unfold pooled
  by_cases c0 : q.val < 256
  · rw [dif_pos c0]
    refine Finset.sum_congr rfl fun x _ => ?_
    rw [dif_pos (by omega), delta_read_0, mul_comm]
    exact congrArg₂ (fun a b => _ * pw (ix4 (0 : Fin 1) a x b)) (Fin.ext (by show q.val / 256 = 0; omega)) (Fin.ext (by show q.val % 256 = q.val; omega))
  by_cases c1 : q.val < 512
  · rw [dif_neg c0, dif_pos c1]
    refine Finset.sum_congr rfl fun x _ => ?_
    rw [dif_neg (by omega), dif_pos (by omega), delta_read_1, mul_comm]
    exact congrArg₂ (fun a b => _ * pw (ix4 (0 : Fin 1) a x b)) (Fin.ext (by show q.val / 256 = 1; omega)) (Fin.ext (by show q.val % 256 = q.val - 256; omega))
  by_cases c2 : q.val < 768
  · rw [dif_neg c0, dif_neg c1, dif_pos c2]
    refine Finset.sum_congr rfl fun x _ => ?_
    rw [dif_neg (by omega), dif_neg (by omega), dif_pos (by omega), delta_read_2, mul_comm]
    exact congrArg₂ (fun a b => _ * pw (ix4 (0 : Fin 1) a x b)) (Fin.ext (by show q.val / 256 = 2; omega)) (Fin.ext (by show q.val % 256 = q.val - 512; omega))
  · rw [dif_neg c0, dif_neg c1, dif_neg c2]
    refine Finset.sum_congr rfl fun x _ => ?_
    rw [dif_neg (by omega), dif_neg (by omega), dif_neg (by omega), delta_read_3, mul_comm]
    exact congrArg₂ (fun a b => _ * pw (ix4 (0 : Fin 1) a x b)) (Fin.ext (by show q.val / 256 = 3; omega)) (Fin.ext (by show q.val % 256 = q.val - 768; omega))

theorem mixed_read (h : S4x4096x1024.Idx → EReal) (md : S2x8x6144.Idx → EReal) (g1 : S2x1024.Idx → EReal) (pw : S1x4x256x256.Idx → EReal) (ps : S1x1024.Idx → EReal) (n : Fin 4) (r : Fin 4096) (q : Fin 1024) : val_main_v179 (F := Ideal) h md g1 pw ps (ix3 n r q) = mixed h md g1 pw ps n r q := by
  unfold mixed
  rw [← pooled_read h md g1 pw ps n r q]
  pointwise [val_main_v0, val_main_v1, val_main_v4, val_main_v10, val_main_v36, val_main_v174, val_main_v175, val_main_v176, val_main_v177, val_main_v178, val_main_v179]

theorem acted2_read (h : S4x4096x1024.Idx → EReal) (md : S2x8x6144.Idx → EReal) (g1 : S2x1024.Idx → EReal) (pw : S1x4x256x256.Idx → EReal) (ps : S1x1024.Idx → EReal) (g2 : S2x1024.Idx → EReal) (n : Fin 4) (r : Fin 4096) (k : Fin 1024) : val_main_v200 (F := Ideal) h md g1 pw ps g2 (ix3 n r k) = acted2 h md g1 pw ps g2 n r k := by
  unfold acted2 Cert.Mlp.act Cert.Mlp.rms
  simp only [← mixed_read]
  pointwise [val_main_v0, val_main_v1, val_main_v5, val_main_v6, val_main_v11, val_main_v12, val_main_v180, val_main_v181, val_main_v182, val_main_cst_38, val_main_v183, val_main_v184, val_main_cst_39, val_main_v185, val_main_v186, val_main_cst_40, val_main_v187, val_main_v188, val_main_v189, val_main_v190, val_main_v191, val_main_v192, val_main_v193, val_main_v194, val_main_cst_41, val_main_v195, val_main_v196, val_main_v197, val_main_v198, val_main_v199, val_main_v200]

theorem after_read (h : S4x4096x1024.Idx → EReal) (md : S2x8x6144.Idx → EReal) (g1 : S2x1024.Idx → EReal) (pw : S1x4x256x256.Idx → EReal) (ps : S1x1024.Idx → EReal) (g2 : S2x1024.Idx → EReal) (w1 : S2x1024x4096.Idx → EReal) (w2 : S2x4096x1024.Idx → EReal) (n : Fin 4) (r : Fin 4096) (q : Fin 1024) : val_main_v211 (F := Ideal) h md g1 pw ps g2 w1 w2 (ix3 n r q) = after h md g1 pw ps g2 w1 w2 n r q := by
  unfold after Cert.Mlp.mlp Cert.Mlp.unit
  simp only [← mixed_read, ← acted2_read]
  pointwise [val_main_v0, val_main_v1, val_main_v7, val_main_v13, val_main_v201, val_main_v202, val_main_v203, val_main_v204, val_main_v205, val_main_call12_cst, val_main_call12_v0, val_main_v206, val_main_v207, val_main_v208, val_main_v209, val_main_v210, val_main_v211]

theorem reference_apply (h : S4x4096x1024.Idx → EReal) (md : S2x8x6144.Idx → EReal) (g1 : S2x1024.Idx → EReal) (pw : S1x4x256x256.Idx → EReal) (ps : S1x1024.Idx → EReal) (g2 : S2x1024.Idx → EReal) (w1 : S2x1024x4096.Idx → EReal) (w2 : S2x4096x1024.Idx → EReal) (gf : S1024.Idx → EReal) (n : Fin 4) (r : Fin 4096) (q : Fin 1024) :
    val_main_v224 (F := Ideal) h md g1 pw ps g2 w1 w2 gf (ix3 n r q) = entry h md g1 pw ps g2 w1 w2 gf n r q := by
  unfold entry normed Cert.Mlp.rms
  simp only [← after_read]
  pointwise [val_main_v212, val_main_cst_42, val_main_v213, val_main_v214, val_main_cst_43, val_main_v215, val_main_v216, val_main_cst_44, val_main_v217, val_main_v218, val_main_v219, val_main_v220, val_main_v221, val_main_v222, val_main_v223, val_main_v224]

end Cert.Reference3Ideal.Pool

end
-- ==== Proof.Pool.Value.lean ====
/- The pooling call's result over the reals: block by block it is the reference's. -/
module

public import proofs.«01_k».proof.Proof.Pool.Point
public import proofs.«01_k».proof.Proof.Pool.Blocks
public import proofs.«01_k».proof.Proof.Pool.Reference
public import proofs.«01_k».proof.Proof.Gen.Reference3Ideal.Run
public import Idealize.ShloMosaic.Lib.WholeRead
public import Idealize.ShloMosaic.Lib.ValueLayout

@[expose] public section

set_option maxRecDepth 16384

noncomputable section

namespace Cert.Kernel3Ideal.Pool

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen Cert.Kernel3Ideal.Value
open Cert.Pool

/-- Where a weight chunk's column, a pooling group's row, a batch's modulation row and a subtile's row lie. -/
abbrev colW (c : Fin 4) (k : Fin 1024) : Fin 4096 := ⟨1024 * c.val + k.val, by omega⟩
abbrev grpRow (g : Fin 4) (j : Fin 256) : Fin 1024 := ⟨256 * g.val + j.val, by omega⟩
abbrev asEight (n : Fin 4) : Fin 8 := ⟨n.val, by omega⟩
abbrev tileRow (s : Fin 8) (p : Fin 512) : Fin 4096 := ⟨512 * s.val + p.val, by omega⟩

/-- A subtile whose loads are the arguments' rows stores the result's rows. -/
theorem sub_entry (v1 : Vec Ideal S1x1x6144 .f32) (x : Vec Ideal S1x512x1024 .f32) (ab be : Vec Ideal S1x8x1024 .f32) (g1 : Vec Ideal S1x1024 .f32) (tt : IVec S528x1 32) (w0 w1 w2 w3 : Vec Ideal S1x256x256 .bf16) (ps : Vec Ideal S1x1024 .f32)
    (g2 : Vec Ideal S1x1024 .f32) (a0 b0 a1 b1 a2 b2 a3 b3 : Vec Ideal S1x1024x1024 .bf16) (gf : Vec Ideal S1x1024 .f32)
    (H : S4x4096x1024.Idx → EReal) (MD : S2x8x6144.Idx → EReal) (G1 : S2x1024.Idx → EReal) (PW : S1x4x256x256.Idx → EReal) (PS : S1x1024.Idx → EReal) (G2 : S2x1024.Idx → EReal) (W1 : S2x1024x4096.Idx → EReal) (W2 : S2x4096x1024.Idx → EReal) (GF : S1024.Idx → EReal)
    (n : Fin 4) (s : Fin 8)
    (ht : ∀ i : Fin 528, tt (ix2 i (0 : Fin 1)) = rowNo s i)
    (he : ∀ (i : Fin 528) (r : Fin 4096), 512 * s.val + i.val = r.val + 8 → ext x ab be i = fun l => H (ix3 n r l))
    (hv : ∀ j, v1 (ix3 (0 : Fin 1) (0 : Fin 1) j) = MD (ix3 (1 : Fin 2) (asEight n) j))
    (hx : ∀ (p : Fin 512) (q : Fin 1024), x (ix3 (0 : Fin 1) p q) = H (ix3 n (tileRow s p) q))
    (hg1 : ∀ q, g1 (ix2 (0 : Fin 1) q) = G1 (ix2 (1 : Fin 2) q))
    (hw0 : ∀ j k : Fin 256, w0 (ix3 (0 : Fin 1) j k) = PW (ix4 (0 : Fin 1) (0 : Fin 4) j k))
    (hw1 : ∀ j k : Fin 256, w1 (ix3 (0 : Fin 1) j k) = PW (ix4 (0 : Fin 1) (1 : Fin 4) j k))
    (hw2 : ∀ j k : Fin 256, w2 (ix3 (0 : Fin 1) j k) = PW (ix4 (0 : Fin 1) (2 : Fin 4) j k))
    (hw3 : ∀ j k : Fin 256, w3 (ix3 (0 : Fin 1) j k) = PW (ix4 (0 : Fin 1) (3 : Fin 4) j k))
    (hps : ∀ q, ps (ix2 (0 : Fin 1) q) = PS (ix2 (0 : Fin 1) q))
    (hg2 : ∀ q, g2 (ix2 (0 : Fin 1) q) = G2 (ix2 (1 : Fin 2) q))
    (hgf : ∀ q, gf (ix2 (0 : Fin 1) q) = GF (ix1 q))
    (ha0 : ∀ j k : Fin 1024, a0 (ix3 (0 : Fin 1) j k) = W1 (ix3 (1 : Fin 2) j (colW 0 k)))
    (hb0 : ∀ k j : Fin 1024, b0 (ix3 (0 : Fin 1) k j) = W2 (ix3 (1 : Fin 2) (colW 0 k) j))
    (ha1 : ∀ j k : Fin 1024, a1 (ix3 (0 : Fin 1) j k) = W1 (ix3 (1 : Fin 2) j (colW 1 k)))
    (hb1 : ∀ k j : Fin 1024, b1 (ix3 (0 : Fin 1) k j) = W2 (ix3 (1 : Fin 2) (colW 1 k) j))
    (ha2 : ∀ j k : Fin 1024, a2 (ix3 (0 : Fin 1) j k) = W1 (ix3 (1 : Fin 2) j (colW 2 k)))
    (hb2 : ∀ k j : Fin 1024, b2 (ix3 (0 : Fin 1) k j) = W2 (ix3 (1 : Fin 2) (colW 2 k) j))
    (ha3 : ∀ j k : Fin 1024, a3 (ix3 (0 : Fin 1) j k) = W1 (ix3 (1 : Fin 2) j (colW 3 k)))
    (hb3 : ∀ k j : Fin 1024, b3 (ix3 (0 : Fin 1) k j) = W2 (ix3 (1 : Fin 2) (colW 3 k) j))
    (p : Fin 512) (q : Fin 1024) :
    sub v1 x ab be g1 tt w0 w1 w2 w3 ps g2 a0 b0 a1 b1 a2 b2 a3 b3 gf (ix3 (0 : Fin 1) p q) = Cert.Reference3Ideal.Pool.entry H MD G1 PW PS G2 W1 W2 GF n (tileRow s p) q := by
  have hr : ∀ (p : Fin 512) (q : Fin 1024), hRows v1 x ab be g1 tt w0 w1 w2 w3 ps (ix2 p q) = Cert.Reference3Ideal.Pool.mixed H MD G1 PW PS n (tileRow s p) q := fun p q => by
    rw [hRows_apply v1 x ab be g1 tt w0 w1 w2 w3 ps s (fun r l => H (ix3 n r l)) (fun g j k => PW (ix4 (0 : Fin 1) g j k)) ht he hw0 hw1 hw2 hw3 p q]
    unfold layerRow
    simp only [hx, hv, hps, hg1]
    rfl
  rw [sub_apply v1 x ab be g1 tt w0 w1 w2 w3 ps g2 a0 b0 a1 b1 a2 b2 a3 b3 gf p q (fun j k => W1 (ix3 (1 : Fin 2) j k)) (fun k j => W2 (ix3 (1 : Fin 2) k j))
    (fun j k => (ha0 j k).trans (congrArg (fun k => W1 (ix3 (1 : Fin 2) j k)) (Fin.ext (Nat.zero_add k.val)))) ha1 ha2 ha3
    (fun k j => (hb0 k j).trans (congrArg (fun k => W2 (ix3 (1 : Fin 2) k j)) (Fin.ext (Nat.zero_add k.val)))) hb1 hb2 hb3]
  unfold Cert.Reference3Ideal.Pool.entry
  have e : after v1 (hRows v1 x ab be g1 tt w0 w1 w2 w3 ps) g2 (fun j k => W1 (ix3 (1 : Fin 2) j k)) (fun k j => W2 (ix3 (1 : Fin 2) k j)) p = Cert.Reference3Ideal.Pool.after H MD G1 PW PS G2 W1 W2 n (tileRow s p) := funext fun q => by
    unfold after Cert.Reference3Ideal.Pool.after Cert.Reference3Ideal.Pool.acted2
    simp only [acted_apply, hr, hv, hg2]
  rw [e]
  exact congrArg (fun g => normed _ g q) (funext hgf)

variable (m : (ℓ : Loc nD τ sig) → Buf (Elt Ideal) ℓ) (ρ : Dev nD → PrngReg)

/-- The modulation row a point loads is its batch's. -/
theorem off1_eq : ∀ t : Fin cfg0.N, k0_off1 (grid0.coords t) = ![0, t.val / 4, 0] := (by decide +kernel : ∀ t : Fin grid0.N, k0_off1 (grid0.coords t) = ![0, t.val / 4, 0])
theorem coord1 : ∀ t : Fin cfg0.N, (grid0.coords t 1).val = t.val % 4 := (by decide +kernel : ∀ t : Fin grid0.N, (grid0.coords t 1).val = t.val % 4)
theorem modRow_apply (t : Fin cfg0.N) (f : Vec Ideal S1x8x6144 .f32) (inb) (j : Fin 6144) :
    View.ld f (Rect.unit (k0_off1 (grid0.coords t)) ![1, 1, 6144] inb) (ix3 (0 : Fin 1) (0 : Fin 1) j) = f (ix3 (0 : Fin 1) (⟨(batch t).val, by omega⟩ : Fin 8) j) := by
  refine View.ld_unit_apply_of f _ _ inb _ _ fun a => ?_
  have e := congrFun (off1_eq t) a
  refine Eq.trans ?_ (congrArg (· + _) e.symm)
  match a with
  | ⟨0, _⟩ => rfl
  | ⟨1, _⟩ => rfl
  | ⟨2, _⟩ => show j.val = 0 + j.val; omega

/-- A point's two subtiles, and a row of theirs. -/
abbrev tile (t : Fin cfg0.N) (o : Fin 2) : Fin 8 := ⟨2 * (t.val % 4) + o.val, by omega⟩

/-- An input entry named by its row. -/
theorem atRow (c : Dev nD) (n : Fin 4) (r r' : Fin 4096) (q : Fin 1024) (h : r.val = r'.val) : m (c.tc.loc main_arg0) (ix3 n r q) = m (c.tc.loc main_arg0) (ix3 n r' q) := by
  rw [Fin.ext h]

/-- Three coordinates, one by one. -/
theorem coords3 {i j : Fin 3 → ℕ} (h0 : i 0 = j 0) (h1 : i 1 = j 1) (h2 : i 2 = j 2) : ∀ a, i a = j a
  | ⟨0, _⟩ => h0
  | ⟨1, _⟩ => h1
  | ⟨2, _⟩ => h2

/-- The extended rows, from where the three loads' rows lie. -/
theorem ext_rows (x : Vec Ideal S1x512x1024 .f32) (ab be : Vec Ideal S1x8x1024 .f32) (Hn : Fin 4096 → Fin 1024 → EReal) (s : Fin 8)
    (hx : ∀ (p : Fin 512) (q : Fin 1024), x (ix3 (0 : Fin 1) p q) = Hn (tileRow s p) q)
    (ha : ∀ (p : Fin 8) (q : Fin 1024) (r : Fin 4096), 512 * s.val + p.val = r.val + 8 → ab (ix3 (0 : Fin 1) p q) = Hn r q)
    (hb : ∀ (p : Fin 8) (q : Fin 1024) (r : Fin 4096), 512 * s.val + 512 + p.val = r.val → be (ix3 (0 : Fin 1) p q) = Hn r q)
    (i : Fin 528) (r : Fin 4096) (h : 512 * s.val + i.val = r.val + 8) : ext x ab be i = Hn r := by
  funext l
  unfold ext
  by_cases c0 : i.val < 8
  · rw [dif_pos c0]
    exact ha _ l r h
  by_cases c1 : i.val - 8 < 512
  · rw [dif_neg c0, dif_pos c1, hx]
    exact congrArg (fun r => Hn r l) (Fin.ext (by dsimp only; omega))
  · rw [dif_neg c0, dif_neg c1]
    exact hb _ l r (by dsimp only; omega)

set_option maxHeartbeats 1000000 in
/-- What the two subtiles of a point store, at the result's rows: the result array is the reference's. -/
theorem final_11 (c : Dev nD) : (dats m 0 c).arrAt 11 cfg0.N = Cert.Reference3Ideal.Read.val_main_v224 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  refine (dats m 0 c).arrAt_eq_of_covers 11 _ (by decide +kernel) fun t hf y => ?_
  blk_simp
  rw [after0_11]
  unfold outsAt0 out0_A_11
  frame_out
  idx_vars y
  obtain rfl : y0 = 0 := Subsingleton.elim _ _
  rw [place_11, Cert.Reference3Ideal.Pool.reference_apply]
  have ht := point_lt t
  by_cases h : y1.val < 512
  · have hi : (ix3 (0 : Fin 1) y1 y2 : S1x1024x1024.Idx) = (Rect.unit (s := S1x1024x1024) ![0, 0, 0] ![1, 512, 1024] inb_S1x1024x1024_S1x512x1024_0_0_0).emb (ix3 (0 : Fin 1) (⟨y1.val - 0, by omega⟩ : Fin 512) y2) := by
      refine funext fun a => Fin.ext ?_
      match a with
      | ⟨0, _⟩ => rfl
      | ⟨1, _⟩ => show y1.val = 0 + 1 * (y1.val - 0); omega
      | ⟨2, _⟩ => show y2.val = 0 + 1 * y2.val; omega
    have hR : row t y1 = tileRow (tile t 0) (⟨y1.val - 0, by omega⟩ : Fin 512) := Fin.ext (by show 1024 * (t.val % 4) + y1.val = 512 * (2 * (t.val % 4) + 0) + (y1.val - 0); omega)
    rw [hR, hi]
    rw [View.canon_cons_of_not_mem _ _ (Rect.not_mem_set_of_axis _ _ (1 : Fin 3) 512 512 rfl rfl rfl (by show 0 + 1 * (y1.val - 0) < 512 ∨ _; omega))]
    rw [View.canon_cons_emb]
    refine (congrFun (first_eq _ _ _ _ _ _ _ _ _ _ _ _ _ _ _ _ _ _ _ _ _) _).trans
      (sub_entry _ _ _ _ _ _ _ _ _ _ _ _ _ _ _ _ _ _ _ _ _ (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (batch t) (tile t 0) ?_ ?_ ?_ ?_ ?_ ?_ ?_ ?_ ?_ ?_ ?_ ?_ ?_ ?_ ?_ ?_ ?_ ?_ ?_ ?_ _ _)
    · exact fun i => pay4_apply (grid0.coords t) ⟨t.val % 4, by omega⟩ (coord1 t) i
    · refine ext_rows _ _ _ (fun r l => m (c.tc.loc main_arg0) (ix3 (batch t) r l)) (tile t 0) ?_ ?_ ?_
      · exact fun p q => (View.ld_unit_apply_of _ _ _ _ _ (ix3 (0 : Fin 1) (⟨0 + p.val, by omega⟩ : Fin 1024) q) (coords3 rfl rfl (Nat.zero_add _).symm)).trans ((block_0 m c t _ _).trans (atRow m c _ _ _ q (by show 1024 * (t.val % 4) + (0 + p.val) = 512 * (2 * (t.val % 4) + 0) + p.val; omega)))
      · exact fun p q r h => (block_1 m c t p q).trans (atRow m c _ _ _ q (by have h' : 512 * (2 * (t.val % 4) + 0) + p.val = r.val + 8 := h; show (t.val % 4 * 128 - 1) * 8 + p.val = r.val; omega))
      · exact fun p q r h => (View.ld_unit_apply_of _ _ _ _ _ (ix3 (0 : Fin 1) (⟨512 + p.val, by omega⟩ : Fin 1024) q) (coords3 rfl rfl (Nat.zero_add _).symm)).trans ((block_0 m c t _ _).trans (atRow m c _ _ _ q (by have h' : 512 * (2 * (t.val % 4) + 0) + 512 + p.val = r.val := h; show 1024 * (t.val % 4) + (512 + p.val) = r.val; omega)))
    · exact fun j => (modRow_apply t _ _ j).trans (block_3 m c t _ _)
    · exact fun p q => (View.ld_unit_apply_of _ _ _ _ _ (ix3 (0 : Fin 1) (⟨0 + p.val, by omega⟩ : Fin 1024) q) (coords3 rfl rfl (Nat.zero_add _).symm)).trans ((block_0 m c t _ _).trans (atRow m c _ _ _ q (by show 1024 * (t.val % 4) + (0 + p.val) = 512 * (2 * (t.val % 4) + 0) + p.val; omega)))
    · exact block_4 m c t
    · exact fun j k => (View.ld_unit_apply_of _ _ _ _ _ (ix3 (0 : Fin 1) (grpRow 0 j) k) (coords3 rfl rfl (Nat.zero_add _).symm)).trans (block_5 m c t 0 j k)
    · exact fun j k => (View.ld_unit_apply_of _ _ _ _ _ (ix3 (0 : Fin 1) (grpRow 1 j) k) (coords3 rfl rfl (Nat.zero_add _).symm)).trans (block_5 m c t 1 j k)
    · exact fun j k => (View.ld_unit_apply_of _ _ _ _ _ (ix3 (0 : Fin 1) (grpRow 2 j) k) (coords3 rfl rfl (Nat.zero_add _).symm)).trans (block_5 m c t 2 j k)
    · exact fun j k => (View.ld_unit_apply_of _ _ _ _ _ (ix3 (0 : Fin 1) (grpRow 3 j) k) (coords3 rfl rfl (Nat.zero_add _).symm)).trans (block_5 m c t 3 j k)
    · exact block_6 m c t
    · exact block_7 m c t
    · exact block_10 m c t
    · exact fun j k => (View.ld_unit_apply_of _ _ _ _ _ (ix3 (0 : Fin 1) j (colW 0 k : Fin 4096)) (coords3 rfl (Nat.zero_add _).symm rfl)).trans (block_8 m c t _ _)
    · exact fun k j => (View.ld_unit_apply_of _ _ _ _ _ (ix3 (0 : Fin 1) (colW 0 k : Fin 4096) j) (coords3 rfl rfl (Nat.zero_add _).symm)).trans (block_9 m c t _ _)
    · exact fun j k => (View.ld_unit_apply_of _ _ _ _ _ (ix3 (0 : Fin 1) j (colW 1 k : Fin 4096)) (coords3 rfl (Nat.zero_add _).symm rfl)).trans (block_8 m c t _ _)
    · exact fun k j => (View.ld_unit_apply_of _ _ _ _ _ (ix3 (0 : Fin 1) (colW 1 k : Fin 4096) j) (coords3 rfl rfl (Nat.zero_add _).symm)).trans (block_9 m c t _ _)
    · exact fun j k => (View.ld_unit_apply_of _ _ _ _ _ (ix3 (0 : Fin 1) j (colW 2 k : Fin 4096)) (coords3 rfl (Nat.zero_add _).symm rfl)).trans (block_8 m c t _ _)
    · exact fun k j => (View.ld_unit_apply_of _ _ _ _ _ (ix3 (0 : Fin 1) (colW 2 k : Fin 4096) j) (coords3 rfl rfl (Nat.zero_add _).symm)).trans (block_9 m c t _ _)
    · exact fun j k => (View.ld_unit_apply_of _ _ _ _ _ (ix3 (0 : Fin 1) j (colW 3 k : Fin 4096)) (coords3 rfl (Nat.zero_add _).symm rfl)).trans (block_8 m c t _ _)
    · exact fun k j => (View.ld_unit_apply_of _ _ _ _ _ (ix3 (0 : Fin 1) (colW 3 k : Fin 4096) j) (coords3 rfl rfl (Nat.zero_add _).symm)).trans (block_9 m c t _ _)
  · have hi : (ix3 (0 : Fin 1) y1 y2 : S1x1024x1024.Idx) = (Rect.unit (s := S1x1024x1024) ![0, 512, 0] ![1, 512, 1024] inb_S1x1024x1024_S1x512x1024_0_512_0).emb (ix3 (0 : Fin 1) (⟨y1.val - 512, by omega⟩ : Fin 512) y2) := by
      refine funext fun a => Fin.ext ?_
      match a with
      | ⟨0, _⟩ => rfl
      | ⟨1, _⟩ => show y1.val = 512 + 1 * (y1.val - 512); omega
      | ⟨2, _⟩ => show y2.val = 0 + 1 * y2.val; omega
    have hR : row t y1 = tileRow (tile t 1) (⟨y1.val - 512, by omega⟩ : Fin 512) := Fin.ext (by show 1024 * (t.val % 4) + y1.val = 512 * (2 * (t.val % 4) + 1) + (y1.val - 512); omega)
    rw [hR, hi]
    rw [View.canon_cons_emb]
    refine (congrFun (second_eq _ _ _ _ _ _ _ _ _ _ _ _ _ _ _ _ _ _ _ _ _) _).trans
      (sub_entry _ _ _ _ _ _ _ _ _ _ _ _ _ _ _ _ _ _ _ _ _ (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (batch t) (tile t 1) ?_ ?_ ?_ ?_ ?_ ?_ ?_ ?_ ?_ ?_ ?_ ?_ ?_ ?_ ?_ ?_ ?_ ?_ ?_ ?_ _ _)
    · exact fun i => (congrArg (fun a => k0_pay29 (BitVec.ofNat 32 a) (ix2 i (0 : Fin 1))) (coord1 t)).trans (pay29_apply ⟨t.val % 4, by omega⟩ i)
    · refine ext_rows _ _ _ (fun r l => m (c.tc.loc main_arg0) (ix3 (batch t) r l)) (tile t 1) ?_ ?_ ?_
      · exact fun p q => (View.ld_unit_apply_of _ _ _ _ _ (ix3 (0 : Fin 1) (⟨512 + p.val, by omega⟩ : Fin 1024) q) (coords3 rfl rfl (Nat.zero_add _).symm)).trans ((block_0 m c t _ _).trans (atRow m c _ _ _ q (by show 1024 * (t.val % 4) + (512 + p.val) = 512 * (2 * (t.val % 4) + 1) + p.val; omega)))
      · exact fun p q r h => (View.ld_unit_apply_of _ _ _ _ _ (ix3 (0 : Fin 1) (⟨504 + p.val, by omega⟩ : Fin 1024) q) (coords3 rfl rfl (Nat.zero_add _).symm)).trans ((block_0 m c t _ _).trans (atRow m c _ _ _ q (by have h' : 512 * (2 * (t.val % 4) + 1) + p.val = r.val + 8 := h; show 1024 * (t.val % 4) + (504 + p.val) = r.val; omega)))
      · exact fun p q r h => (block_2 m c t p q).trans (atRow m c _ _ _ q (by have h' : 512 * (2 * (t.val % 4) + 1) + 512 + p.val = r.val := h; show min ((t.val % 4 + 1) * 128) 511 * 8 + p.val = r.val; omega))
    · exact fun j => (modRow_apply t _ _ j).trans (block_3 m c t _ _)
    · exact fun p q => (View.ld_unit_apply_of _ _ _ _ _ (ix3 (0 : Fin 1) (⟨512 + p.val, by omega⟩ : Fin 1024) q) (coords3 rfl rfl (Nat.zero_add _).symm)).trans ((block_0 m c t _ _).trans (atRow m c _ _ _ q (by show 1024 * (t.val % 4) + (512 + p.val) = 512 * (2 * (t.val % 4) + 1) + p.val; omega)))
    · exact block_4 m c t
    · exact fun j k => (View.ld_unit_apply_of _ _ _ _ _ (ix3 (0 : Fin 1) (grpRow 0 j) k) (coords3 rfl rfl (Nat.zero_add _).symm)).trans (block_5 m c t 0 j k)
    · exact fun j k => (View.ld_unit_apply_of _ _ _ _ _ (ix3 (0 : Fin 1) (grpRow 1 j) k) (coords3 rfl rfl (Nat.zero_add _).symm)).trans (block_5 m c t 1 j k)
    · exact fun j k => (View.ld_unit_apply_of _ _ _ _ _ (ix3 (0 : Fin 1) (grpRow 2 j) k) (coords3 rfl rfl (Nat.zero_add _).symm)).trans (block_5 m c t 2 j k)
    · exact fun j k => (View.ld_unit_apply_of _ _ _ _ _ (ix3 (0 : Fin 1) (grpRow 3 j) k) (coords3 rfl rfl (Nat.zero_add _).symm)).trans (block_5 m c t 3 j k)
    · exact block_6 m c t
    · exact block_7 m c t
    · exact block_10 m c t
    · exact fun j k => (View.ld_unit_apply_of _ _ _ _ _ (ix3 (0 : Fin 1) j (colW 0 k : Fin 4096)) (coords3 rfl (Nat.zero_add _).symm rfl)).trans (block_8 m c t _ _)
    · exact fun k j => (View.ld_unit_apply_of _ _ _ _ _ (ix3 (0 : Fin 1) (colW 0 k : Fin 4096) j) (coords3 rfl rfl (Nat.zero_add _).symm)).trans (block_9 m c t _ _)
    · exact fun j k => (View.ld_unit_apply_of _ _ _ _ _ (ix3 (0 : Fin 1) j (colW 1 k : Fin 4096)) (coords3 rfl (Nat.zero_add _).symm rfl)).trans (block_8 m c t _ _)
    · exact fun k j => (View.ld_unit_apply_of _ _ _ _ _ (ix3 (0 : Fin 1) (colW 1 k : Fin 4096) j) (coords3 rfl rfl (Nat.zero_add _).symm)).trans (block_9 m c t _ _)
    · exact fun j k => (View.ld_unit_apply_of _ _ _ _ _ (ix3 (0 : Fin 1) j (colW 2 k : Fin 4096)) (coords3 rfl (Nat.zero_add _).symm rfl)).trans (block_8 m c t _ _)
    · exact fun k j => (View.ld_unit_apply_of _ _ _ _ _ (ix3 (0 : Fin 1) (colW 2 k : Fin 4096) j) (coords3 rfl rfl (Nat.zero_add _).symm)).trans (block_9 m c t _ _)
    · exact fun j k => (View.ld_unit_apply_of _ _ _ _ _ (ix3 (0 : Fin 1) j (colW 3 k : Fin 4096)) (coords3 rfl (Nat.zero_add _).symm rfl)).trans (block_8 m c t _ _)
    · exact fun k j => (View.ld_unit_apply_of _ _ _ _ _ (ix3 (0 : Fin 1) (colW 3 k : Fin 4096) j) (coords3 rfl rfl (Nat.zero_add _).symm)).trans (block_9 m c t _ _)

/-- The run with the value of its result. -/
theorem run_value : θ_run defs (onTc (τ := τ) (main (F := Ideal))) ⟨m, fun _ => 0, ρ⟩ (fun r => ∀ c : Dev nD,
      r.2.mem ((c.tc : Thread nD τ).loc main_v13) = Cert.Reference3Ideal.Read.val_main_v224 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))) :=
  (θ_run defs _ _).mono (fun _ h c => (h c).1.trans (final_11 m c)) (run_blocks m ρ)

end Cert.Kernel3Ideal.Pool

end
-- ==== Proof.Layer.Attn.lean ====
/- Differential attention: two softmaxes' weighted means, their difference, and its normalisation. Scores are extended
   reals, values are reals. -/
module

public import Idealize.ShloMosaic.PureOps.Ideal
public import Idealize.ShloMosaic.Lib.Pointwise

@[expose] public section

noncomputable section

namespace Cert.Attn

open Idealize.ShloMosaic

/-- The weight of the second softmax, from the four vectors that make it. -/
def lam (q1 k1 q2 k2 : Fin 64 → EReal) : EReal :=
  Ideal.exp (∑ d : Fin 64, q1 d * k1 d) - Ideal.exp (∑ d : Fin 64, q2 d * k2 d) + Ideal.ofBits .f32 0x3E4CCCCD#32

/-- A head's row normalised, with the gain `g` and the constant factor. -/
def normed (o g : Fin 128 → EReal) (c : Fin 128) : EReal :=
  o c * Ideal.rsqrt (Ideal.div (∑ l : Fin 128, o l * o l) (Ideal.ofBits .f32 0x43000000#32) + Ideal.ofBits .f32 0x3727C5AC#32) * g c * Ideal.ofBits .f32 0x3F4CCCCD#32

/-- Key (or value) row `j` of a batch: the context's rows, then the latents'. -/
def row {α : Type} [Zero α] (A : Fin 4 → Fin 256 → Fin 512 → α) (B : Fin 4 → Fin 4096 → Fin 512 → α) (b : Fin 4) (j : ℕ) (f : Fin 512) : α :=
  if h : j < 256 then A b ⟨j, h⟩ f else if h' : j - 256 < 4096 then B b ⟨j - 256, h'⟩ f else 0

/-- Column `d` of half `u` of head `h`, and column `c` of head `h`. -/
def halfCol (h : Fin 4) (u : Fin 2) (d : Fin 64) : Fin 512 := ⟨128 * h.val + 64 * u.val + d.val, by omega⟩
def headCol (h : Fin 4) (c : Fin 128) : Fin 512 := ⟨128 * h.val + c.val, by omega⟩

/-- The base-2 score of key `j` for query row `t` in half `u` of head `h`: the queries carry the factor `1 / (8 log 2)`. -/
def score (Q : Fin 4 → Fin 4096 → Fin 512 → EReal) (KC : Fin 4 → Fin 256 → Fin 512 → EReal) (KL : Fin 4 → Fin 4096 → Fin 512 → EReal) (b : Fin 4) (t : Fin 4096) (h : Fin 4) (u : Fin 2) (j : ℕ) : EReal :=
  ∑ d : Fin 64, Q b t (halfCol h u d) * ((1 / (8 * Real.log 2) : ℝ) : EReal) * row KC KL b j (halfCol h u d)

/-- A positive factor goes into a sum of extended reals. -/
theorem sum_mul_pos {ι : Type*} (s : Finset ι) (f : ι → EReal) (r : ℝ) (hr : 0 < r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr.le) (EReal.coe_ne_top r) _ _

/-- The plain score is the base-2 score times `log 2`. -/
theorem score_base (Q : Fin 4 → Fin 4096 → Fin 512 → EReal) (KC : Fin 4 → Fin 256 → Fin 512 → EReal) (KL : Fin 4 → Fin 4096 → Fin 512 → EReal) (b : Fin 4) (t : Fin 4096) (h : Fin 4) (u : Fin 2) (j : ℕ) :
    (∑ d : Fin 64, Q b t (halfCol h u d) * row KC KL b j (halfCol h u d)) * ((1 / 8 : ℝ) : EReal) = score Q KC KL b t h u j * (Real.log 2 : EReal) := by
  have hl := Real.log_pos one_lt_two
  unfold score
  rw [sum_mul_pos _ _ _ (by norm_num), sum_mul_pos _ _ _ hl]
  refine Finset.sum_congr rfl fun d _ => ?_
  rw [show (1 / 8 : ℝ) = 1 / (8 * Real.log 2) * Real.log 2 by field_simp, EReal.coe_mul, mul_right_comm _ _ (row KC KL b j (halfCol h u d)), mul_assoc (Q b t (halfCol h u d) * _)]

/-! ## Weights taken against a maximum -/

/-- The weight `2 ^ (x - y)`, read as a real number. -/
def wt (x y : EReal) : ℝ := (Ideal.exp2 (x - y)).toReal

theorem wt_coe {x y : EReal} (h : x ≤ y) : Ideal.exp2 (x - y) = (wt x y : EReal) := by
  unfold wt
  induction x with
  | bot => rw [EReal.bot_sub, Ideal.exp2_bot]; simp
  | top => rw [top_le_iff.1 h, EReal.sub_top]; simp
  | coe x =>
    induction y with
    | bot => exact absurd (le_bot_iff.1 h) (EReal.coe_ne_bot x)
    | top => rw [EReal.sub_top]; simp
    | coe y => rw [← EReal.coe_sub, Ideal.exp2_coe]; simp

theorem wt_nonneg (x y : EReal) : 0 ≤ wt x y := by
  unfold wt
  refine EReal.toReal_nonneg ?_
  generalize x - y = z
  induction z with
  | bot => exact le_refl _
  | top => exact le_top
  | coe z => rw [Ideal.exp2_coe]; exact EReal.coe_nonneg.2 (Real.rpow_nonneg zero_le_two _)

theorem wt_bot (y : EReal) : wt ⊥ y = 0 := by unfold wt; rw [EReal.bot_sub]; simp
theorem wt_top (x : EReal) : wt x ⊤ = 0 := by unfold wt; rw [EReal.sub_top]; simp
theorem wt_real (x y : ℝ) : wt x y = (2 : ℝ) ^ (x - y) := by unfold wt; rw [← EReal.coe_sub, Ideal.exp2_coe]; rfl

/-- Going over to a larger maximum. -/
theorem wt_mul {x y z : EReal} (h : x ≤ y) (h' : y ≤ z) : wt y z * wt x y = wt x z := by
  induction x with
  | bot => rw [wt_bot, wt_bot, mul_zero]
  | top => rw [top_le_iff.1 h] at h' ⊢; rw [top_le_iff.1 h', wt_top, mul_zero]
  | coe x =>
    induction y with
    | bot => exact absurd (le_bot_iff.1 h) (EReal.coe_ne_bot x)
    | top => rw [top_le_iff.1 h', wt_top, wt_top, mul_zero]
    | coe y =>
      induction z with
      | bot => exact absurd (le_bot_iff.1 h') (EReal.coe_ne_bot y)
      | top => rw [wt_top, wt_top, zero_mul]
      | coe z => rw [wt_real, wt_real, wt_real, ← Real.rpow_add two_pos]; congr 1; ring

/-- The base-`e` weight of scores that carry the factor `log 2`. -/
theorem exp_base (x y : EReal) : Ideal.exp (x * (Real.log 2 : EReal) - y * (Real.log 2 : EReal)) = Ideal.exp2 (x - y) := by
  have hl := Real.log_pos one_lt_two
  have hb : (⊥ : EReal) * (Real.log 2 : EReal) = ⊥ := EReal.bot_mul_coe_of_pos hl
  have ht : (⊤ : EReal) * (Real.log 2 : EReal) = ⊤ := EReal.top_mul_coe_of_pos hl
  induction x with
  | bot => rw [hb, EReal.bot_sub, EReal.bot_sub]; rfl
  | top =>
    induction y with
    | bot => rw [hb, ht]; rfl
    | top => rw [ht]; rfl
    | coe y => rw [ht, ← EReal.coe_mul]; rfl
  | coe x =>
    induction y with
    | bot => rw [hb, ← EReal.coe_mul]; rfl
    | top => rw [ht, ← EReal.coe_mul]; rfl
    | coe y =>
      rw [← EReal.coe_mul, ← EReal.coe_mul, ← EReal.coe_sub, ← EReal.coe_sub, Ideal.exp_coe, Ideal.exp2_coe, ← sub_mul]
      refine congrArg Real.toEReal ?_
      show _ = (2 : ℝ) ^ (x - y)
      rw [Real.rpow_def_of_pos two_pos, mul_comm]

/-- The largest of the first `n` scores. -/
def peak (T : ℕ → EReal) (n : ℕ) : EReal := (Finset.range n).sup T

theorem le_peak (T : ℕ → EReal) {j n : ℕ} (h : j < n) : T j ≤ peak T n := Finset.le_sup (f := T) (Finset.mem_range.2 h)

theorem peak_add (T : ℕ → EReal) (n k : ℕ) : peak T (n + k) = max (peak T n) (Finset.univ.sup fun j : Fin k => T (n + j.val)) := by
  unfold peak
  refine le_antisymm (Finset.sup_le fun j hj => ?_) (max_le (Finset.sup_le fun j hj => ?_) (Finset.sup_le fun j _ => ?_))
  · rw [Finset.mem_range] at hj
    by_cases h : j < n
    · exact le_max_of_le_left (Finset.le_sup (f := T) (Finset.mem_range.2 h))
    · refine le_max_of_le_right ?_
      have e := Finset.le_sup (f := fun j : Fin k => T (n + j.val)) (Finset.mem_univ (⟨j - n, by omega⟩ : Fin k))
      have e' : n + (j - n) = j := by omega
      simpa only [e'] using e
  · exact Finset.le_sup (f := T) (Finset.mem_range.2 (by have := Finset.mem_range.1 hj; omega))
  · exact Finset.le_sup (f := T) (Finset.mem_range.2 (by omega))

theorem peak_zero (T : ℕ → EReal) : peak T 0 = ⊥ := rfl

/-- The largest score in the base-`e` scale. -/
theorem peak_base (T : ℕ → EReal) (k : ℕ) : (Finset.univ.sup fun j : Fin k => T j.val * (Real.log 2 : EReal)) = peak T k * (Real.log 2 : EReal) := by
  have hl := Real.log_pos one_lt_two
  have hm : Monotone fun x : EReal => x * (Real.log 2 : EReal) := fun x y h => mul_le_mul_of_nonneg_right h (EReal.coe_nonneg.2 hl.le)
  have e := peak_add T 0 k
  rw [zero_add, peak_zero, max_eq_right bot_le] at e
  rw [e]
  have e' := Finset.comp_sup_eq_sup_comp (s := (Finset.univ : Finset (Fin k))) (f := fun j : Fin k => T (0 + j.val)) (fun x : EReal => x * (Real.log 2 : EReal)) (fun x y => hm.map_sup x y) (EReal.bot_mul_coe_of_pos hl)
  refine Eq.trans ?_ e'.symm
  simp only [Function.comp_def, zero_add]

/-- The weights' total over the 4352 keys, and the weighted total of `v`, against the largest score. -/
def total (T : ℕ → EReal) : ℝ := ∑ j ∈ Finset.range 4352, wt (T j) (peak T 4352)
def weighted (T : ℕ → EReal) (v : ℕ → ℝ) : ℝ := ∑ j ∈ Finset.range 4352, wt (T j) (peak T 4352) * v j

/-- A softmax's weight for key `j`, and its weighted mean of `v`. -/
def soft (T : ℕ → EReal) (j : ℕ) : EReal := Ideal.div (wt (T j) (peak T 4352) : EReal) (total T : EReal)
def mean (T : ℕ → EReal) (v : ℕ → ℝ) : EReal := Ideal.div (weighted T v : EReal) (total T : EReal)

/-! ## The normalised difference -/

/-- A row of zeros and infinities normalises to zero. -/
theorem normed_zero (o g : Fin 128 → EReal) (h : ∀ l, o l = 0 ∨ o l = ⊤ ∨ o l = ⊥) (c : Fin 128) : normed o g c = 0 := by
  have e128 : Ideal.ofBits .f32 0x43000000#32 = ((128 : ℝ) : EReal) := by
    simp [Ideal.ofBits, Ideal.ieee]
    rw [← EReal.coe_mul]
    congr 1
    norm_num
  have eeps : ∃ r : ℝ, Ideal.ofBits .f32 0x3727C5AC#32 = (r : EReal) := by
    simp [Ideal.ofBits, Ideal.ieee]
    exact ⟨_, (EReal.coe_mul _ _).symm⟩
  have hsq : ∀ l, 0 ≤ o l * o l := fun l => by rcases h l with e | e | e <;> rw [e] <;> simp
  have key : o c = 0 ∨ Ideal.rsqrt (Ideal.div (∑ l : Fin 128, o l * o l) (Ideal.ofBits .f32 0x43000000#32) + Ideal.ofBits .f32 0x3727C5AC#32) = 0 := by
    rcases h c with e | e
    · exact .inl e
    · right
      have hc : o c * o c = ⊤ := by rcases e with e | e <;> rw [e] <;> simp
      have hs : ∑ l : Fin 128, o l * o l = ⊤ := top_le_iff.1 (hc ▸ Finset.single_le_sum (f := fun l => o l * o l) (fun l _ => hsq l) (Finset.mem_univ c))
      obtain ⟨r, hr⟩ := eeps
      rw [hs, e128, hr, Ideal.div_coe (by norm_num), EReal.top_mul_coe_of_pos (by norm_num), EReal.top_add_coe]
      rfl
  unfold normed
  rcases key with e | e <;> rw [e] <;> simp

/-- A sum of real multiples of an infinity is zero or an infinity. -/
theorem sum_inf (v : ℕ → ℝ) (z : EReal) (hz : z = ⊤ ∨ z = ⊥) (n : ℕ) :
    (∑ j ∈ Finset.range n, (v j : EReal) * z) = 0 ∨ (∑ j ∈ Finset.range n, (v j : EReal) * z) = ⊤ ∨ (∑ j ∈ Finset.range n, (v j : EReal) * z) = ⊥ := by
  have one : ∀ r : ℝ, (r : EReal) * z = 0 ∨ (r : EReal) * z = ⊤ ∨ (r : EReal) * z = ⊥ := fun r => by
    rcases lt_trichotomy r 0 with h | h | h
    · rcases hz with rfl | rfl
      · exact .inr (.inr (EReal.coe_mul_top_of_neg h))
      · exact .inr (.inl (EReal.coe_mul_bot_of_neg h))
    · left; rw [h, EReal.coe_zero, zero_mul]
    · rcases hz with rfl | rfl
      · exact .inr (.inl (EReal.coe_mul_top_of_pos h))
      · exact .inr (.inr (EReal.coe_mul_bot_of_pos h))
  induction n with
  | zero => left; simp
  | succ n ih =>
    rw [Finset.sum_range_succ]
    rcases ih with e | e | e <;> rcases one (v n) with e' | e' | e' <;> rw [e, e'] <;> simp

/-- A softmax whose weights are all zero has infinite quotients. -/
theorem div_zero_zero : Ideal.div ((0 : ℝ) : EReal) ((0 : ℝ) : EReal) = ⊥ := by simp [Ideal.div]

theorem soft_zero {T : ℕ → EReal} (h : total T = 0) {j : ℕ} (hj : j < 4352) : soft T j = ⊥ := by
  have e := (Finset.sum_eq_zero_iff_of_nonneg fun j _ => wt_nonneg (T j) (peak T 4352)).1 h j (Finset.mem_range.2 hj)
  unfold soft
  rw [h, e, div_zero_zero]

theorem mean_zero {T : ℕ → EReal} (h : total T = 0) (v : ℕ → ℝ) : mean T v = ⊥ := by
  have e : weighted T v = 0 := Finset.sum_eq_zero fun j hj => by
    rw [(Finset.sum_eq_zero_iff_of_nonneg fun j _ => wt_nonneg (T j) (peak T 4352)).1 h j hj, zero_mul]
  unfold mean
  rw [h, e, div_zero_zero]

theorem soft_ne {T : ℕ → EReal} (h : total T ≠ 0) (j : ℕ) : soft T j = ((wt (T j) (peak T 4352) / total T : ℝ) : EReal) := by
  unfold soft
  rw [Ideal.div_coe h, ← EReal.coe_mul, mul_one_div]

theorem mean_ne {T : ℕ → EReal} (h : total T ≠ 0) (v : ℕ → ℝ) : mean T v = ((weighted T v / total T : ℝ) : EReal) := by
  unfold mean
  rw [Ideal.div_coe h, ← EReal.coe_mul, mul_one_div]

/-- A finite sum of reals, read in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- Taking the difference of the means, or the mean under the difference of the weights: the same row once normalised. -/
theorem normed_diff (T T' : ℕ → EReal) (V : ℕ → Fin 128 → ℝ) (w : ℝ) (g : Fin 128 → EReal) (c : Fin 128) :
    normed (fun c => mean T (fun j => V j c) - (w : EReal) * mean T' (fun j => V j c)) g c
      = normed (fun c => ∑ j ∈ Finset.range 4352, (V j c : EReal) * (soft T j - (w : EReal) * soft T' j)) g c := by
  have inf : ∀ z : EReal, z = ⊤ ∨ z = ⊥ → (∀ c, mean T (fun j => V j c) - (w : EReal) * mean T' (fun j => V j c) = z) → (∀ j < 4352, soft T j - (w : EReal) * soft T' j = z) →
      normed (fun c => mean T (fun j => V j c) - (w : EReal) * mean T' (fun j => V j c)) g c
        = normed (fun c => ∑ j ∈ Finset.range 4352, (V j c : EReal) * (soft T j - (w : EReal) * soft T' j)) g c := fun z hz hk hr => by
    rw [normed_zero _ g (fun l => .inr (by rw [hk]; exact hz)) c, normed_zero _ g (fun l => ?_) c]
    rw [Finset.sum_congr rfl fun j hj => by rw [hr j (Finset.mem_range.1 hj)]]
    exact sum_inf (fun j => V j l) z hz 4352
  by_cases h : total T = 0
  · exact inf ⊥ (.inr rfl) (fun c => by rw [mean_zero h, EReal.bot_sub]) (fun j hj => by rw [soft_zero h hj, EReal.bot_sub])
  by_cases h' : total T' = 0
  · rcases lt_trichotomy w 0 with hw | hw | hw
    · refine inf ⊥ (.inr rfl) (fun c => ?_) (fun j hj => ?_)
      · rw [mean_zero h', EReal.coe_mul_bot_of_neg hw, EReal.sub_top]
      · rw [soft_zero h' hj, EReal.coe_mul_bot_of_neg hw, EReal.sub_top]
    · refine congrArg (fun o => normed o g c) (funext fun c => ?_)
      simp only [hw, EReal.coe_zero, zero_mul, sub_zero]
      rw [mean_ne h]
      simp only [soft_ne h, ← EReal.coe_mul]
      rw [coe_sum, weighted, Finset.sum_div]
      exact congrArg Real.toEReal (Finset.sum_congr rfl fun j _ => by ring)
    · refine inf ⊤ (.inl rfl) (fun c => ?_) (fun j hj => ?_)
      · rw [mean_zero h', mean_ne h, EReal.coe_mul_bot_of_pos hw, EReal.coe_sub_bot]
      · rw [soft_zero h' hj, soft_ne h, EReal.coe_mul_bot_of_pos hw, EReal.coe_sub_bot]
  · refine congrArg (fun o => normed o g c) (funext fun c => ?_)
    rw [mean_ne h, mean_ne h']
    simp only [soft_ne h, soft_ne h', ← EReal.coe_mul, ← EReal.coe_sub]
    rw [coe_sum, weighted, weighted, Finset.sum_div, Finset.sum_div, Finset.mul_sum, ← Finset.sum_sub_distrib]
    exact congrArg Real.toEReal (Finset.sum_congr rfl fun j _ => by ring)

end Cert.Attn

end
-- ==== Proof.Attn.Step.lean ====
/- One chunk of keys of the attention call: the running maximum and the running sums, and what they hold after each chunk. -/
module

public import proofs.«01_k».proof.Proof.Gen.Kernel4Ideal.Frame
public import proofs.«01_k».proof.Proof.Layer.Attn
public import Idealize.ShloMosaic.Lib.Pipeline.ValueKit
public import Idealize.ShloMosaic.Lib.Pointwise
public import Idealize.ShloMosaic.Lib.KernelVsHost

@[expose] public section

set_option maxRecDepth 16384

noncomputable section

namespace Cert.Kernel4Ideal.Attn

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen
open Cert.Attn (wt wt_coe wt_mul peak peak_add peak_zero le_peak coe_sum)

/-- The running sums after a chunk: rescaled to the new maximum `m'`, plus the chunk's weighted values, with a block of ones beside the values. -/
def newAcc {F : FTy → Type} [FloatOps F] (m m' : FVec F S2048x1 .f32) (a s : FVec F S2048x256 .f32) (vv : FVec F S256x128 .bf16) : FVec F S2048x256 .f32 :=
  addf (mulf (broadcastTo S2048x256 (exp2 (subf m m')) broadcasts_S2048x1_S2048x256) a)
    (matmul dot_S2048x256_S256x256_S2048x256_1_0_0_1_n_n none (truncf .bf16 (exp2 (subf s (broadcastTo S2048x256 m' broadcasts_S2048x1_S2048x256))) bitsLt_bf16_f32)
      (concatenate S256x256 1 [⟨S256x128, vv⟩, ⟨S256x128, broadcast S256x128 (Scalar.ofBits .bf16 0x3F80#16)⟩] concatenates_S256x128_S256x128_S256x256_d1) (constant S2048x256 .f32 0x00000000#32))

/-- The sums' value columns at an index. -/
theorem newAcc_left (m m' : FVec Ideal S2048x1 .f32) (a s : FVec Ideal S2048x256 .f32) (vv : FVec Ideal S256x128 .bf16) (i : Fin 2048) (c : Fin 128) :
    newAcc m m' a s vv (ix2 i (⟨c.val, by omega⟩ : Fin 256))
      = Ideal.exp2 (m (ix2 i (0 : Fin 1)) - m' (ix2 i (0 : Fin 1))) * a (ix2 i (⟨c.val, by omega⟩ : Fin 256))
        + ∑ j : Fin 256, Ideal.exp2 (s (ix2 i j) - m' (ix2 i (0 : Fin 1))) * vv (ix2 j c) := by
  pointwise [newAcc]
  rfl

/-- The sums' weight columns at an index. -/
theorem newAcc_right (m m' : FVec Ideal S2048x1 .f32) (a s : FVec Ideal S2048x256 .f32) (vv : FVec Ideal S256x128 .bf16) (i : Fin 2048) (c : Fin 128) :
    newAcc m m' a s vv (ix2 i (⟨128 + c.val, by omega⟩ : Fin 256))
      = Ideal.exp2 (m (ix2 i (0 : Fin 1)) - m' (ix2 i (0 : Fin 1))) * a (ix2 i (⟨128 + c.val, by omega⟩ : Fin 256))
        + ∑ j : Fin 256, Ideal.exp2 (s (ix2 i j) - m' (ix2 i (0 : Fin 1))) * (1 : EReal) := by
  pointwise [newAcc]
  rfl

/-- A chunk's scores at an index. -/
theorem score_apply (q : FVec Ideal S2048x128 .bf16) (k : Vec Ideal S1x256x128 .bf16) (i : Fin 2048) (j : Fin 256) :
    k0_pay9 q k (ix2 i j) = ∑ d : Fin 128, q (ix2 i d) * k (ix3 (0 : Fin 1) j d) := by
  pointwise [k0_pay9]

theorem neg_inf : Ideal.ofBits .f32 0xFF800000#32 = ⊥ := by simp [Ideal.ofBits, Ideal.ieee]

/-- A row's maximum. -/
theorem rowMax_eq (s : FVec Ideal S2048x256 .f32) (i : Fin 2048) (T : Fin 256 → EReal) (h : ∀ j, s (ix2 i j) = T j) :
    shapeCast S2048x1 (multiReduction .maximumf [1] S2048 s 0xFF800000#32 reduces_S2048x256_S2048 (.inl rfl) rfl) shapeCasts_S2048_S2048x1 (ix2 i (0 : Fin 1)) = Finset.univ.sup T := by
  obtain rfl : (fun j => s (ix2 i j)) = T := funext h
  pointwise
  show Finset.univ.fold max (Ideal.ofBits .f32 0xFF800000#32) _ = _
  rw [neg_inf]
  rfl

/-- What row `i` of the running state holds after `n` keys: the largest score, and the sums of the weights taken against it, times the values and bare. -/
def Inv (T : ℕ → EReal) (V : ℕ → Fin 128 → ℝ) (i : Fin 2048) (n : ℕ) (m : FVec Ideal S2048x1 .f32) (a : FVec Ideal S2048x256 .f32) : Prop :=
  m (ix2 i (0 : Fin 1)) = peak T n
    ∧ (∀ c : Fin 128, a (ix2 i (⟨c.val, by omega⟩ : Fin 256)) = ((∑ j ∈ Finset.range n, wt (T j) (peak T n) * V j c : ℝ) : EReal))
    ∧ (∀ c : Fin 128, a (ix2 i (⟨128 + c.val, by omega⟩ : Fin 256)) = ((∑ j ∈ Finset.range n, wt (T j) (peak T n) : ℝ) : EReal))

theorem peak_le_add (T : ℕ → EReal) (n k : ℕ) : peak T n ≤ peak T (n + k) := peak_add T n k ▸ le_max_left _ _

/-- Rescaling to a new maximum and adding a chunk's terms. -/
theorem rescale (n : ℕ) (T : ℕ → EReal) (w : ℕ → ℝ) :
    wt (peak T n) (peak T (n + 256)) * (∑ j ∈ Finset.range n, wt (T j) (peak T n) * w j) + ∑ j : Fin 256, wt (T (n + j.val)) (peak T (n + 256)) * w (n + j.val)
      = ∑ j ∈ Finset.range (n + 256), wt (T j) (peak T (n + 256)) * w j := by
  rw [Finset.sum_range_add, Finset.sum_range (n := 256), Finset.mul_sum]
  refine congrArg (· + _) (Finset.sum_congr rfl fun j hj => ?_)
  rw [← mul_assoc, wt_mul (le_peak T (Finset.mem_range.1 hj)) (peak_le_add T n 256)]

/-- A chunk carries the state 256 keys on. -/
theorem Inv.step {T : ℕ → EReal} {V : ℕ → Fin 128 → ℝ} {i : Fin 2048} {n : ℕ} {m : FVec Ideal S2048x1 .f32} {a : FVec Ideal S2048x256 .f32} (h : Inv T V i n m a)
    (m' : FVec Ideal S2048x1 .f32) (s : FVec Ideal S2048x256 .f32) (vv : FVec Ideal S256x128 .bf16)
    (hm' : m' (ix2 i (0 : Fin 1)) = peak T (n + 256)) (hs : ∀ j : Fin 256, s (ix2 i j) = T (n + j.val)) (hv : ∀ (j : Fin 256) (c : Fin 128), vv (ix2 j c) = (V (n + j.val) c : EReal)) :
    Inv T V i (n + 256) m' (newAcc m m' a s vv) := by
  obtain ⟨hm, ha, hl⟩ := h
  have hp : ∀ j : Fin 256, Ideal.exp2 (s (ix2 i j) - m' (ix2 i (0 : Fin 1))) = (wt (T (n + j.val)) (peak T (n + 256)) : EReal) := fun j => by
    rw [hs, hm', wt_coe (le_peak T (by omega))]
  have hα : Ideal.exp2 (m (ix2 i (0 : Fin 1)) - m' (ix2 i (0 : Fin 1))) = (wt (peak T n) (peak T (n + 256)) : EReal) := by
    rw [hm, hm', wt_coe (peak_le_add T n 256)]
  refine ⟨hm', fun c => ?_, fun c => ?_⟩
  · rw [newAcc_left, hα, ha]
    simp only [hp, hv, ← EReal.coe_mul]
    rw [coe_sum, ← EReal.coe_add, rescale n T fun j => V j c]
  · have e := rescale n T fun _ => 1
    rw [newAcc_right, hα, hl]
    simp only [hp, ← EReal.coe_mul, mul_one] at e ⊢
    rw [coe_sum, ← EReal.coe_add, e]

/-- The sums after the first chunk at an index. -/
theorem first_left (x : Vec Ideal S1x1024x128 .bf16) (k v : Vec Ideal S1x256x128 .bf16) (i : Fin 2048) (c : Fin 128) :
    k0_pay5 x k v (ix2 i (⟨c.val, by omega⟩ : Fin 256)) = ∑ j : Fin 256, Ideal.exp2 (k0_pay3 x k (ix2 i j) - k0_pay4 x k (ix2 i (0 : Fin 1))) * v (ix3 (0 : Fin 1) j c) := by
  pointwise [k0_pay5]
  rfl
theorem first_right (x : Vec Ideal S1x1024x128 .bf16) (k v : Vec Ideal S1x256x128 .bf16) (i : Fin 2048) (c : Fin 128) :
    k0_pay5 x k v (ix2 i (⟨128 + c.val, by omega⟩ : Fin 256)) = ∑ j : Fin 256, Ideal.exp2 (k0_pay3 x k (ix2 i j) - k0_pay4 x k (ix2 i (0 : Fin 1))) * (1 : EReal) := by
  pointwise [k0_pay5]
  rfl

/-- The state after the first chunk. -/
theorem Inv.first (T : ℕ → EReal) (V : ℕ → Fin 128 → ℝ) (i : Fin 2048) (x : Vec Ideal S1x1024x128 .bf16) (k v : Vec Ideal S1x256x128 .bf16)
    (hs : ∀ j : Fin 256, k0_pay9 (k0_pay2 x) k (ix2 i j) = T j.val) (hv : ∀ (j : Fin 256) (c : Fin 128), v (ix3 (0 : Fin 1) j c) = (V j.val c : EReal)) :
    Inv T V i 256 (k0_pay4 x k) (k0_pay5 x k v) := by
  have hs' : ∀ j : Fin 256, k0_pay3 x k (ix2 i j) = T j.val := hs
  have hm : k0_pay4 x k (ix2 i (0 : Fin 1)) = peak T 256 := by
    have e := peak_add T 0 256
    simp only [zero_add, peak_zero, max_eq_right (bot_le (α := EReal))] at e
    exact (rowMax_eq (k0_pay3 x k) i (fun j => T j.val) hs').trans e.symm
  have hp : ∀ j : Fin 256, Ideal.exp2 (k0_pay3 x k (ix2 i j) - k0_pay4 x k (ix2 i (0 : Fin 1))) = (wt (T j.val) (peak T 256) : EReal) := fun j => by
    rw [hs', hm, wt_coe (le_peak T j.isLt)]
  refine ⟨hm, fun c => ?_, fun c => ?_⟩
  · rw [first_left]
    simp only [hp, hv, ← EReal.coe_mul]
    rw [coe_sum, Finset.sum_range]
  · rw [first_right]
    simp only [hp, mul_one]
    rw [coe_sum, Finset.sum_range]

/-- A new maximum is the largest score so far. -/
theorem newMax_eq (q : FVec Ideal S2048x128 .bf16) (m : FVec Ideal S2048x1 .f32) (k : Vec Ideal S1x256x128 .bf16) (i : Fin 2048) (T : ℕ → EReal) (n : ℕ)
    (hm : m (ix2 i (0 : Fin 1)) = peak T n) (hs : ∀ j : Fin 256, k0_pay9 q k (ix2 i j) = T (n + j.val)) : k0_pay10 q m k (ix2 i (0 : Fin 1)) = peak T (n + 256) := by
  have h := rowMax_eq (k0_pay9 q k) i (fun j => T (n + j.val)) hs
  rw [peak_add, ← hm, ← h]
  rfl

theorem val_cast (v : Vec Ideal S1x256x128 .bf16) (j : Fin 256) (c : Fin 128) : k0_pay6 v (ix2 j c) = v (ix3 (0 : Fin 1) j c) := by
  pointwise [k0_pay6]

theorem pair_eq {F : FTy → Type} [FloatOps F] (q : FVec F S2048x128 .bf16) (m m1 : FVec F S2048x1 .f32) (a s : FVec F S2048x256 .f32) (vv : FVec F S256x128 .bf16) (k' v' : Vec F S1x256x128 .bf16) :
    k0_pay11 q m a vv s m1 k' v' = newAcc m1 (k0_pay10 q m1 k') (newAcc m m1 a s vv) (k0_pay9 q k') (k0_pay6 v') := rfl

/-- Two chunks carry the state 512 keys on. -/
theorem Inv.pair {T : ℕ → EReal} {V : ℕ → Fin 128 → ℝ} {i : Fin 2048} {n : ℕ} {q : FVec Ideal S2048x128 .bf16} {m : FVec Ideal S2048x1 .f32} {a : FVec Ideal S2048x256 .f32} (h : Inv T V i n m a)
    (k v k' v' : Vec Ideal S1x256x128 .bf16)
    (hs : ∀ j : Fin 256, k0_pay9 q k (ix2 i j) = T (n + j.val)) (hv : ∀ (j : Fin 256) (c : Fin 128), v (ix3 (0 : Fin 1) j c) = (V (n + j.val) c : EReal))
    (hs' : ∀ j : Fin 256, k0_pay9 q k' (ix2 i j) = T (n + 256 + j.val)) (hv' : ∀ (j : Fin 256) (c : Fin 128), v' (ix3 (0 : Fin 1) j c) = (V (n + 256 + j.val) c : EReal)) :
    Inv T V i (n + 256 + 256) (k0_pay10 q (k0_pay10 q m k) k') (k0_pay11 q m a (k0_pay6 v) (k0_pay9 q k) (k0_pay10 q m k) k' v') := by
  rw [pair_eq]
  have hm := newMax_eq q m k i T n h.1 hs
  exact (h.step _ _ _ hm hs fun j c => (val_cast v j c).trans (hv j c)).step _ _ _ (newMax_eq q _ k' i T (n + 256) hm hs') hs' fun j c => (val_cast v' j c).trans (hv' j c)

end Cert.Kernel4Ideal.Attn

end
-- ==== Proof.Attn.Body.lean ====
/- The attention call's state through its seventeen chunks of keys, and what a point stores. -/
module

public import proofs.«01_k».proof.Proof.Attn.Step
public import proofs.«01_k».proof.Proof.Layer.Attn

@[expose] public section

set_option maxRecDepth 16384

noncomputable section

namespace Cert.Kernel4Ideal.Attn

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen

section States

variable {F : FTy → Type} [FloatOps F]

/-! The maximum and the sums after the context keys and two, four, … sixteen chunks of latent keys. -/

def max1 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay10 (k0_pay55 x0 x1 x2 x3 x4 x5 x6) (k0_pay56 x0 x1 x2 x3 x4 x5 x6) (View.ld x4 r0_3)
def acc1 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay11 (k0_pay55 x0 x1 x2 x3 x4 x5 x6) (k0_pay4 (View.ld x1 r0_0) (View.ld x2 r0_1)) (k0_pay5 (View.ld x1 r0_0) (View.ld x2 r0_1) (View.ld x3 r0_1)) (k0_pay6 (View.ld x5 r0_2)) (k0_pay7 (View.ld x1 r0_0) (View.ld x4 r0_2)) (k0_pay56 x0 x1 x2 x3 x4 x5 x6) (View.ld x4 r0_3) (View.ld x5 r0_3)
def max2 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay16 (k0_pay55 x0 x1 x2 x3 x4 x5 x6) (k0_pay57 x0 x1 x2 x3 x4 x5 x6) (View.ld x4 r0_5)
def acc2 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay17 (k0_pay55 x0 x1 x2 x3 x4 x5 x6) (max1 x0 x1 x2 x3 x4 x5 x6) (acc1 x0 x1 x2 x3 x4 x5 x6) (k0_pay12 (View.ld x5 r0_4)) (k0_pay13 (k0_pay55 x0 x1 x2 x3 x4 x5 x6) (View.ld x4 r0_4)) (k0_pay57 x0 x1 x2 x3 x4 x5 x6) (View.ld x4 r0_5) (View.ld x5 r0_5)
def max3 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay22 (k0_pay55 x0 x1 x2 x3 x4 x5 x6) (k0_pay58 x0 x1 x2 x3 x4 x5 x6) (View.ld x4 r0_7)
def acc3 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay23 (k0_pay55 x0 x1 x2 x3 x4 x5 x6) (max2 x0 x1 x2 x3 x4 x5 x6) (acc2 x0 x1 x2 x3 x4 x5 x6) (k0_pay18 (View.ld x5 r0_6)) (k0_pay19 (k0_pay55 x0 x1 x2 x3 x4 x5 x6) (View.ld x4 r0_6)) (k0_pay58 x0 x1 x2 x3 x4 x5 x6) (View.ld x4 r0_7) (View.ld x5 r0_7)
def max4 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay28 (k0_pay55 x0 x1 x2 x3 x4 x5 x6) (k0_pay59 x0 x1 x2 x3 x4 x5 x6) (View.ld x4 r0_9)
def acc4 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay29 (k0_pay55 x0 x1 x2 x3 x4 x5 x6) (max3 x0 x1 x2 x3 x4 x5 x6) (acc3 x0 x1 x2 x3 x4 x5 x6) (k0_pay24 (View.ld x5 r0_8)) (k0_pay25 (k0_pay55 x0 x1 x2 x3 x4 x5 x6) (View.ld x4 r0_8)) (k0_pay59 x0 x1 x2 x3 x4 x5 x6) (View.ld x4 r0_9) (View.ld x5 r0_9)
def max5 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay34 (k0_pay55 x0 x1 x2 x3 x4 x5 x6) (k0_pay60 x0 x1 x2 x3 x4 x5 x6) (View.ld x4 r0_11)
def acc5 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay35 (k0_pay55 x0 x1 x2 x3 x4 x5 x6) (max4 x0 x1 x2 x3 x4 x5 x6) (acc4 x0 x1 x2 x3 x4 x5 x6) (k0_pay30 (View.ld x5 r0_10)) (k0_pay31 (k0_pay55 x0 x1 x2 x3 x4 x5 x6) (View.ld x4 r0_10)) (k0_pay60 x0 x1 x2 x3 x4 x5 x6) (View.ld x4 r0_11) (View.ld x5 r0_11)
def max6 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay40 (k0_pay55 x0 x1 x2 x3 x4 x5 x6) (k0_pay61 x0 x1 x2 x3 x4 x5 x6) (View.ld x4 r0_13)
def acc6 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay41 (k0_pay55 x0 x1 x2 x3 x4 x5 x6) (max5 x0 x1 x2 x3 x4 x5 x6) (acc5 x0 x1 x2 x3 x4 x5 x6) (k0_pay36 (View.ld x5 r0_12)) (k0_pay37 (k0_pay55 x0 x1 x2 x3 x4 x5 x6) (View.ld x4 r0_12)) (k0_pay61 x0 x1 x2 x3 x4 x5 x6) (View.ld x4 r0_13) (View.ld x5 r0_13)
def max7 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay46 (k0_pay55 x0 x1 x2 x3 x4 x5 x6) (k0_pay62 x0 x1 x2 x3 x4 x5 x6) (View.ld x4 r0_15)
def acc7 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay47 (k0_pay55 x0 x1 x2 x3 x4 x5 x6) (max6 x0 x1 x2 x3 x4 x5 x6) (acc6 x0 x1 x2 x3 x4 x5 x6) (k0_pay42 (View.ld x5 r0_14)) (k0_pay43 (k0_pay55 x0 x1 x2 x3 x4 x5 x6) (View.ld x4 r0_14)) (k0_pay62 x0 x1 x2 x3 x4 x5 x6) (View.ld x4 r0_15) (View.ld x5 r0_15)
def max8 (x0 : Vec F S4x64 .f32) (x1 : Vec F S1x1024x128 .bf16) (x2 x3 : Vec F S1x256x128 .bf16) (x4 x5 : Vec F S1x4096x128 .bf16) (x6 : Vec F S1x128 .f32) : FVec F S2048x1 .f32 := k0_pay10 (k0_pay55 x0 x1 x2 x3 x4 x5 x6) (k0_pay50 (k0_pay55 x0 x1 x2 x3 x4 x5 x6) (k0_pay62 x0 x1 x2 x3 x4 x5 x6) (View.ld x4 r0_15) (View.ld x4 r0_16)) (View.ld x4 r0_17)
def acc8 (x0 : Vec F S4x64 .f32) (x1 : Vec F S1x1024x128 .bf16) (x2 x3 : Vec F S1x256x128 .bf16) (x4 x5 : Vec F S1x4096x128 .bf16) (x6 : Vec F S1x128 .f32) : FVec F S2048x256 .f32 := k0_pay51 (k0_pay55 x0 x1 x2 x3 x4 x5 x6) (max7 x0 x1 x2 x3 x4 x5 x6) (acc7 x0 x1 x2 x3 x4 x5 x6) (k0_pay48 (View.ld x5 r0_16)) (k0_pay49 (k0_pay55 x0 x1 x2 x3 x4 x5 x6) (View.ld x4 r0_16)) (k0_pay50 (k0_pay55 x0 x1 x2 x3 x4 x5 x6) (k0_pay62 x0 x1 x2 x3 x4 x5 x6) (View.ld x4 r0_15) (View.ld x4 r0_16)) (View.ld x4 r0_17) (View.ld x5 r0_17)

/-- What a point stores, from the last sums. -/
theorem out_eq (x0 : Vec F S4x64 .f32) (x1 : Vec F S1x1024x128 .bf16) (x2 x3 : Vec F S1x256x128 .bf16) (x4 x5 : Vec F S1x4096x128 .bf16) (x6 : Vec F S1x128 .f32) :
    out0_7 x0 x1 x2 x3 x4 x5 x6 = View.canon [⟨r0_0, k0_pay1 (acc8 x0 x1 x2 x3 x4 x5 x6) (k0_pay53 (View.ld x0 r0_18)) (k0_pay54 (View.ld x0 r0_18)) (View.ld x6 r0_19)⟩] := rfl

end States

/-- Three coordinates, one by one. -/
theorem coords3 {i j : Fin 3 → ℕ} (h0 : i 0 = j 0) (h1 : i 1 = j 1) (h2 : i 2 = j 2) : ∀ a, i a = j a
  | ⟨0, _⟩ => h0
  | ⟨1, _⟩ => h1
  | ⟨2, _⟩ => h2

/-- A chunk of latent keys' scores. -/
theorem chunk_score (q : FVec Ideal S2048x128 .bf16) (x4 : Vec Ideal S1x4096x128 .bf16) (T : ℕ → EReal) (i : Fin 2048)
    (hk : ∀ l : Fin 4096, ∑ d : Fin 128, q (ix2 i d) * x4 (ix3 (0 : Fin 1) l d) = T (256 + l.val))
    {o : ℕ} (inb) (n : ℕ) (hn : n = 256 + o) (j : Fin 256) :
    k0_pay9 q (View.ld x4 (Rect.unit (s := S1x4096x128) ![0, o, 0] S1x256x128.size inb)) (ix2 i j) = T (n + j.val) := by
  have ho : o + 256 ≤ 4096 := inb 1
  rw [score_apply, hn, Nat.add_assoc, ← hk ⟨o + j.val, by omega⟩]
  refine Finset.sum_congr rfl fun d _ => congrArg _ ?_
  exact View.ld_unit_apply_of _ _ _ _ _ (ix3 (0 : Fin 1) (⟨o + j.val, by omega⟩ : Fin 4096) d) (coords3 rfl rfl (Nat.zero_add _).symm)

/-- A chunk of latent values. -/
theorem chunk_val (x5 : Vec Ideal S1x4096x128 .bf16) (V : ℕ → Fin 128 → ℝ)
    (hv : ∀ (l : Fin 4096) (c : Fin 128), x5 (ix3 (0 : Fin 1) l c) = (V (256 + l.val) c : EReal))
    {o : ℕ} (inb) (n : ℕ) (hn : n = 256 + o) (j : Fin 256) (c : Fin 128) :
    (View.ld x5 (Rect.unit (s := S1x4096x128) ![0, o, 0] S1x256x128.size inb) : Vec Ideal S1x256x128 .bf16) (ix3 (0 : Fin 1) j c) = (V (n + j.val) c : EReal) := by
  have ho : o + 256 ≤ 4096 := inb 1
  rw [hn, Nat.add_assoc, ← hv ⟨o + j.val, by omega⟩ c]
  exact View.ld_unit_apply_of _ _ _ _ _ (ix3 (0 : Fin 1) (⟨o + j.val, by omega⟩ : Fin 4096) c) (coords3 rfl rfl (Nat.zero_add _).symm)

theorem inv1 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 768 (max1 x0 x1 x2 x3 x4 x5 x6) (acc1 x0 x1 x2 x3 x4 x5 x6) :=
  Inv.pair (n := 256) (q := k0_pay2 (View.ld x1 r0_0)) (Inv.first T V i (View.ld x1 r0_0) (View.ld x2 r0_1) (View.ld x3 r0_1) hk0 hv0) (View.ld x4 r0_2) (View.ld x5 r0_2) (View.ld x4 r0_3) (View.ld x5 r0_3)
    (chunk_score _ x4 T i hk _ 256 rfl) (chunk_val x5 V hv _ 256 rfl) (chunk_score _ x4 T i hk _ 512 rfl) (chunk_val x5 V hv _ 512 rfl)

theorem inv2 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 1280 (max2 x0 x1 x2 x3 x4 x5 x6) (acc2 x0 x1 x2 x3 x4 x5 x6) :=
  Inv.pair (n := 768) (q := k0_pay2 (View.ld x1 r0_0)) (inv1 x0 x1 x2 x3 x4 x5 x6 T V i hk0 hv0 hk hv) (View.ld x4 r0_4) (View.ld x5 r0_4) (View.ld x4 r0_5) (View.ld x5 r0_5)
    (chunk_score _ x4 T i hk _ 768 rfl) (chunk_val x5 V hv _ 768 rfl) (chunk_score _ x4 T i hk _ 1024 rfl) (chunk_val x5 V hv _ 1024 rfl)

theorem inv3 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 1792 (max3 x0 x1 x2 x3 x4 x5 x6) (acc3 x0 x1 x2 x3 x4 x5 x6) :=
  Inv.pair (n := 1280) (q := k0_pay2 (View.ld x1 r0_0)) (inv2 x0 x1 x2 x3 x4 x5 x6 T V i hk0 hv0 hk hv) (View.ld x4 r0_6) (View.ld x5 r0_6) (View.ld x4 r0_7) (View.ld x5 r0_7)
    (chunk_score _ x4 T i hk _ 1280 rfl) (chunk_val x5 V hv _ 1280 rfl) (chunk_score _ x4 T i hk _ 1536 rfl) (chunk_val x5 V hv _ 1536 rfl)

theorem inv4 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 2304 (max4 x0 x1 x2 x3 x4 x5 x6) (acc4 x0 x1 x2 x3 x4 x5 x6) :=
  Inv.pair (n := 1792) (q := k0_pay2 (View.ld x1 r0_0)) (inv3 x0 x1 x2 x3 x4 x5 x6 T V i hk0 hv0 hk hv) (View.ld x4 r0_8) (View.ld x5 r0_8) (View.ld x4 r0_9) (View.ld x5 r0_9)
    (chunk_score _ x4 T i hk _ 1792 rfl) (chunk_val x5 V hv _ 1792 rfl) (chunk_score _ x4 T i hk _ 2048 rfl) (chunk_val x5 V hv _ 2048 rfl)

theorem inv5 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 2816 (max5 x0 x1 x2 x3 x4 x5 x6) (acc5 x0 x1 x2 x3 x4 x5 x6) :=
  Inv.pair (n := 2304) (q := k0_pay2 (View.ld x1 r0_0)) (inv4 x0 x1 x2 x3 x4 x5 x6 T V i hk0 hv0 hk hv) (View.ld x4 r0_10) (View.ld x5 r0_10) (View.ld x4 r0_11) (View.ld x5 r0_11)
    (chunk_score _ x4 T i hk _ 2304 rfl) (chunk_val x5 V hv _ 2304 rfl) (chunk_score _ x4 T i hk _ 2560 rfl) (chunk_val x5 V hv _ 2560 rfl)

theorem inv6 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 3328 (max6 x0 x1 x2 x3 x4 x5 x6) (acc6 x0 x1 x2 x3 x4 x5 x6) :=
  Inv.pair (n := 2816) (q := k0_pay2 (View.ld x1 r0_0)) (inv5 x0 x1 x2 x3 x4 x5 x6 T V i hk0 hv0 hk hv) (View.ld x4 r0_12) (View.ld x5 r0_12) (View.ld x4 r0_13) (View.ld x5 r0_13)
    (chunk_score _ x4 T i hk _ 2816 rfl) (chunk_val x5 V hv _ 2816 rfl) (chunk_score _ x4 T i hk _ 3072 rfl) (chunk_val x5 V hv _ 3072 rfl)

theorem inv7 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 3840 (max7 x0 x1 x2 x3 x4 x5 x6) (acc7 x0 x1 x2 x3 x4 x5 x6) :=
  Inv.pair (n := 3328) (q := k0_pay2 (View.ld x1 r0_0)) (inv6 x0 x1 x2 x3 x4 x5 x6 T V i hk0 hv0 hk hv) (View.ld x4 r0_14) (View.ld x5 r0_14) (View.ld x4 r0_15) (View.ld x5 r0_15)
    (chunk_score _ x4 T i hk _ 3328 rfl) (chunk_val x5 V hv _ 3328 rfl) (chunk_score _ x4 T i hk _ 3584 rfl) (chunk_val x5 V hv _ 3584 rfl)

theorem inv8 (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) :
    Inv T V i 4352 (max8 x0 x1 x2 x3 x4 x5 x6) (acc8 x0 x1 x2 x3 x4 x5 x6) :=
  Inv.pair (n := 3840) (q := k0_pay2 (View.ld x1 r0_0)) (inv7 x0 x1 x2 x3 x4 x5 x6 T V i hk0 hv0 hk hv) (View.ld x4 r0_16) (View.ld x5 r0_16) (View.ld x4 r0_17) (View.ld x5 r0_17)
    (chunk_score _ x4 T i hk _ 3840 rfl) (chunk_val x5 V hv _ 3840 rfl) (chunk_score _ x4 T i hk _ 4096 rfl) (chunk_val x5 V hv _ 4096 rfl)

/-- The weighted mean of the values, from the last sums. -/
theorem mean_eq (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (T : ℕ → EReal) (V : ℕ → Fin 128 → ℝ) (i : Fin 2048)
    (hk0 : ∀ j : Fin 256, k0_pay9 (k0_pay2 (View.ld x1 r0_0)) (View.ld x2 r0_1) (ix2 i j) = T j.val)
    (hv0 : ∀ (j : Fin 256) (c : Fin 128), (View.ld x3 r0_1 : Vec Ideal S1x256x128 .bf16) (ix3 (0 : Fin 1) j c) = (V j.val c : EReal))
    (hk : ∀ l : Fin 4096, ∑ d : Fin 128, k0_pay2 (View.ld x1 r0_0) (ix2 i d) * x4 (ix3 (0 : Fin 1) l d) = T (256 + l.val))
    (hv : ∀ (l : Fin 4096) (c : Fin 128), x5 (ix3 (0 : Fin 1) l c) = (V (256 + l.val) c : EReal)) (c : Fin 128) :
    Ideal.div (acc8 x0 x1 x2 x3 x4 x5 x6 (ix2 i (⟨c.val, by omega⟩ : Fin 256))) (acc8 x0 x1 x2 x3 x4 x5 x6 (ix2 i (⟨128 + c.val, by omega⟩ : Fin 256)))
      = Cert.Attn.mean T (fun j => V j c) := by
  obtain ⟨-, ha, hl⟩ := inv8 x0 x1 x2 x3 x4 x5 x6 T V i hk0 hv0 hk hv
  rw [ha, hl]
  rfl

/-- What a point stores, at an index, from the last sums. -/
theorem pay1_apply (a : FVec Ideal S2048x256 .f32) (l : Vec Ideal S4x64 .f32) (g : Vec Ideal S1x128 .f32) (r : Fin 1024) (c : Fin 128) :
    k0_pay1 a (k0_pay53 l) (k0_pay54 l) g (ix3 (0 : Fin 1) r c)
      = Cert.Attn.normed (fun c => Ideal.div (a (ix2 (⟨r.val, by omega⟩ : Fin 2048) (⟨c.val, by omega⟩ : Fin 256))) (a (ix2 (⟨r.val, by omega⟩ : Fin 2048) (⟨128 + c.val, by omega⟩ : Fin 256)))
          - Cert.Attn.lam (fun d => l (ix2 (0 : Fin 4) d)) (fun d => l (ix2 (1 : Fin 4) d)) (fun d => l (ix2 (2 : Fin 4) d)) (fun d => l (ix2 (3 : Fin 4) d))
            * Ideal.div (a (ix2 (⟨1024 + r.val, by omega⟩ : Fin 2048) (⟨c.val, by omega⟩ : Fin 256))) (a (ix2 (⟨1024 + r.val, by omega⟩ : Fin 2048) (⟨128 + c.val, by omega⟩ : Fin 256))))
          (fun c => g (ix2 (0 : Fin 1) c)) c := by
  unfold Cert.Attn.normed Cert.Attn.lam
  pointwise [k0_pay1, k0_pay53, k0_pay54, k0_pay52]

end Cert.Kernel4Ideal.Attn

end
-- ==== Proof.Attn.Point.lean ====
/- What a point of the attention call stores, over any queries and keys and real values. -/
module

public import proofs.«01_k».proof.Proof.Attn.Body

@[expose] public section

set_option maxRecDepth 16384

noncomputable section

namespace Cert.Kernel4Ideal.Attn

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen

/-- Which columns lie in the first half. -/
theorem lower_half : ∀ d : Fin 128, IntOp.cmpi .slt (BitVec.ofNat 32 d.val) 64#32 = if d.val < 64 then 1#1 else 0#1 := by decide
theorem upper_half : ∀ d : Fin 128, IntOp.cmpi .sge (BitVec.ofNat 32 d.val) 64#32 = if d.val < 64 then 0#1 else 1#1 := by decide

/-- The stacked queries: the first half of the columns in the upper rows, the second half in the lower rows. -/
theorem stacked_first (q : Vec Ideal S1x1024x128 .bf16) (r : Fin 1024) (d : Fin 128) :
    k0_pay2 q (ix2 (⟨r.val, by omega⟩ : Fin 2048) d) = if d.val < 64 then q (ix3 (0 : Fin 1) r d) else 0 := by
  pointwise [k0_pay2]
  rw [lower_half]
  split <;> rfl
theorem stacked_second (q : Vec Ideal S1x1024x128 .bf16) (r : Fin 1024) (d : Fin 128) :
    k0_pay2 q (ix2 (⟨1024 + r.val, by omega⟩ : Fin 2048) d) = if d.val < 64 then 0 else q (ix3 (0 : Fin 1) r d) := by
  pointwise [k0_pay2]
  rw [upper_half]
  split <;> rfl

/-- Column `d` of half `u`. -/
def half (u : Fin 2) (d : Fin 64) : Fin 128 := ⟨64 * u.val + d.val, by omega⟩

/-- A sum over the columns, half by half. -/
theorem sum_halves (f : Fin 128 → EReal) : ∑ d : Fin 128, f d = ∑ d : Fin 64, f (half 0 d) + ∑ d : Fin 64, f (half 1 d) := by
  refine (Fin.sum_univ_add (a := 64) (b := 64) f).trans (congr (congrArg HAdd.hAdd ?_) ?_)
  · exact Finset.sum_congr rfl fun d _ => congrArg f (Fin.ext (by show d.val = 64 * 0 + d.val; omega))
  · exact Finset.sum_congr rfl fun d _ => congrArg f (Fin.ext (by show 64 + d.val = 64 * 1 + d.val; omega))

/-- The row of the stacked queries that holds half `u` of query row `r`. -/
def stackRow (u : Fin 2) (r : Fin 1024) : Fin 2048 := ⟨1024 * u.val + r.val, by omega⟩

/-- A row of the stacked queries against a key. -/
theorem half_score (q : Vec Ideal S1x1024x128 .bf16) (r : Fin 1024) (y k : Fin 128 → EReal) (hq : ∀ d, q (ix3 (0 : Fin 1) r d) = y d) (u : Fin 2) :
    ∑ d : Fin 128, k0_pay2 q (ix2 (stackRow u r) d) * k d = ∑ d : Fin 64, y (half u d) * k (half u d) := by
  rw [sum_halves]
  match u with
  | ⟨0, _⟩ =>
    have e : stackRow ⟨0, by decide⟩ r = (⟨r.val, by omega⟩ : Fin 2048) := Fin.ext (by show 1024 * 0 + r.val = r.val; omega)
    have z : ∑ d : Fin 64, k0_pay2 q (ix2 (stackRow ⟨0, by decide⟩ r) (half 1 d)) * k (half 1 d) = 0 := Finset.sum_eq_zero fun d _ => by
      rw [e, stacked_first, if_neg (by show ¬ 64 * 1 + d.val < 64; omega), zero_mul]
    rw [z, add_zero]
    refine Finset.sum_congr rfl fun d _ => ?_
    rw [e, stacked_first, if_pos (by show 64 * 0 + d.val < 64; omega), hq]
    rfl
  | ⟨1, _⟩ =>
    have e : stackRow ⟨1, by decide⟩ r = (⟨1024 + r.val, by omega⟩ : Fin 2048) := Fin.ext (by show 1024 * 1 + r.val = 1024 + r.val; omega)
    have z : ∑ d : Fin 64, k0_pay2 q (ix2 (stackRow ⟨1, by decide⟩ r) (half 0 d)) * k (half 0 d) = 0 := Finset.sum_eq_zero fun d _ => by
      rw [e, stacked_second, if_pos (by show 64 * 0 + d.val < 64; omega), zero_mul]
    rw [z, zero_add]
    refine Finset.sum_congr rfl fun d _ => ?_
    rw [e, stacked_second, if_neg (by show ¬ 64 * 1 + d.val < 64; omega), hq]
    rfl

/-- The softmax's weighted mean of the values that a point works out for half `u` of query row `r`. -/
theorem point_mean (x0 : Vec Ideal S4x64 .f32) (x1 : Vec Ideal S1x1024x128 .bf16) (x2 x3 : Vec Ideal S1x256x128 .bf16) (x4 x5 : Vec Ideal S1x4096x128 .bf16) (x6 : Vec Ideal S1x128 .f32)
    (y : Fin 128 → EReal) (K : ℕ → Fin 128 → EReal) (V : ℕ → Fin 128 → ℝ) (r : Fin 1024)
    (hq : ∀ d, x1 (ix3 (0 : Fin 1) r d) = y d)
    (hk0 : ∀ (j : Fin 256) (d : Fin 128), x2 (ix3 (0 : Fin 1) j d) = K j.val d) (hv0 : ∀ (j : Fin 256) (d : Fin 128), x3 (ix3 (0 : Fin 1) j d) = (V j.val d : EReal))
    (hk : ∀ (l : Fin 4096) (d : Fin 128), x4 (ix3 (0 : Fin 1) l d) = K (256 + l.val) d) (hv : ∀ (l : Fin 4096) (d : Fin 128), x5 (ix3 (0 : Fin 1) l d) = (V (256 + l.val) d : EReal))
    (u : Fin 2) (c : Fin 128) :
    Ideal.div (acc8 x0 x1 x2 x3 x4 x5 x6 (ix2 (stackRow u r) (⟨c.val, by omega⟩ : Fin 256))) (acc8 x0 x1 x2 x3 x4 x5 x6 (ix2 (stackRow u r) (⟨128 + c.val, by omega⟩ : Fin 256)))
      = Cert.Attn.mean (fun j => ∑ d : Fin 64, y (half u d) * K j (half u d)) (fun j => V j c) := by
  have hs : ∀ d, (View.ld x1 r0_0 : Vec Ideal S1x1024x128 .bf16) (ix3 (0 : Fin 1) r d) = y d := fun d =>
    (View.ld_unit_apply_of _ _ _ _ _ (ix3 (0 : Fin 1) r d) (coords3 rfl (Nat.zero_add _).symm (Nat.zero_add _).symm)).trans (hq d)
  refine mean_eq x0 x1 x2 x3 x4 x5 x6 (fun j => ∑ d : Fin 64, y (half u d) * K j (half u d)) V (stackRow u r) ?_ ?_ ?_ hv c
  · intro j
    rw [score_apply, ← half_score (View.ld x1 r0_0) r y (K j.val) hs u]
    refine Finset.sum_congr rfl fun d _ => congrArg _ ?_
    exact (View.ld_unit_apply_of _ _ _ _ _ (ix3 (0 : Fin 1) j d) (coords3 rfl (Nat.zero_add _).symm (Nat.zero_add _).symm)).trans (hk0 j d)
  · intro j d
    exact (View.ld_unit_apply_of _ _ _ _ _ (ix3 (0 : Fin 1) j d) (coords3 rfl (Nat.zero_add _).symm (Nat.zero_add _).symm)).trans (hv0 j d)
  · intro l
    rw [← half_score (View.ld x1 r0_0) r y (K (256 + l.val)) hs u]
    exact Finset.sum_congr rfl fun d _ => congrArg _ (hk l d)

end Cert.Kernel4Ideal.Attn

end
-- ==== Proof.Attn.Blocks.lean ====
/- The attention call's blocks, read from the arguments. -/
module

public import proofs.«01_k».proof.Proof.Gen.Kernel4Ideal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.Kernel4Ideal.Attn

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen

variable (m : (ℓ : Loc nD τ sig) → Buf (Elt Ideal) ℓ) (ρ : Dev nD → PrngReg)

theorem point_lt (t : Fin cfg0.N) : t.val < 64 := Nat.lt_of_lt_of_eq t.isLt N_0

/-- Where each window's block lies at a point. -/
theorem index_0 : ∀ t : Fin cfg0.N, win0_0.index t = ![0, 0] := (by decide +kernel : ∀ t : Fin grid0.N, win0_0.index t = ![0, 0])
theorem index_1 : ∀ t : Fin cfg0.N, win0_1.index t = ![t.val / 16, t.val % 4, t.val / 4 % 4] := (by decide +kernel : ∀ t : Fin grid0.N, win0_1.index t = ![t.val / 16, t.val % 4, t.val / 4 % 4])
theorem index_2 : ∀ t : Fin cfg0.N, win0_2.index t = ![t.val / 16, 0, t.val / 4 % 4] := (by decide +kernel : ∀ t : Fin grid0.N, win0_2.index t = ![t.val / 16, 0, t.val / 4 % 4])
theorem index_3 : ∀ t : Fin cfg0.N, win0_3.index t = ![t.val / 16, 0, t.val / 4 % 4] := (by decide +kernel : ∀ t : Fin grid0.N, win0_3.index t = ![t.val / 16, 0, t.val / 4 % 4])
theorem index_4 : ∀ t : Fin cfg0.N, win0_4.index t = ![t.val / 16, 0, t.val / 4 % 4] := (by decide +kernel : ∀ t : Fin grid0.N, win0_4.index t = ![t.val / 16, 0, t.val / 4 % 4])
theorem index_5 : ∀ t : Fin cfg0.N, win0_5.index t = ![t.val / 16, 0, t.val / 4 % 4] := (by decide +kernel : ∀ t : Fin grid0.N, win0_5.index t = ![t.val / 16, 0, t.val / 4 % 4])
theorem index_6 : ∀ t : Fin cfg0.N, win0_6.index t = ![0, 0] := (by decide +kernel : ∀ t : Fin grid0.N, win0_6.index t = ![0, 0])
theorem index_7 : ∀ t : Fin cfg0.N, win0_7.index t = ![t.val / 16, t.val % 4, t.val / 4 % 4] := (by decide +kernel : ∀ t : Fin grid0.N, win0_7.index t = ![t.val / 16, t.val % 4, t.val / 4 % 4])

/-- The batch and the head a point works on, the array row of its row `p`, and the array column of its column `j`. -/
def batch (t : Fin cfg0.N) : Fin 4 := ⟨t.val / 16, by have := point_lt t; omega⟩
def head (t : Fin cfg0.N) : Fin 4 := ⟨t.val / 4 % 4, by omega⟩
def row (t : Fin cfg0.N) (p : Fin 1024) : Fin 4096 := ⟨1024 * (t.val % 4) + p.val, by omega⟩
def col (t : Fin cfg0.N) (j : Fin 128) : Fin 512 := ⟨128 * (t.val / 4 % 4) + j.val, by omega⟩

/-- The number the queries are divided by. -/
def unit : EReal := Ideal.ofBits .f32 0x41000000#32 * Ideal.log (Ideal.ofBits .f32 0x40000000#32)

/-- The blocks the windows bring in, at an index. -/
theorem block_1 (c : Dev nD) (t : Fin cfg0.N) (p : Fin 1024) (j : Fin 128) : iblk m c 1 t (ix3 (0 : Fin 1) p j) = Ideal.div (m (c.tc.loc main_arg0) (ix3 (batch t) (row t p) (col t j))) unit := by
  have ht := point_lt t
  unfold batch row col unit
  blk_simp [iblk, V, index_1 t]
  entry_read
  pointwise
  refine congrArg (Ideal.div · _) ?_
  blk_ext [index_1 t]
theorem block_2 (c : Dev nD) (t : Fin cfg0.N) (p : Fin 256) (j : Fin 128) : iblk m c 2 t (ix3 (0 : Fin 1) p j) = m (c.tc.loc main_arg1) (ix3 (batch t) p (col t j)) := by
  have ht := point_lt t
  unfold batch col
  blk_simp [iblk, V, index_2 t]
  entry_read
  pointwise
  try blk_ext [index_2 t]
theorem block_3 (c : Dev nD) (t : Fin cfg0.N) (p : Fin 256) (j : Fin 128) : iblk m c 3 t (ix3 (0 : Fin 1) p j) = m (c.tc.loc main_arg2) (ix3 (batch t) p (col t j)) := by
  have ht := point_lt t
  unfold batch col
  blk_simp [iblk, V, index_3 t]
  entry_read
  pointwise
  try blk_ext [index_3 t]
theorem block_4 (c : Dev nD) (t : Fin cfg0.N) (p : Fin 4096) (j : Fin 128) : iblk m c 4 t (ix3 (0 : Fin 1) p j) = m (c.tc.loc main_arg3) (ix3 (batch t) p (col t j)) := by
  have ht := point_lt t
  unfold batch col
  blk_simp [iblk, V, index_4 t]
  entry_read
  pointwise
  try blk_ext [index_4 t]
theorem block_5 (c : Dev nD) (t : Fin cfg0.N) (p : Fin 4096) (j : Fin 128) : iblk m c 5 t (ix3 (0 : Fin 1) p j) = m (c.tc.loc main_arg4) (ix3 (batch t) p (col t j)) := by
  have ht := point_lt t
  unfold batch col
  blk_simp [iblk, V, index_5 t]
  entry_read
  pointwise
  try blk_ext [index_5 t]
theorem block_6 (c : Dev nD) (t : Fin cfg0.N) (j : Fin 128) : iblk m c 6 t (ix2 (0 : Fin 1) j) = m (c.tc.loc main_arg9) (ix2 (0 : Fin 1) j) := by
  have ht := point_lt t
  blk_simp [iblk, V, index_6 t]
  entry_read
  pointwise
  try blk_ext [index_6 t]

/-- The arrays before the four vectors are stacked. -/
abbrev before (c : Dev nD) : Valuation τ sig (Elt Ideal) := StableHlo.after ((hostOps0 (F := Ideal)).take 14) (fun b => m (c, b))

/-- The stack of the four vectors. -/
theorem stack_eq (c : Dev nD) : V m c main_v12 = concatenate S4x64 0 [⟨S1x64, before m c main_v8⟩, ⟨S1x64, before m c main_v9⟩, ⟨S1x64, before m c main_v10⟩, ⟨S1x64, before m c main_v11⟩] concatenates_S1x64_S1x64_S1x64_S1x64_S4x64_d0 := by
  refine (StableHlo.after_last_write [main_v13, main_v14, main_v15, main_v16, main_v17, main_v18, main_v19] (i := 14) rfl rfl (by decide) _).trans ?_
  exact StableHlo.nary_result ..

theorem block_0_0 (c : Dev nD) (t : Fin cfg0.N) (d : Fin 64) : iblk m c 0 t (ix2 (0 : Fin 4) d) = m (c.tc.loc main_arg5) (ix2 (0 : Fin 1) d) := by
  have hd := d.isLt
  have e : iblk m c 0 t (ix2 (0 : Fin 4) d) = V m c main_v12 (ix2 (0 : Fin 4) d) := by
    blk_simp [iblk, index_0 t]
    blk_ext [index_0 t]
  have e' : V m c main_v12 (ix2 (0 : Fin 4) d) = before m c main_v8 (ix2 (0 : Fin 1) d) := by
    rw [stack_eq]
    pointwise
  rw [e, e']
  unfold before
  simp only [List.take]
  entry_read
  pointwise
theorem block_0_1 (c : Dev nD) (t : Fin cfg0.N) (d : Fin 64) : iblk m c 0 t (ix2 (1 : Fin 4) d) = m (c.tc.loc main_arg6) (ix2 (0 : Fin 1) d) := by
  have hd := d.isLt
  have e : iblk m c 0 t (ix2 (1 : Fin 4) d) = V m c main_v12 (ix2 (1 : Fin 4) d) := by
    blk_simp [iblk, index_0 t]
    blk_ext [index_0 t]
  have e' : V m c main_v12 (ix2 (1 : Fin 4) d) = before m c main_v9 (ix2 (0 : Fin 1) d) := by
    rw [stack_eq]
    pointwise
  rw [e, e']
  unfold before
  simp only [List.take]
  entry_read
  pointwise
theorem block_0_2 (c : Dev nD) (t : Fin cfg0.N) (d : Fin 64) : iblk m c 0 t (ix2 (2 : Fin 4) d) = m (c.tc.loc main_arg7) (ix2 (0 : Fin 1) d) := by
  have hd := d.isLt
  have e : iblk m c 0 t (ix2 (2 : Fin 4) d) = V m c main_v12 (ix2 (2 : Fin 4) d) := by
    blk_simp [iblk, index_0 t]
    blk_ext [index_0 t]
  have e' : V m c main_v12 (ix2 (2 : Fin 4) d) = before m c main_v10 (ix2 (0 : Fin 1) d) := by
    rw [stack_eq]
    pointwise
  rw [e, e']
  unfold before
  simp only [List.take]
  entry_read
  pointwise
theorem block_0_3 (c : Dev nD) (t : Fin cfg0.N) (d : Fin 64) : iblk m c 0 t (ix2 (3 : Fin 4) d) = m (c.tc.loc main_arg8) (ix2 (0 : Fin 1) d) := by
  have hd := d.isLt
  have e : iblk m c 0 t (ix2 (3 : Fin 4) d) = V m c main_v12 (ix2 (3 : Fin 4) d) := by
    blk_simp [iblk, index_0 t]
    blk_ext [index_0 t]
  have e' : V m c main_v12 (ix2 (3 : Fin 4) d) = before m c main_v11 (ix2 (0 : Fin 1) d) := by
    rw [stack_eq]
    pointwise
  rw [e, e']
  unfold before
  simp only [List.take]
  entry_read
  pointwise

/-- Where the output's block lies. -/
theorem place_7 (t : Fin cfg0.N) (p : Fin 1024) (j : Fin 128) : ((View.whole main_v20).slice (win0_7.rect t)).emb (ix3 (0 : Fin 1) p j) = ix3 (batch t) (row t p) (col t j) := by
  have ht := point_lt t
  unfold batch row col
  blk_ext [index_7 t]

end Cert.Kernel4Ideal.Attn

end
-- ==== Proof.Attn.Reference.lean ====
/- The attention call's reference at an index. -/
module

public import proofs.«01_k».proof.Proof.Gen.Reference4Ideal.Read
public import proofs.«01_k».proof.Proof.Attn.Step
public import proofs.«01_k».proof.Proof.Layer.Attn

@[expose] public section

set_option maxRecDepth 16384

noncomputable section

namespace Cert.Reference4Ideal.Attn

open Idealize.ShloMosaic Idealize.ShloMosaic.TcCoe Idealize.ShloMosaic.Tactic
open Idealize.SL Idealize.SL.Sem
open Cert.Reference4Ideal Cert.Reference4Ideal.Read
open Cert.Attn

variable (x0 : S4x4096x512.Idx → EReal) (x1 x2 : S4x256x512.Idx → EReal) (x3 x4 : S4x4096x512.Idx → EReal) (x5 x6 x7 x8 : S1x64.Idx → EReal) (x9 : S1x128.Idx → EReal)
variable (VL : Fin 4 → Fin 4096 → Fin 512 → ℝ) (VC : Fin 4 → Fin 256 → Fin 512 → ℝ)

/-- The context's rows and the latents', joined. -/
theorem joined_apply (a : S4x256x512.Idx → EReal) (b : S4x4096x512.Idx → EReal) (n : Fin 4) (j : Fin 4352) (f : Fin 512) :
    val_main_v12 (F := Ideal) a b (ix3 n j f) = row (fun n j f => a (ix3 n j f)) (fun n j f => b (ix3 n j f)) n j.val f := by
  have hj := j.isLt
  pointwise [val_main_v12]
  unfold row
  by_cases h : j.val < 256
  · rw [dif_pos h, dif_pos h]
  · rw [dif_neg h, dif_neg h, dif_pos (by omega)]

/-- A joined row of real arrays. -/
theorem row_coe (a : S4x256x512.Idx → EReal) (b : S4x4096x512.Idx → EReal) (A : Fin 4 → Fin 256 → Fin 512 → ℝ) (B : Fin 4 → Fin 4096 → Fin 512 → ℝ)
    (ha : ∀ n j f, a (ix3 n j f) = (A n j f : EReal)) (hb : ∀ n j f, b (ix3 n j f) = (B n j f : EReal)) (n : Fin 4) (j : ℕ) (f : Fin 512) :
    row (fun n j f => a (ix3 n j f)) (fun n j f => b (ix3 n j f)) n j f = ((row A B n j f : ℝ) : EReal) := by
  unfold row
  split_ifs
  · exact ha _ _ _
  · exact hb _ _ _
  · rfl

/-- The base-2 scores of the reference's arguments. -/
abbrev scores (b : Fin 4) (t : Fin 4096) (h : Fin 4) (u : Fin 2) : ℕ → EReal :=
  score (fun n j f => x0 (ix3 n j f)) (fun n j f => x1 (ix3 n j f)) (fun n j f => x3 (ix3 n j f)) b t h u

/-- A score. -/
theorem score_eq (b h : Fin 4) (u : Fin 2) (t : Fin 4096) (j : Fin 4352) :
    val_main_v19 (F := Ideal) x0 x1 x3 (ix5 b h u t j) = scores x0 x1 x3 b t h u j.val * (Real.log 2 : EReal) := by
  have e8 : Ideal.ofBits .f32 0x3E000000#32 = ((1 / 8 : ℝ) : EReal) := by
    simp [Ideal.ofBits, Ideal.ieee]
    rw [← EReal.coe_mul]
    congr 1
    norm_num
  have hb := b.isLt
  have hh := h.isLt
  have hu := u.isLt
  have ht := t.isLt
  have hj := j.isLt
  rw [val_main_v19_apply, val_main_v17_apply, val_main_v18_apply, val_main_cst_2_apply]
  have e : ∀ d : Fin 64, val_main_v16 (F := Ideal) x0 (lidx_main_v17 (ix5 b h u t j) d) * val_main_v13 (F := Ideal) x1 x3 (ridx_main_v17 (ix5 b h u t j) d)
      = x0 (ix3 b t (halfCol h u d)) * row (fun n j f => x1 (ix3 n j f)) (fun n j f => x3 (ix3 n j f)) b j.val (halfCol h u d) := fun d => by
    have hd := d.isLt
    rw [val_main_v16_apply, val_main_v13_apply, ← joined_apply x1 x3]
    refine congr (congrArg HMul.hMul (congrArg x0 ?_)) (congrArg (val_main_v12 (F := Ideal) x1 x3) ?_)
    · refine funext fun a => Fin.ext ?_
      match a with
      | ⟨0, _⟩ => show ((((b.val * 4096 + t.val) * 4 + h.val) * 2 + u.val) * 64 + d.val) / 2097152 = b.val; omega
      | ⟨1, _⟩ => show ((((b.val * 4096 + t.val) * 4 + h.val) * 2 + u.val) * 64 + d.val) / 512 % 4096 = t.val; omega
      | ⟨2, _⟩ => show ((((b.val * 4096 + t.val) * 4 + h.val) * 2 + u.val) * 64 + d.val) % 512 = 128 * h.val + 64 * u.val + d.val; omega
    · refine funext fun a => Fin.ext ?_
      match a with
      | ⟨0, _⟩ => show ((((b.val * 4352 + j.val) * 4 + h.val) * 2 + u.val) * 64 + d.val) / 2228224 = b.val; omega
      | ⟨1, _⟩ => show ((((b.val * 4352 + j.val) * 4 + h.val) * 2 + u.val) * 64 + d.val) / 512 % 4352 = j.val; omega
      | ⟨2, _⟩ => show ((((b.val * 4352 + j.val) * 4 + h.val) * 2 + u.val) * 64 + d.val) % 512 = 128 * h.val + 64 * u.val + d.val; omega
  rw [Finset.sum_congr rfl fun d _ => e d]
  show _ * Ideal.ofBits .f32 0x3E000000#32 = _
  rw [e8]
  exact score_base (fun n j f => x0 (ix3 n j f)) (fun n j f => x1 (ix3 n j f)) (fun n j f => x3 (ix3 n j f)) b t h u j.val

/-- A row's maximum. -/
theorem max_eq (b h : Fin 4) (u : Fin 2) (t : Fin 4096) : val_main_v22 (F := Ideal) x0 x1 x3 (ix4 b h u t) = peak (scores x0 x1 x3 b t h u) 4352 * (Real.log 2 : EReal) := by
  have hr : S4x4x2x4096x4352.Reduces [4] S4x4x2x4096 := by decide
  have hv : val_main_v20 (F := Ideal) x0 x1 x3 (ix4 b h u t) = peak (scores x0 x1 x3 b t h u) 4352 * (Real.log 2 : EReal) := by
    have gen : ∀ (y : FVec Ideal S4x4x2x4096x4352 .f32) (hr' : S4x4x2x4096x4352.ReducesTo [4] S4x4x2x4096) (hu : 0 < S_.numel), Host.reduce (FloatOps.maximumf (F := Ideal) (φ := .f32)) y (constant (F := Ideal) S_ .f32 0xFF800000#32) hr' hu
        = multiReduction (F := Ideal) (φ := .f32) .maximumf [4] S4x4x2x4096 y 0xFF800000#32 hr (.inl rfl) rfl :=
      fun y hr' hu => hostReduce_maximumf_eq_multiReduction (F := Ideal) (φ := .f32) y _ hr' hu hr _ _
    refine (congrFun (gen (val_main_v19 (F := Ideal) x0 x1 x3) _ _) _).trans ((Ideal.multiReduction_maximumf_single (φ := .f32) ..).trans (Eq.trans ?_ (peak_base (scores x0 x1 x3 b t h u) 4352)))
    have e : ∀ f : Fin 4352 → EReal, Finset.univ.fold max (Ideal.ofBits .f32 0xFF800000#32) f = Finset.univ.sup f := fun f => by
      rw [Cert.Kernel4Ideal.Attn.neg_inf]
      rfl
    refine Eq.trans ?_ (e _)
    refine congrArg (fun f => Finset.univ.fold max (Ideal.ofBits .f32 0xFF800000#32) f) (funext fun j => ?_)
    refine Eq.trans ?_ (score_eq x0 x1 x3 b h u t j)
    exact congrArg (val_main_v19 (F := Ideal) x0 x1 x3) (funext fun a => Fin.ext (by match a with | ⟨0, _⟩ => rfl | ⟨1, _⟩ => rfl | ⟨2, _⟩ => rfl | ⟨3, _⟩ => rfl | ⟨4, _⟩ => rfl))
  rw [val_main_v22_apply, val_main_v21_apply, val_main_cst_4_apply, hv]
  show max (Ideal.ofBits .f32 0xFF800000#32) _ = _
  rw [Cert.Kernel4Ideal.Attn.neg_inf]
  exact max_eq_right bot_le

/-- A softmax weight. -/
theorem weight_eq (b h : Fin 4) (u : Fin 2) (t : Fin 4096) (j : Fin 4352) :
    val_main_v30 (F := Ideal) x0 x1 x3 (ix5 b h u t j) = soft (scores x0 x1 x3 b t h u) j.val := by
  have he : ∀ j : Fin 4352, val_main_v26 (F := Ideal) x0 x1 x3 (ix5 b h u t j) = (wt (scores x0 x1 x3 b t h u j.val) (peak (scores x0 x1 x3 b t h u) 4352) : EReal) := fun j => by
    rw [val_main_v26_apply, val_main_v25_apply, score_eq, val_main_v24_apply, val_main_v23_apply]
    have ei : idx_main_v23 (idx_main_v24 (ix5 b h u t j)) = ix4 b h u t := funext fun a => Fin.ext (by match a with | ⟨0, _⟩ => rfl | ⟨1, _⟩ => rfl | ⟨2, _⟩ => rfl | ⟨3, _⟩ => rfl)
    rw [ei, max_eq, ← wt_coe (le_peak _ j.isLt), ← exp_base]
    rfl
  have hd : val_main_v27 (F := Ideal) x0 x1 x3 (ix4 b h u t) = (total (scores x0 x1 x3 b t h u) : EReal) := by
    unfold total
    rw [val_main_v27_apply, val_main_cst_5_apply, Finset.sum_range, ← coe_sum]
    show Ideal.ofBits .f32 0x00000000#32 + _ = _
    rw [show Ideal.ofBits .f32 0x00000000#32 = 0 by simp [Ideal.ofBits, Ideal.ieee], zero_add]
    refine Finset.sum_congr rfl fun j _ => (Eq.trans ?_ (he j))
    exact congrArg (val_main_v26 (F := Ideal) x0 x1 x3) (funext fun a => Fin.ext (by match a with | ⟨0, _⟩ => rfl | ⟨1, _⟩ => rfl | ⟨2, _⟩ => rfl | ⟨3, _⟩ => rfl | ⟨4, _⟩ => rfl))
  rw [val_main_v30_apply, he, val_main_v29_apply, val_main_v28_apply]
  have ei : idx_main_v28 (idx_main_v29 (ix5 b h u t j)) = ix4 b h u t := funext fun a => Fin.ext (by match a with | ⟨0, _⟩ => rfl | ⟨1, _⟩ => rfl | ⟨2, _⟩ => rfl | ⟨3, _⟩ => rfl)
  rw [ei, hd]
  rfl

/-- The weighted mean under the difference of the two softmaxes' weights. -/
theorem diff_eq (w : ℝ) (h2 : ∀ n j f, x2 (ix3 n j f) = (VC n j f : EReal)) (h4 : ∀ n j f, x4 (ix3 n j f) = (VL n j f : EReal))
    (hw : ∀ i, val_main_v11 (F := Ideal) x5 x6 x7 x8 i = (w : EReal))
    (b h : Fin 4) (t : Fin 4096) (c : Fin 128) :
    val_main_v39 (F := Ideal) x0 x1 x2 x3 x4 x5 x6 x7 x8 (ix4 b t h c)
      = ∑ j ∈ Finset.range 4352, ((row VC VL b j (headCol h c) : ℝ) : EReal) * (soft (scores x0 x1 x3 b t h 0) j - (w : EReal) * soft (scores x0 x1 x3 b t h 1) j) := by
  have hb := b.isLt
  have hh := h.isLt
  have ht := t.isLt
  have hc := c.isLt
  rw [val_main_v39_apply, val_main_v38_apply, Finset.sum_range]
  refine Finset.sum_congr rfl fun j _ => ?_
  have hj := j.isLt
  rw [val_main_v15_apply, val_main_v37_apply, val_main_v36_apply, val_main_v35_apply, hw, val_main_v32_apply, val_main_v31_apply, val_main_v34_apply, val_main_v33_apply,
    ← weight_eq, ← weight_eq, ← row_coe x2 x4 VC VL h2 h4, ← joined_apply]
  refine congr (congrArg HMul.hMul (congrArg (val_main_v12 (F := Ideal) x2 x4) ?_)) ?_
  · refine funext fun a => Fin.ext ?_
    match a with
    | ⟨0, _⟩ => show (((b.val * 4352 + j.val) * 4 + h.val) * 128 + c.val) / 2228224 = b.val; omega
    | ⟨1, _⟩ => show (((b.val * 4352 + j.val) * 4 + h.val) * 128 + c.val) / 512 % 4352 = j.val; omega
    | ⟨2, _⟩ => show (((b.val * 4352 + j.val) * 4 + h.val) * 128 + c.val) % 512 = 128 * h.val + c.val; omega
  · refine congr (congrArg HSub.hSub (congrArg (val_main_v30 (F := Ideal) x0 x1 x3) ?_)) (congrArg (HMul.hMul (w : EReal)) (congrArg (val_main_v30 (F := Ideal) x0 x1 x3) ?_))
    · refine funext fun a => Fin.ext ?_
      match a with
      | ⟨0, _⟩ => show (((b.val * 4 + h.val) * 4096 + t.val) * 4352 + j.val) / 71303168 = b.val; omega
      | ⟨1, _⟩ => show (((b.val * 4 + h.val) * 4096 + t.val) * 4352 + j.val) / 17825792 % 4 = h.val; omega
      | ⟨2, _⟩ => rfl
      | ⟨3, _⟩ => show (((b.val * 4 + h.val) * 4096 + t.val) * 4352 + j.val) / 4352 % 4096 = t.val; omega
      | ⟨4, _⟩ => show (((b.val * 4 + h.val) * 4096 + t.val) * 4352 + j.val) % 4352 = j.val; omega
    · refine funext fun a => Fin.ext ?_
      match a with
      | ⟨0, _⟩ => show (((b.val * 4 + h.val) * 4096 + t.val) * 4352 + j.val) / 71303168 = b.val; omega
      | ⟨1, _⟩ => show (((b.val * 4 + h.val) * 4096 + t.val) * 4352 + j.val) / 17825792 % 4 = h.val; omega
      | ⟨2, _⟩ => rfl
      | ⟨3, _⟩ => show (((b.val * 4 + h.val) * 4096 + t.val) * 4352 + j.val) / 4352 % 4096 = t.val; omega
      | ⟨4, _⟩ => show (((b.val * 4 + h.val) * 4096 + t.val) * 4352 + j.val) % 4352 = j.val; omega

end Cert.Reference4Ideal.Attn

end
-- ==== Proof.Attn.Norm.lean ====
/- The attention reference's second weight and its normalisation. -/
module

public import proofs.«01_k».proof.Proof.Gen.Reference4Ideal.Read
public import proofs.«01_k».proof.Proof.Attn.Step
public import proofs.«01_k».proof.Proof.Layer.Attn

@[expose] public section

set_option maxRecDepth 16384

noncomputable section

namespace Cert.Reference4Ideal.Attn

open Idealize.ShloMosaic Idealize.ShloMosaic.TcCoe Idealize.ShloMosaic.Tactic
open Idealize.SL Idealize.SL.Sem
open Cert.Reference4Ideal Cert.Reference4Ideal.Read
open Cert.Attn

variable (x0 : S4x4096x512.Idx → EReal) (x1 x2 : S4x256x512.Idx → EReal) (x3 x4 : S4x4096x512.Idx → EReal) (x5 x6 x7 x8 : S1x64.Idx → EReal) (x9 : S1x128.Idx → EReal)

/-- The zero a sum starts from. -/
theorem zero_word : Ideal.ofBits .f32 0x00000000#32 = 0 := by simp [Ideal.ofBits, Ideal.ieee]

/-- The weight of the second softmax. -/
theorem lam_eq (i : S_.Idx) : val_main_v11 (F := Ideal) x5 x6 x7 x8 i = lam (fun d => x5 (ix2 (0 : Fin 1) d)) (fun d => x6 (ix2 (0 : Fin 1) d)) (fun d => x7 (ix2 (0 : Fin 1) d)) (fun d => x8 (ix2 (0 : Fin 1) d)) := by
  have es : ∀ (a : S1x64.Idx → EReal) (d : Fin 64), a (idx_main_v0 (ix1 d)) = a (ix2 (0 : Fin 1) d) := fun a d => by
    refine congrArg a (funext fun x => Fin.ext ?_)
    match x with
    | ⟨0, _⟩ => rfl
    | ⟨1, _⟩ => exact Nat.mod_eq_of_lt d.isLt
  have e3 : val_main_v3 (F := Ideal) x5 x6 i = ∑ d : Fin 64, x5 (ix2 (0 : Fin 1) d) * x6 (ix2 (0 : Fin 1) d) := by
    rw [val_main_v3_apply, val_main_cst_apply, sum_idx1]
    show Ideal.ofBits .f32 0x00000000#32 + _ = _
    rw [zero_word, zero_add]
    refine Finset.sum_congr rfl fun d _ => ?_
    rw [val_main_v2_apply, val_main_v0_apply, val_main_v1_apply]
    exact congr (congrArg HMul.hMul (es x5 d)) (es x6 d)
  have e8 : val_main_v8 (F := Ideal) x7 x8 i = ∑ d : Fin 64, x7 (ix2 (0 : Fin 1) d) * x8 (ix2 (0 : Fin 1) d) := by
    rw [val_main_v8_apply, val_main_cst_0_apply, sum_idx1]
    show Ideal.ofBits .f32 0x00000000#32 + _ = _
    rw [zero_word, zero_add]
    refine Finset.sum_congr rfl fun d _ => ?_
    rw [val_main_v7_apply, val_main_v5_apply, val_main_v6_apply]
    exact congr (congrArg HMul.hMul (es x7 d)) (es x8 d)
  rw [val_main_v11_apply, val_main_v10_apply, val_main_v4_apply, val_main_v9_apply, val_main_cst_1_apply, e3, e8]
  rfl

/-- The result, from the difference of the weighted means. -/
theorem normed_eq (b h : Fin 4) (t : Fin 4096) (c : Fin 128) :
    val_main_v57 (F := Ideal) x0 x1 x2 x3 x4 x5 x6 x7 x8 x9 (ix3 b t (headCol h c))
      = normed (fun c => val_main_v39 (F := Ideal) x0 x1 x2 x3 x4 x5 x6 x7 x8 (ix4 b t h c)) (fun c => x9 (ix2 (0 : Fin 1) c)) c := by
  have hb := b.isLt
  have hh := h.isLt
  have ht := t.isLt
  have hc := c.isLt
  have e56 : idx_main_v56 (ix3 b t (headCol h c)) = ix4 b t h c := by
    refine funext fun a => Fin.ext ?_
    match a with
    | ⟨0, _⟩ => show ((b.val * 4096 + t.val) * 512 + (128 * h.val + c.val)) / 2097152 = b.val; omega
    | ⟨1, _⟩ => show ((b.val * 4096 + t.val) * 512 + (128 * h.val + c.val)) / 512 % 4096 = t.val; omega
    | ⟨2, _⟩ => show ((b.val * 4096 + t.val) * 512 + (128 * h.val + c.val)) / 128 % 4 = h.val; omega
    | ⟨3, _⟩ => show ((b.val * 4096 + t.val) * 512 + (128 * h.val + c.val)) % 128 = c.val; omega
  have e42 : ∀ l : Fin 128, idx_main_v42 (idx_main_v43 (idx_main_v49 (ix4 b t h c))) l = ix4 b t h l := fun l =>
    funext fun a => Fin.ext (by match a with | ⟨0, _⟩ => rfl | ⟨1, _⟩ => rfl | ⟨2, _⟩ => rfl | ⟨3, _⟩ => rfl)
  have e40 : idx_main_v40 (idx_main_v51 (idx_main_v52 (ix4 b t h c))) = ix2 (0 : Fin 1) c := by
    refine funext fun a => Fin.ext ?_
    match a with
    | ⟨0, _⟩ => rfl
    | ⟨1, _⟩ => exact Nat.mod_eq_of_lt hc
  rw [val_main_v57_apply, val_main_v56_apply, e56, val_main_v55_apply, val_main_v54_apply, val_main_cst_9_apply, val_main_v53_apply, val_main_v52_apply, val_main_v51_apply, val_main_v40_apply, e40,
    val_main_v50_apply, val_main_v49_apply, val_main_v48_apply, val_main_v47_apply, val_main_v46_apply, val_main_cst_8_apply, val_main_v45_apply, val_main_v44_apply, val_main_cst_7_apply, val_main_v43_apply, val_main_v42_apply, val_main_cst_6_apply]
  have es : ∑ l : Fin 128, val_main_v41 (F := Ideal) x0 x1 x2 x3 x4 x5 x6 x7 x8 (idx_main_v42 (idx_main_v43 (idx_main_v49 (ix4 b t h c))) l)
      = ∑ l : Fin 128, val_main_v39 (F := Ideal) x0 x1 x2 x3 x4 x5 x6 x7 x8 (ix4 b t h l) * val_main_v39 (F := Ideal) x0 x1 x2 x3 x4 x5 x6 x7 x8 (ix4 b t h l) :=
    Finset.sum_congr rfl fun l _ => by rw [e42, val_main_v41_apply]; rfl
  rw [es]
  unfold normed
  generalize val_main_v39 (F := Ideal) x0 x1 x2 x3 x4 x5 x6 x7 x8 = y
  have ez : FloatOps.ofBits (F := Ideal) .f32 0x00000000#32 + ∑ l : Fin 128, y (ix4 b t h l) * y (ix4 b t h l) = ∑ l : Fin 128, y (ix4 b t h l) * y (ix4 b t h l) := by
    show Ideal.ofBits .f32 0x00000000#32 + _ = _
    rw [zero_word, zero_add]
  rw [ez]
  generalize ∑ l : Fin 128, y (ix4 b t h l) * y (ix4 b t h l) = s
  rfl

end Cert.Reference4Ideal.Attn

end
-- ==== Proof.Attn.Pre.lean ====
/- What the attention call's precondition says: the values and the weight of the second softmax are real. -/
module

public import proofs.«01_k».proof.Pre_finite4
public import proofs.«01_k».proof.Proof.Attn.Norm
public import Idealize.ShloMosaic.PureOps.Ideal
public import Idealize.ShloMosaic.Lib.ReduceAll
public import Idealize.ShloMosaic.Lib.Pointwise

@[expose] public section

noncomputable section

namespace Cert.Pre_finite4

open Idealize.ShloMosaic

/-- The side conditions the predicate's operations take. -/
theorem facts : Facts where
  shapeCasts_S1x64_S64 := by decide
  reducesTo_S64_S_d0 := by decide
  h_S_ := by decide
  bcast_S_S4x256x512 := by decide
  reducesTo_S4x256x512_S_d0_1_2 := by decide
  bcast_S_S4x4096x512 := by decide
  reducesTo_S4x4096x512_S_d0_1_2 := by decide

instance : Subsingleton S_.Idx := ⟨fun i j => funext fun a => a.elim0⟩

theorem inf_word : Ideal.ofBits .f32 0x7F800000#32 = ⊤ := by simp [Ideal.ofBits, Ideal.ieee]

/-- A number whose absolute value is below infinity is real. -/
theorem real_of_lt (x : EReal) (h : max x (-x) < ⊤) : ∃ r : ℝ, x = r := by
  refine ⟨x.toReal, (EReal.coe_toReal ?_ ?_).symm⟩
  · rintro rfl
    exact absurd h (by simp)
  · rintro rfl
    exact absurd h (by simp)

/-- An array all of whose entries pass the test has real entries. -/
theorem all_real {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) : ∃ r : ℝ, x i = r := by
  have h : BitVec.ofBool (decide (max (x i) (-(x i)) < Ideal.ofBits .f32 0x7F800000#32)) = 1#1 := Host.reduce_andi_all _ _ _ _ j e i
  rw [inf_word] at h
  refine real_of_lt _ (of_decide_eq_true ?_)
  revert h
  generalize decide (max (x i) (-(x i)) < ⊤) = b
  revert b
  decide

theorem and_split {a b : IVec S_ 1} {j : S_.Idx} (h : andi a b j = 1#1) : a j = 1#1 ∧ b j = 1#1 := IntOp.andi_eq_one.1 h

/-- A scalar that passes the test is real. -/
theorem scalar_real (x : FVec Ideal S_ .f32) (j : S_.Idx) (e : cmpf .olt (Host.absf x) (constant S_ .f32 0x7F800000#32) j = 1#1) : ∃ r : ℝ, x j = r := by
  have h : BitVec.ofBool (decide (max (x j) (-(x j)) < Ideal.ofBits .f32 0x7F800000#32)) = 1#1 := e
  rw [inf_word] at h
  refine real_of_lt _ (of_decide_eq_true ?_)
  revert h
  generalize decide (max (x j) (-(x j)) < ⊤) = b
  revert b
  decide

/-- The precondition's meaning. -/
theorem real [Facts] (x0 : FVec Ideal S4x4096x512 .f32) (x1 x2 : FVec Ideal S4x256x512 .f32) (x3 x4 : FVec Ideal S4x4096x512 .f32) (x5 x6 x7 x8 : FVec Ideal S1x64 .f32) (x9 : FVec Ideal S1x128 .f32)
    (h : fn (F := Ideal) x0 x1 x2 x3 x4 x5 x6 x7 x8 x9 = fun _ => 1#1) :
    (∀ i, ∃ r : ℝ, x2 i = r) ∧ (∀ i, ∃ r : ℝ, x4 i = r)
      ∧ ∃ r : ℝ, Cert.Attn.lam (fun d => x5 (ix2 (0 : Fin 1) d)) (fun d => x6 (ix2 (0 : Fin 1) d)) (fun d => x7 (ix2 (0 : Fin 1) d)) (fun d => x8 (ix2 (0 : Fin 1) d)) = r := by
  have j : S_.Idx := fun a => a.elim0
  have h2 := congrFun h j
  unfold fn fn_part1 at h2
  obtain ⟨h1, e2⟩ := and_split h2
  obtain ⟨e0, e1⟩ := and_split h1
  refine ⟨all_real _ _ _ _ j e0, all_real _ _ _ _ j e1, ?_⟩
  rw [← Cert.Reference4Ideal.Attn.lam_eq x5 x6 x7 x8 j]
  exact scalar_real _ j e2

end Cert.Pre_finite4

end
-- ==== Proof.Attn.Value.lean ====
/- The attention call's result: block by block it is the reference's. -/
module

public import proofs.«01_k».proof.Proof.Attn.Point
public import proofs.«01_k».proof.Proof.Attn.Blocks
public import proofs.«01_k».proof.Proof.Attn.Reference
public import proofs.«01_k».proof.Proof.Attn.Norm
public import proofs.«01_k».proof.Proof.Attn.Pre
public import Idealize.ShloMosaic.Lib.WholeRead
public import Idealize.ShloMosaic.Lib.ValueLayout

@[expose] public section

set_option maxRecDepth 16384

noncomputable section

namespace Cert.Kernel4Ideal.Attn

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen
open Cert.Attn (headCol halfCol)

/-- The number the queries are divided by. -/
theorem unit_eq : unit = ((8 * Real.log 2 : ℝ) : EReal) := by
  have e8 : Ideal.ofBits .f32 0x41000000#32 = ((8 : ℝ) : EReal) := by
    simp [Ideal.ofBits, Ideal.ieee]
    rw [← EReal.coe_mul]
    congr 1
    norm_num
  have e2 : Ideal.ofBits .f32 0x40000000#32 = ((2 : ℝ) : EReal) := by
    simp [Ideal.ofBits, Ideal.ieee]
    rw [← EReal.coe_mul]
    congr 1
    norm_num
  unfold unit
  rw [e8, e2, Ideal.log_coe, if_neg (by norm_num), ← EReal.coe_mul]

/-- The context's rows and the latents' rows, read in the joined array. -/
theorem row_context {α : Type} [Zero α] (A : Fin 4 → Fin 256 → Fin 512 → α) (B : Fin 4 → Fin 4096 → Fin 512 → α) (b : Fin 4) (j : Fin 256) (f : Fin 512) : Cert.Attn.row A B b j.val f = A b j f := by
  unfold Cert.Attn.row
  rw [dif_pos j.isLt]
theorem row_latent {α : Type} [Zero α] (A : Fin 4 → Fin 256 → Fin 512 → α) (B : Fin 4 → Fin 4096 → Fin 512 → α) (b : Fin 4) (l : Fin 4096) (f : Fin 512) : Cert.Attn.row A B b (256 + l.val) f = B b l f := by
  have hl := l.isLt
  unfold Cert.Attn.row
  rw [dif_neg (by omega), dif_pos (by omega)]
  exact congrArg (fun l => B b l f) (Fin.ext (by show 256 + l.val - 256 = l.val; omega))

variable [Cert.Pre_finite4.Facts] (m : (ℓ : Loc nD τ sig) → Buf (Elt Ideal) ℓ) (ρ : Dev nD → PrngReg)

/-- The reference's result for a device's arguments. -/
abbrev result (c : Dev nD) : S4x4096x512.Idx → EReal := Cert.Reference4Ideal.Read.val_main_v57 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))

/-- An entry a point stores is the reference's. -/
theorem stored_eq (c : Dev nD) (t : Fin cfg0.N)
    (h : Cert.Pre_finite4.fn (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) = fun _ => 1#1)
    (r : Fin 1024) (p : Fin 128) :
    k0_pay1 (acc8 (iblk m c 0 t) (iblk m c 1 t) (iblk m c 2 t) (iblk m c 3 t) (iblk m c 4 t) (iblk m c 5 t) (iblk m c 6 t)) (k0_pay53 (View.ld (iblk m c 0 t) r0_18)) (k0_pay54 (View.ld (iblk m c 0 t) r0_18)) (View.ld (iblk m c 6 t) r0_19) (ix3 (0 : Fin 1) r p)
      = result m c (ix3 (batch t) (row t r) (headCol (head t) p)) := by
  obtain ⟨h2, h4, w, hw⟩ := Cert.Pre_finite4.real _ _ _ _ _ _ _ _ _ _ h
  choose VC' h2 using h2
  choose VL' h4 using h4
  let VC : Fin 4 → Fin 256 → Fin 512 → ℝ := fun n j f => VC' (ix3 n j f)
  let VL : Fin 4 → Fin 4096 → Fin 512 → ℝ := fun n j f => VL' (ix3 n j f)
  let Q : Fin 4 → Fin 4096 → Fin 512 → EReal := fun n j f => m (c.tc.loc main_arg0) (ix3 n j f)
  let KC : Fin 4 → Fin 256 → Fin 512 → EReal := fun n j f => m (c.tc.loc main_arg1) (ix3 n j f)
  let KL : Fin 4 → Fin 4096 → Fin 512 → EReal := fun n j f => m (c.tc.loc main_arg3) (ix3 n j f)
  have hl : ∀ (u : Fin 4) (d : Fin 64), (View.ld (iblk m c 0 t) r0_18 : Vec Ideal S4x64 .f32) (ix2 u d) = iblk m c 0 t (ix2 u d) := fun u d =>
    View.ld_unit_apply_of _ _ _ _ _ (ix2 u d) (fun a => match a with | ⟨0, _⟩ => (Nat.zero_add _).symm | ⟨1, _⟩ => (Nat.zero_add _).symm)
  have hg : ∀ d : Fin 128, (View.ld (iblk m c 6 t) r0_19 : Vec Ideal S1x128 .f32) (ix2 (0 : Fin 1) d) = m (c.tc.loc main_arg9) (ix2 (0 : Fin 1) d) := fun d =>
    (View.ld_unit_apply_of _ _ _ _ _ (ix2 (0 : Fin 1) d) (fun a => match a with | ⟨0, _⟩ => rfl | ⟨1, _⟩ => (Nat.zero_add _).symm)).trans (block_6 m c t d)
  have hmean : ∀ (u : Fin 2) (p : Fin 128),
      Ideal.div (acc8 (iblk m c 0 t) (iblk m c 1 t) (iblk m c 2 t) (iblk m c 3 t) (iblk m c 4 t) (iblk m c 5 t) (iblk m c 6 t) (ix2 (stackRow u r) (⟨p.val, by omega⟩ : Fin 256)))
          (acc8 (iblk m c 0 t) (iblk m c 1 t) (iblk m c 2 t) (iblk m c 3 t) (iblk m c 4 t) (iblk m c 5 t) (iblk m c 6 t) (ix2 (stackRow u r) (⟨128 + p.val, by omega⟩ : Fin 256)))
        = Cert.Attn.mean (Cert.Attn.score Q KC KL (batch t) (row t r) (head t) u) (fun j => Cert.Attn.row VC VL (batch t) j (headCol (head t) p)) := fun u p => by
    refine (point_mean (iblk m c 0 t) (iblk m c 1 t) (iblk m c 2 t) (iblk m c 3 t) (iblk m c 4 t) (iblk m c 5 t) (iblk m c 6 t)
      (fun d => Q (batch t) (row t r) (headCol (head t) d) * ((1 / (8 * Real.log 2) : ℝ) : EReal)) (fun j d => Cert.Attn.row KC KL (batch t) j (headCol (head t) d)) (fun j d => Cert.Attn.row VC VL (batch t) j (headCol (head t) d)) r ?_ ?_ ?_ ?_ ?_ u p).trans ?_
    · intro d
      rw [block_1, unit_eq, Ideal.div_coe (by have := Real.log_pos one_lt_two; positivity)]
      rfl
    · intro j d
      rw [block_2, row_context]
      rfl
    · intro j d
      rw [block_3, row_context]
      exact h2 _
    · intro l d
      rw [block_4, row_latent]
      rfl
    · intro l d
      rw [block_5, row_latent]
      exact h4 _
    · have e : ∀ d, headCol (head t) (half u d) = halfCol (head t) u d := fun d => Fin.ext (by show 128 * (head t).val + (64 * u.val + d.val) = 128 * (head t).val + 64 * u.val + d.val; omega)
      simp only [e]
      rfl
  have r0 : stackRow 0 r = (⟨r.val, by omega⟩ : Fin 2048) := Fin.ext (by show 1024 * 0 + r.val = r.val; omega)
  have r1 : stackRow 1 r = (⟨1024 + r.val, by omega⟩ : Fin 2048) := Fin.ext (by show 1024 * 1 + r.val = 1024 + r.val; omega)
  refine (pay1_apply _ _ _ r p).trans (Eq.trans ?_ (Cert.Reference4Ideal.Attn.normed_eq _ _ _ _ _ _ _ _ _ _ (batch t) (head t) (row t r) p).symm)
  refine (congr (congr (congrArg Cert.Attn.normed (funext fun p => ?_)) (funext hg)) rfl).trans
    ((Cert.Attn.normed_diff (Cert.Attn.score Q KC KL (batch t) (row t r) (head t) 0) (Cert.Attn.score Q KC KL (batch t) (row t r) (head t) 1) (fun j p => Cert.Attn.row VC VL (batch t) j (headCol (head t) p)) w _ p).trans
      (congr (congr (congrArg Cert.Attn.normed (funext fun p => ?_)) rfl) rfl))
  · rw [← hmean 0, ← hmean 1, ← hw]
    simp only [hl, block_0_0, block_0_1, block_0_2, block_0_3]
    rw [r0, r1]
  · exact (Cert.Reference4Ideal.Attn.diff_eq _ _ _ _ _ _ _ _ _ VL VC w (fun n j f => h2 _) (fun n j f => h4 _) (fun i => (Cert.Reference4Ideal.Attn.lam_eq _ _ _ _ i).trans hw) (batch t) (head t) (row t r) p).symm

/-- What the points store is the reference's result. -/
theorem final_7 (c : Dev nD)
    (h : Cert.Pre_finite4.fn (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) = fun _ => 1#1) :
    (dats m 0 c).arrAt 7 cfg0.N = result m c := by
  refine (dats m 0 c).arrAt_eq_of_covers 7 _ (by decide +kernel) fun t hf y => ?_
  blk_simp
  rw [after0_7, out_eq]
  idx_vars y
  obtain rfl : y0 = 0 := Subsingleton.elim _ _
  have hi : (ix3 (0 : Fin 1) y1 y2 : S1x1024x128.Idx) = r0_0.emb (ix3 (0 : Fin 1) y1 y2) := by
    refine funext fun a => Fin.ext ?_
    match a with
    | ⟨0, _⟩ => rfl
    | ⟨1, _⟩ => show y1.val = 0 + 1 * y1.val; omega
    | ⟨2, _⟩ => show y2.val = 0 + 1 * y2.val; omega
  rw [place_7]
  refine Eq.trans ?_ (stored_eq m c t h y1 y2)
  conv_lhs => rw [hi]
  exact View.canon_cons_emb ..

/-- The run, with the result the reference's. -/
theorem run_value (h : ∀ c : Dev nD, Cert.Pre_finite4.fn (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) = fun _ => 1#1) :
    θ_run defs (onTc (τ := τ) (main (F := Ideal))) ⟨m, fun _ => 0, ρ⟩ (fun r => ∀ c : Dev nD,
      r.2.mem ((c.tc : Thread nD τ).loc main_v20) = result m c) :=
  (θ_run defs _ _).mono (fun _ hr c => ((hr c).1 7).trans (final_7 m c (h c))) (run_main m ρ)

end Cert.Kernel4Ideal.Attn

end
-- ==== Proof.Layer.Silu.lean ====
/- The silu of a number, and the two ways of writing it. -/
module

public import Idealize.ShloMosaic.PureOps.Ideal
public import Idealize.ShloMosaic.PureOps.Ideal.Laws

@[expose] public section

set_option maxRecDepth 16384

noncomputable section

namespace Cert.Silu

open Idealize.ShloMosaic

/-- A number times its logistic. -/
def silu (x : EReal) : EReal := x * Ideal.div 1 (1 + Ideal.exp (-x))

/-- Below infinity a number's silu is real, and is the number over one plus the exponential of its negative. -/
theorem div_eq (x : EReal) (h : x ≠ ⊤) : Ideal.div x (1 + Ideal.exp (0 - x)) = silu x ∧ ∃ s : ℝ, silu x = s := by
  unfold silu
  rw [zero_sub]
  induction x with
  | top => exact absurd rfl h
  | bot =>
    have e : (1 : EReal) + Ideal.exp (-⊥) = ⊤ := by rw [EReal.neg_bot]; rfl
    have z : ∀ y : EReal, Ideal.div y ⊤ = 0 := fun y => by
      unfold Ideal.div
      rw [if_neg EReal.top_ne_zero, EReal.inv_top, mul_zero]
    rw [e, z, z, mul_zero]
    exact ⟨rfl, 0, rfl⟩
  | coe r =>
    have hpos : (1 + Real.exp (-r)) ≠ 0 := by have := Real.exp_pos (-r); positivity
    have e : (1 : EReal) + Ideal.exp (-(r : EReal)) = ((1 + Real.exp (-r) : ℝ) : EReal) := by
      rw [← EReal.coe_neg, Ideal.exp_coe, EReal.coe_add, EReal.coe_one]
    rw [e, Ideal.div_coe hpos, Ideal.div_coe hpos, one_mul]
    exact ⟨rfl, _, (EReal.coe_mul _ _).symm⟩

/-- A real number less itself is zero. -/
theorem sub_self_coe (r : ℝ) : (r : EReal) - r = 0 := by
  rw [← EReal.coe_sub, sub_self, EReal.coe_zero]

/-- A product, with the multiple of the second factor less itself added: at minus infinity the same infinity is added twice. -/
theorem mul_add_rest (s : ℝ) (w : EReal) (h : w ≠ ⊤) : (s : EReal) * w + s * (w - w) = s * w := by
  induction w with
  | top => exact absurd rfl h
  | bot =>
    have e : (⊥ : EReal) - ⊥ = ⊥ := by rw [sub_eq_add_neg, EReal.bot_add]
    rw [e]
    rcases lt_trichotomy s 0 with hs | rfl | hs
    · rw [EReal.coe_mul_bot_of_neg hs]; rfl
    · simp
    · rw [EReal.coe_mul_bot_of_pos hs]; rfl
  | coe r => rw [sub_self_coe, mul_zero, add_zero]

end Cert.Silu

end
-- ==== Proof.Mod.Reference.lean ====
/- The modulation at an index, and the reference there. -/
module

public import proofs.«01_k».proof.Proof.Gen.Reference5Ideal.Read
public import proofs.«01_k».proof.Proof.Layer.Silu
public import Idealize.ShloMosaic.Lib.Pointwise

@[expose] public section

set_option maxRecDepth 16384

noncomputable section

namespace Cert.Reference5Ideal.Mod

open Idealize.ShloMosaic Idealize.ShloMosaic.TcCoe Idealize.ShloMosaic.Tactic
open Cert.Reference5Ideal Cert.Reference5Ideal.Read

/-- Layer `i`'s modulation of row `n`, column `j`. -/
def entry (cv : S8x1024.Idx → EReal) (w : S2x1024x6144.Idx → EReal) (b : S2x6144.Idx → EReal) (i : Fin 2) (n : Fin 8) (j : Fin 6144) : EReal :=
  (∑ k : Fin 1024, Cert.Silu.silu (cv (ix2 n k)) * w (ix3 i k j)) + b (ix2 i j)

theorem reference_apply (cv : S8x1024.Idx → EReal) (w : S2x1024x6144.Idx → EReal) (b : S2x6144.Idx → EReal) (i : Fin 2) (n : Fin 8) (j : Fin 6144) :
    val_main_v19 (F := Ideal) cv w b (ix3 i n j) = entry cv w b i n j := by
  unfold entry Cert.Silu.silu
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19]
  have hi : i = 0 ∨ i = 1 := by omega
  rcases hi with rfl | rfl
  · exact dif_pos (by decide)
  · exact dif_neg (by decide)

end Cert.Reference5Ideal.Mod

end
-- ==== Proof.Mod.Value.lean ====
/- The modulation call's result over the reals: block by block it is the reference's. -/
module

public import proofs.«01_k».proof.Pre_below5
public import proofs.«01_k».proof.Proof.Gen.Kernel5Ideal.Value
public import proofs.«01_k».proof.Proof.Gen.Reference5Ideal.Run
public import proofs.«01_k».proof.Proof.Mod.Reference
public import proofs.«01_k».proof.Proof.Attn.Pre
public import Idealize.ShloMosaic.Lib.Pipeline.ValueKit
public import Idealize.ShloMosaic.Lib.Pointwise
public import Idealize.ShloMosaic.Lib.WholeRead
public import Idealize.ShloMosaic.Lib.ValueLayout

@[expose] public section

set_option maxRecDepth 16384

noncomputable section

namespace Cert.Pre_below5

open Idealize.ShloMosaic

/-- The side conditions the predicate's operations take. -/
theorem facts : Facts where
  bcast_S_S8x1024 := by decide
  reducesTo_S8x1024_S_d0_1 := by decide
  h_S_ := by decide
  bcast_S_S2x1024x6144 := by decide
  reducesTo_S2x1024x6144_S_d0_1_2 := by decide

/-- An array all of whose entries pass the test has no entry that is infinity. -/
theorem all_below {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt x (broadcastInDim s ![] hb (constant S_ .f32 0x7F800000#32))) (constantI S_ 1 1#1) hr hu j = 1#1) (i : s.Idx) : x i ≠ ⊤ := by
  have h : BitVec.ofBool (decide (x i < Ideal.ofBits .f32 0x7F800000#32)) = 1#1 := Host.reduce_andi_all _ _ _ _ j e i
  rw [Cert.Pre_finite4.inf_word] at h
  refine ne_of_lt (of_decide_eq_true ?_)
  revert h
  generalize decide (x i < ⊤) = b
  revert b
  decide

/-- The precondition's meaning. -/
theorem below [Facts] (x0 : FVec Ideal S8x1024 .f32) (x1 : FVec Ideal S2x1024x6144 .f32) (x2 : FVec Ideal S2x6144 .f32)
    (h : fn (F := Ideal) x0 x1 x2 = fun _ => 1#1) : (∀ i, x0 i ≠ ⊤) ∧ ∀ i, x1 i ≠ ⊤ := by
  have j : S_.Idx := fun a => a.elim0
  have h2 := congrFun h j
  unfold fn at h2
  obtain ⟨e0, e1⟩ := Cert.Pre_finite4.and_split h2
  exact ⟨all_below _ _ _ _ j e0, all_below _ _ _ _ j e1⟩

end Cert.Pre_below5

namespace Cert.Kernel5Ideal.Mod

open Idealize.ShloMosaic Idealize.ShloMosaic.TcCoe Idealize.ShloMosaic.Tactic
open Idealize.SL Idealize.SL.Sem
open Idealize.ShloMosaic.Pipeline (Dat Cfg Window)
open Cert.Kernel5Ideal Cert.Kernel5Ideal.Gen Cert.Kernel5Ideal.Value

/-- Two indices agree when they agree on each axis. -/
theorem coords2 {i j : Fin 2 → ℕ} (h0 : i 0 = j 0) (h1 : i 1 = j 1) : ∀ a, i a = j a
  | 0 => h0
  | 1 => h1
theorem coords3 {i j : Fin 3 → ℕ} (h0 : i 0 = j 0) (h1 : i 1 = j 1) (h2 : i 2 = j 2) : ∀ a, i a = j a
  | ⟨0, _⟩ => h0
  | ⟨1, _⟩ => h1
  | ⟨2, _⟩ => h2

/-- What a point stores, at an index: the parts that the rounding leaves over add nothing. -/
theorem point_apply (cv : Vec Ideal S8x1024 .f32) (w : Vec Ideal S1x1024x1536 .f32) (b : Vec Ideal S1x1x1536 .f32)
    (hc : ∀ i, cv i ≠ ⊤) (hw : ∀ i, w i ≠ ⊤) (n : Fin 8) (j : Fin 1536) :
    k0_pay1 cv w b (ix3 (0 : Fin 1) n j)
      = (∑ k : Fin 1024, Cert.Silu.silu (cv (ix2 n k)) * w (ix3 (0 : Fin 1) k j)) + b (ix3 (0 : Fin 1) (0 : Fin 1) j) := by
  have hs : ∀ k : Fin 1024, Ideal.div (cv (ix2 n k)) (1 + Ideal.exp (0 - cv (ix2 n k))) = Cert.Silu.silu (cv (ix2 n k)) :=
    fun k => (Cert.Silu.div_eq _ (hc _)).1
  have hz : ∀ k : Fin 1024, Cert.Silu.silu (cv (ix2 n k)) - Cert.Silu.silu (cv (ix2 n k)) = 0 := fun k => by
    obtain ⟨s, hs⟩ := (Cert.Silu.div_eq _ (hc (ix2 n k))).2
    rw [hs]
    exact Cert.Silu.sub_self_coe s
  have hr : ∀ k : Fin 1024, Cert.Silu.silu (cv (ix2 n k)) * w (ix3 (0 : Fin 1) k j) + Cert.Silu.silu (cv (ix2 n k)) * (w (ix3 (0 : Fin 1) k j) - w (ix3 (0 : Fin 1) k j))
      = Cert.Silu.silu (cv (ix2 n k)) * w (ix3 (0 : Fin 1) k j) := fun k => by
    obtain ⟨s, hs⟩ := (Cert.Silu.div_eq _ (hc (ix2 n k))).2
    rw [hs]
    exact Cert.Silu.mul_add_rest s _ (hw _)
  pointwise [k0_pay1]
  simp only [hs, hz, zero_mul, Finset.sum_const_zero, zero_add]
  rw [← Finset.sum_add_distrib]
  simp only [hr]

variable (m : (ℓ : Loc nD τ sig) → Buf (Elt Ideal) ℓ) (ρ : Dev nD → PrngReg)

theorem point_lt (t : Fin cfg0.N) : t.val < 8 := Nat.lt_of_lt_of_eq t.isLt N_0

/-- Where each window's block lies at a point. -/
theorem index_0 : ∀ t : Fin cfg0.N, win0_0.index t = ![0, 0] := (by decide +kernel : ∀ t : Fin grid0.N, win0_0.index t = ![0, 0])
theorem index_1 : ∀ t : Fin cfg0.N, win0_1.index t = ![t.val / 4, 0, t.val % 4] := (by decide +kernel : ∀ t : Fin grid0.N, win0_1.index t = ![t.val / 4, 0, t.val % 4])
theorem index_2 : ∀ t : Fin cfg0.N, win0_2.index t = ![t.val / 4, 0, t.val % 4] := (by decide +kernel : ∀ t : Fin grid0.N, win0_2.index t = ![t.val / 4, 0, t.val % 4])
theorem index_3 : ∀ t : Fin cfg0.N, win0_3.index t = ![t.val / 4, 0, t.val % 4] := (by decide +kernel : ∀ t : Fin grid0.N, win0_3.index t = ![t.val / 4, 0, t.val % 4])

/-- The layer a point works on, and the array column of its column `p`. -/
def layer (t : Fin cfg0.N) : Fin 2 := ⟨t.val / 4, by have := point_lt t; omega⟩
def col (t : Fin cfg0.N) (p : Fin 1536) : Fin 6144 := ⟨1536 * (t.val % 4) + p.val, by omega⟩

/-- The blocks the windows bring in, at an index. -/
theorem block_0 (c : Dev nD) (t : Fin cfg0.N) (n : Fin 8) (k : Fin 1024) : iblk m c 0 t (ix2 n k) = m (c.tc.loc main_arg0) (ix2 n k) := by
  have ht := point_lt t
  blk_simp [iblk, V, index_0 t]
  blk_ext [index_0 t]
theorem block_1 (c : Dev nD) (t : Fin cfg0.N) (k : Fin 1024) (j : Fin 1536) : iblk m c 1 t (ix3 (0 : Fin 1) k j) = m (c.tc.loc main_arg1) (ix3 (layer t) k (col t j)) := by
  have ht := point_lt t
  unfold layer col
  blk_simp [iblk, V, index_1 t]
  blk_ext [index_1 t]
theorem block_2 (c : Dev nD) (t : Fin cfg0.N) (j : Fin 1536) : iblk m c 2 t (ix3 (0 : Fin 1) (0 : Fin 1) j) = m (c.tc.loc main_arg2) (ix2 (layer t) (col t j)) := by
  have ht := point_lt t
  unfold layer col
  blk_simp [iblk, V, index_2 t]
  entry_read
  pointwise
  try blk_ext [index_2 t]

/-- Where the output's block lies. -/
theorem place_3 (t : Fin cfg0.N) (n : Fin 8) (j : Fin 1536) : ((View.whole main_v1).slice (win0_3.rect t)).emb (ix3 (0 : Fin 1) n j) = ix3 (layer t) n (col t j) := by
  have ht := point_lt t
  unfold layer col
  blk_ext [index_3 t]

/-- The precondition, and the reference's result, at the arguments. -/
abbrev Below [Cert.Pre_below5.Facts] (c : Dev nD) : Prop := Cert.Pre_below5.fn (F := Ideal) (m (c.tc.loc main_arg0)) (m (c.tc.loc main_arg1)) (m (c.tc.loc main_arg2)) = fun _ => 1#1
abbrev result (c : Dev nD) := Cert.Reference5Ideal.Read.val_main_v19 (F := Ideal) (m (c.tc.loc main_arg0)) (m (c.tc.loc main_arg1)) (m (c.tc.loc main_arg2))

/-- What the points store is the reference's result. -/
theorem final_3 [Cert.Pre_below5.Facts] (c : Dev nD) (h : Below m c) : (dats m 0 c).arrAt 3 cfg0.N = result m c := by
  obtain ⟨h0, h1⟩ := Cert.Pre_below5.below _ _ _ h
  refine (dats m 0 c).arrAt_eq_of_covers 3 _ (by decide +kernel) fun t hf y => ?_
  blk_simp
  rw [after0_3]
  unfold out0_3
  idx_vars y
  obtain rfl : y0 = 0 := Subsingleton.elim _ _
  rw [place_3]
  refine Eq.trans ?_ (Cert.Reference5Ideal.Mod.reference_apply _ _ _ (layer t) y1 (col t y2)).symm
  have hi : (ix3 (0 : Fin 1) y1 y2 : S1x8x1536.Idx) = r0_3.emb (ix3 (0 : Fin 1) y1 y2) := by
    refine funext fun a => Fin.ext ?_
    match a with
    | ⟨0, _⟩ => rfl
    | ⟨1, _⟩ => show y1.val = 0 + 1 * y1.val; omega
    | ⟨2, _⟩ => show y2.val = 0 + 1 * y2.val; omega
  have l0 : ∀ i, View.ld (iblk m c 0 t) r0_0 i = m (c.tc.loc main_arg0) i := fun i => by
    idx_vars i
    exact (View.ld_unit_apply_of _ _ _ _ _ (ix2 i0 i1) (coords2 (Nat.zero_add _).symm (Nat.zero_add _).symm)).trans (block_0 m c t i0 i1)
  have l1 : ∀ (k : Fin 1024) (j : Fin 1536), View.ld (iblk m c 1 t) r0_1 (ix3 (0 : Fin 1) k j) = m (c.tc.loc main_arg1) (ix3 (layer t) k (col t j)) := fun k j =>
    (View.ld_unit_apply_of _ _ _ _ _ (ix3 (0 : Fin 1) k j) (coords3 rfl (Nat.zero_add _).symm (Nat.zero_add _).symm)).trans (block_1 m c t k j)
  have l2 : ∀ j : Fin 1536, View.ld (iblk m c 2 t) r0_2 (ix3 (0 : Fin 1) (0 : Fin 1) j) = m (c.tc.loc main_arg2) (ix2 (layer t) (col t j)) := fun j =>
    (View.ld_unit_apply_of _ _ _ _ _ (ix3 (0 : Fin 1) (0 : Fin 1) j) (coords3 rfl rfl (Nat.zero_add _).symm)).trans (block_2 m c t j)
  have p := point_apply (View.ld (iblk m c 0 t) r0_0) (View.ld (iblk m c 1 t) r0_1) (View.ld (iblk m c 2 t) r0_2)
    (fun i => (l0 i).trans_ne (h0 i))
    (fun i => by
      idx_vars i
      obtain rfl : i0 = 0 := Subsingleton.elim _ _
      exact (l1 i1 i2).trans_ne (h1 _)) y1 y2
  conv_lhs => rw [hi]
  refine (View.canon_cons_emb ..).trans (p.trans ?_)
  unfold Cert.Reference5Ideal.Mod.entry
  simp only [l0, l1, l2]

/-- The run with the value of its result. -/
theorem run_value [Cert.Pre_below5.Facts] (h : ∀ c : Dev nD, Below m c) :
    θ_run defs (onTc (τ := τ) (main (F := Ideal))) ⟨m, fun _ => 0, ρ⟩ (fun r => ∀ c : Dev nD, r.2.mem ((c.tc : Thread nD τ).loc main_v1) = result m c) :=
  (θ_run defs _ _).mono (fun _ hr c => (hr c).1.trans (final_3 m c (h c))) (run_blocks m ρ)

end Cert.Kernel5Ideal.Mod

end
-- ==== Proof.lean ====
/- The certificate. The context projection's run and values are in `Proof/Ctx`, the mixer call's values in `Proof/Mix`,
   the pooling call's in `Proof/Pool`, the attention call's in `Proof/Attn`, the modulation call's in `Proof/Mod`; the references are host code, and their runs and their operations' values at an
   index are the generated modules'. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Ctx.Value
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2Ideal
public import proofs.«01_k».proof.Proof.Gen.Reference2Ideal
public import proofs.«01_k».proof.Proof.Mix.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Pool.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel4
public import proofs.«01_k».proof.Proof.Gen.Kernel4Ideal
public import proofs.«01_k».proof.Proof.Gen.Reference4Ideal
public import proofs.«01_k».proof.Proof.Attn.Value
public import proofs.«01_k».proof.Proof.Mod.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## The context projection (`Kernel`, `KernelIdeal`, `ReferenceIdeal`) -/

/-- The two programs' body tables are the same text, so the same table. -/
theorem bodies_eq : Cert.Kernel.defs₀ (F := Bits) = Cert.KernelIdeal.defs₀ (F := Bits) := by
  unfold Cert.Kernel.defs₀ Cert.KernelIdeal.defs₀
  congr 1
  funext x
  fin_cases x
  rfl
theorem defs_eq : Cert.Kernel.defs (F := Bits) = Cert.KernelIdeal.defs (F := Bits) := by
  unfold Cert.Kernel.defs Cert.KernelIdeal.defs
  rw [bodies_eq]
  rfl

theorem frame_kernel : Cert.quiescent_Kernel (hKernel := Cert.Kernel.Gen.facts) := fun m ρ _ => by
  rw [defs_eq]
  exact Cert.KernelIdeal.Ctx.frame_main (F := Bits) m ρ

theorem frame_kernelIdeal : Cert.quiescent_KernelIdeal (hKernelIdeal := Cert.KernelIdeal.Gen.facts) := fun m ρ _ =>
  Cert.KernelIdeal.Ctx.frame_main (F := Ideal) m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

theorem value_kernel : Cert.algebraic_KernelIdeal_ReferenceIdeal
    (hKernelIdeal := Cert.KernelIdeal.Gen.facts) (hReferenceIdeal := Cert.ReferenceIdeal.Gen.facts) := fun m ρ m' ρ' _ hagree =>
  ⟨_, _,
    (θ_run Cert.KernelIdeal.defs _ _).mono (fun _ h c => ⟨(h.1 c).1, (h.1 c).2, h.2.1 c⟩)
      (θ_run_and (Cert.KernelIdeal.Ctx.run_value m ρ) (Cert.KernelIdeal.Ctx.frame_main m ρ)),
    (θ_run Cert.ReferenceIdeal.defs _ _).mono
      (fun _ h c => by
        obtain ⟨h0, h1, h2, h3, h4⟩ := hagree c
        refine ⟨(h c).1.trans ((Cert.ReferenceIdeal.Read.val_main_v40_eq (F := Ideal) _ _ _ _ _).trans ?_),
          (h c).2.1.trans ((Cert.ReferenceIdeal.Read.val_main_v42_eq (F := Ideal) _ _ _ _ _).trans ?_), (h c).2.2⟩ <;>
        rw [h0, h1, h2, h3, h4])
      (Cert.ReferenceIdeal.Value.run (F := Ideal) m' ρ')⟩

/-! ## The mixers' output projection and the first MLP (`Kernel2`, `Kernel2Ideal`, `Reference2Ideal`) -/

theorem frame_kernel2 : Cert.quiescent_Kernel2 (hKernel2 := Cert.Kernel2.Gen.facts) := fun m ρ _ => Cert.Kernel2.Gen.frame m ρ

theorem frame_kernel2Ideal : Cert.quiescent_Kernel2Ideal (hKernel2Ideal := Cert.Kernel2Ideal.Gen.facts) := fun m ρ _ => Cert.Kernel2Ideal.Gen.frame m ρ

theorem frame_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

theorem value_kernel2 : Cert.algebraic_Kernel2Ideal_Reference2Ideal
    (hKernel2Ideal := Cert.Kernel2Ideal.Gen.facts) (hReference2Ideal := Cert.Reference2Ideal.Gen.facts) := fun m ρ m' ρ' _ hagree =>
  ⟨_,
    (θ_run Cert.Kernel2Ideal.defs _ _).mono (fun _ h c => ⟨h.1 c, h.2.1 c⟩)
      (θ_run_and (Cert.Kernel2Ideal.Mix.run_value m ρ) (Cert.Kernel2Ideal.Gen.frame m ρ)),
    (θ_run Cert.Reference2Ideal.defs _ _).mono
      (fun _ h c => by
        obtain ⟨h0, h1, h2, h3, h4, h5, h6, h7, h8⟩ := hagree c
        refine ⟨(h c).1.trans ((Cert.Reference2Ideal.Read.val_main_v55_eq (F := Ideal) _ _).trans ?_), (h c).2⟩
        rw [h0, h1, h2, h3, h4, h5, h6, h7, h8])
      (Cert.Reference2Ideal.Value.run (F := Ideal) m' ρ')⟩

/-! ## The pooling mixer with the second MLP (`Kernel3`, `Kernel3Ideal`, `Reference3Ideal`) -/

theorem frame_kernel3 : Cert.quiescent_Kernel3 (hKernel3 := Cert.Kernel3.Gen.facts) := fun m ρ _ => Cert.Kernel3.Gen.frame m ρ

theorem frame_kernel3Ideal : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

theorem value_kernel3 : Cert.algebraic_Kernel3Ideal_Reference3Ideal
    (hKernel3Ideal := Cert.Kernel3Ideal.Gen.facts) (hReference3Ideal := Cert.Reference3Ideal.Gen.facts) := fun m ρ m' ρ' _ hagree =>
  ⟨_,
    (θ_run Cert.Kernel3Ideal.defs _ _).mono (fun _ h c => ⟨h.1 c, h.2.1 c⟩)
      (θ_run_and (Cert.Kernel3Ideal.Pool.run_value m ρ) (Cert.Kernel3Ideal.Gen.frame m ρ)),
    (θ_run Cert.Reference3Ideal.defs _ _).mono
      (fun _ h c => by
        obtain ⟨h0, h1, h2, h3, h4, h5, h6, h7, h8⟩ := hagree c
        refine ⟨(h c).1.trans ((Cert.Reference3Ideal.Read.val_main_v224_eq (F := Ideal) _).trans ?_), (h c).2⟩
        change Cert.Reference3Ideal.Read.val_main_v224 (F := Ideal)
            (m' (c.tc.loc Cert.Reference3Ideal.main_arg0))
            (m' (c.tc.loc Cert.Reference3Ideal.main_arg1))
            (m' (c.tc.loc Cert.Reference3Ideal.main_arg2))
            (m' (c.tc.loc Cert.Reference3Ideal.main_arg3))
            (m' (c.tc.loc Cert.Reference3Ideal.main_arg4))
            (m' (c.tc.loc Cert.Reference3Ideal.main_arg5))
            (m' (c.tc.loc Cert.Reference3Ideal.main_arg6))
            (m' (c.tc.loc Cert.Reference3Ideal.main_arg7))
            (m' (c.tc.loc Cert.Reference3Ideal.main_arg8)) = _
        rw [h0, h1, h2, h3, h4, h5, h6, h7, h8])
      (Cert.Reference3Ideal.Value.run (F := Ideal) m' ρ')⟩

/-! ## The differential attention (`Kernel4`, `Kernel4Ideal`, `Reference4Ideal`) -/

theorem frame_kernel4 : Cert.quiescent_Kernel4 (hKernel4 := Cert.Kernel4.Gen.facts) := fun m ρ _ => Cert.Kernel4.Gen.frame m ρ

theorem frame_kernel4Ideal : Cert.quiescent_Kernel4Ideal (hKernel4Ideal := Cert.Kernel4Ideal.Gen.facts) := fun m ρ _ => Cert.Kernel4Ideal.Gen.frame m ρ

theorem frame_kernel4Ideal_pre : Cert.quiescent_Kernel4Ideal_pre_finite4 (hKernel4Ideal := Cert.Kernel4Ideal.Gen.facts) (hPre_finite4 := Cert.Pre_finite4.facts) := fun m ρ _ => Cert.Kernel4Ideal.Gen.frame m ρ

theorem frame_reference4 : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

theorem frame_reference4_pre : Cert.quiescent_Reference4Ideal_pre_finite4 (hReference4Ideal := Cert.Reference4Ideal.Gen.facts) (hPre_finite4 := Cert.Pre_finite4.facts) := fun m ρ _ =>
  (θ_run Cert.Reference4Ideal.defs _ _).mono
    (fun r h => ⟨fun c => (h c).2, sem_eq_zero_of_no_sems (by decide) r.2⟩) (Cert.Reference4Ideal.Value.run (F := Ideal) m ρ)

theorem value_kernel4 : Cert.algebraic_Kernel4Ideal_Reference4Ideal_pre_finite4
    (hKernel4Ideal := Cert.Kernel4Ideal.Gen.facts) (hReference4Ideal := Cert.Reference4Ideal.Gen.facts) (hPre_finite4 := Cert.Pre_finite4.facts) := fun m ρ m' ρ' hpre hagree =>
  ⟨_,
    (θ_run Cert.Kernel4Ideal.defs _ _).mono (fun _ h c => ⟨h.1 c, h.2.1 c⟩)
      (θ_run_and (letI := Cert.Pre_finite4.facts; Cert.Kernel4Ideal.Attn.run_value m ρ hpre) (Cert.Kernel4Ideal.Gen.frame m ρ)),
    (θ_run Cert.Reference4Ideal.defs _ _).mono
      (fun _ h c => by
        obtain ⟨h0, h1, h2, h3, h4, h5, h6, h7, h8, h9⟩ := hagree c
        refine ⟨(h c).1.trans ((Cert.Reference4Ideal.Read.val_main_v57_eq (F := Ideal) m' c).trans ?_), (h c).2⟩
        change Cert.Reference4Ideal.Read.val_main_v57 (F := Ideal)
            (m' (c.tc.loc Cert.Reference4Ideal.main_arg0))
            (m' (c.tc.loc Cert.Reference4Ideal.main_arg1))
            (m' (c.tc.loc Cert.Reference4Ideal.main_arg2))
            (m' (c.tc.loc Cert.Reference4Ideal.main_arg3))
            (m' (c.tc.loc Cert.Reference4Ideal.main_arg4))
            (m' (c.tc.loc Cert.Reference4Ideal.main_arg5))
            (m' (c.tc.loc Cert.Reference4Ideal.main_arg6))
            (m' (c.tc.loc Cert.Reference4Ideal.main_arg7))
            (m' (c.tc.loc Cert.Reference4Ideal.main_arg8))
            (m' (c.tc.loc Cert.Reference4Ideal.main_arg9)) = _
        rw [h0, h1, h2, h3, h4, h5, h6, h7, h8, h9])
      (Cert.Reference4Ideal.Value.run (F := Ideal) m' ρ')⟩

/-! ## The modulation (`Kernel5`, `Kernel5Ideal`, `Reference5Ideal`) -/

theorem frame_kernel5 : Cert.quiescent_Kernel5 (hKernel5 := Cert.Kernel5.Gen.facts) := fun m ρ _ => Cert.Kernel5.Gen.frame m ρ

theorem frame_kernel5Ideal : Cert.quiescent_Kernel5Ideal (hKernel5Ideal := Cert.Kernel5Ideal.Gen.facts) := fun m ρ _ => Cert.Kernel5Ideal.Gen.frame m ρ

theorem frame_kernel5Ideal_pre : Cert.quiescent_Kernel5Ideal_pre_below5 (hKernel5Ideal := Cert.Kernel5Ideal.Gen.facts) (hPre_below5 := Cert.Pre_below5.facts) := fun m ρ _ => Cert.Kernel5Ideal.Gen.frame m ρ

theorem frame_reference5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

theorem frame_reference5_pre : Cert.quiescent_Reference5Ideal_pre_below5 (hReference5Ideal := Cert.Reference5Ideal.Gen.facts) (hPre_below5 := Cert.Pre_below5.facts) := fun m ρ _ =>
  (θ_run Cert.Reference5Ideal.defs _ _).mono
    (fun r h => ⟨fun c => (h c).2, sem_eq_zero_of_no_sems (by decide) r.2⟩) (Cert.Reference5Ideal.Value.run (F := Ideal) m ρ)

theorem value_kernel5 : Cert.algebraic_Kernel5Ideal_Reference5Ideal_pre_below5
    (hKernel5Ideal := Cert.Kernel5Ideal.Gen.facts) (hReference5Ideal := Cert.Reference5Ideal.Gen.facts) (hPre_below5 := Cert.Pre_below5.facts) := fun m ρ m' ρ' hpre hagree =>
  ⟨_,
    (θ_run Cert.Kernel5Ideal.defs _ _).mono (fun _ h c => ⟨h.1 c, h.2.1 c⟩)
      (θ_run_and (letI := Cert.Pre_below5.facts; Cert.Kernel5Ideal.Mod.run_value m ρ hpre) (Cert.Kernel5Ideal.Gen.frame m ρ)),
    (θ_run Cert.Reference5Ideal.defs _ _).mono
      (fun _ h c => by
        obtain ⟨h0, h1, h2⟩ := hagree c
        refine ⟨(h c).1.trans ((Cert.Reference5Ideal.Read.val_main_v19_eq (F := Ideal) _ _ _).trans ?_), (h c).2⟩
        rw [h0, h1, h2])
      (Cert.Reference5Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite4.facts, Cert.Pre_below5.facts,
    frame_kernel, frame_kernelIdeal, frame_reference, frame_kernel2, frame_kernel2Ideal, frame_reference2,
    frame_kernel3, frame_kernel3Ideal, frame_reference3,
    frame_kernel4, frame_kernel4Ideal, frame_kernel4Ideal_pre, frame_reference4, frame_reference4_pre,
    frame_kernel5, frame_kernel5Ideal, frame_kernel5Ideal_pre, frame_reference5, frame_reference5_pre,
    trivial, value_kernel, trivial, value_kernel2, trivial, value_kernel3, trivial, value_kernel4, trivial, value_kernel5⟩

end Cert.Proof

end
